-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![8192, 8192]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 8192]⟩ ⟨2, ![2048, 8192]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S512x8192 : Shape := ⟨2, ![512, 8192]⟩
abbrev S3x4x512x512 : Shape := ⟨4, ![3, 4, 512, 512]⟩
abbrev S4x512x512 : Shape := ⟨3, ![4, 512, 512]⟩
abbrev S2x512x512 : Shape := ⟨3, ![2, 512, 512]⟩
abbrev S2x256x2048 : Shape := ⟨3, ![2, 256, 2048]⟩
abbrev S2x3x4 : Shape := ⟨3, ![2, 3, 4]⟩
abbrev S3x4 : Shape := ⟨2, ![3, 4]⟩
abbrev S2 : Shape := ⟨1, ![2]⟩
abbrev S2x2 : Shape := ⟨2, ![2, 2]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S2048x512 : Shape := ⟨2, ![2048, 512]⟩
abbrev S512x2048 : Shape := ⟨2, ![512, 2048]⟩
abbrev S1x1x1 : Shape := ⟨3, ![1, 1, 1]⟩
abbrev S1x1x512x512 : Shape := ⟨4, ![1, 1, 512, 512]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S512x8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S3x4x512x512, .bf16⟩
  | .local _ .vmem, ⟨4, _⟩ => ⟨S3x4x512x512, .bf16⟩
  | .local _ .vmem, ⟨5, _⟩ => ⟨S4x512x512, .bf16⟩
  | .local _ .vmem, ⟨6, _⟩ => ⟨S4x512x512, .bf16⟩
  | .local _ .vmem, ⟨7, _⟩ => ⟨S4x512x512, .bf16⟩
  | .local _ .vmem, ⟨8, _⟩ => ⟨S2x512x512, .f32⟩
  | .local _ .vmem, ⟨9, _⟩ => ⟨S2x256x2048, .f32⟩
  | .local _ .vmem, ⟨10, _⟩ => ⟨S2x256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_15 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v13 : BitVec 32 := Scalar.muli v10 c2048_i32
  ![0, v13.toNat]
def k0_off2 (d0 : Dev nD) : Fin 2 → Nat :=
  let c256_i32_28 : BitVec 32 := 256#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_16 : BitVec 32 := 2048#32
  let v24 : BitVec 32 := Scalar.muli v10 c2048_i32_16
  ![256, v24.toNat]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let v36 : BitVec 32 := Scalar.extui v11
  let c0_i32_29 : BitVec 32 := 0#32
  let v37 : BitVec 1 := Scalar.cmpi .ne v36 c0_i32_29
  v37

def k0_dev1 (d0 : Dev nD) : Nat :=
  let c0_i32_1339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1338 : BitVec 32 := 8#32
  let v1435 : BitVec 32 := Scalar.muli v2 c8_i32_1338
  let v1436 : BitVec 32 := Scalar.addi c0_i32_1339 v1435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1340 : BitVec 32 := 4#32
  let v1437 : BitVec 32 := Scalar.muli v5 c4_i32_1340
  let v1438 : BitVec 32 := Scalar.addi v1436 v1437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1341 : BitVec 32 := 1#32
  let v1439 : BitVec 32 := Scalar.muli v1434 c1_i32_1341
  let v1440 : BitVec 32 := Scalar.addi v1438 v1439
  v1440.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v38 : BitVec 32 := Scalar.extui v12
  let c0_i32_30 : BitVec 32 := 0#32
  let v39 : BitVec 1 := Scalar.cmpi .ne v38 c0_i32_30
  v39

def k0_dev2 (d0 : Dev nD) : Nat :=
  let c0_i32_1339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1338 : BitVec 32 := 8#32
  let v1435 : BitVec 32 := Scalar.muli v2 c8_i32_1338
  let v1436 : BitVec 32 := Scalar.addi c0_i32_1339 v1435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1340 : BitVec 32 := 4#32
  let v1437 : BitVec 32 := Scalar.muli v5 c4_i32_1340
  let v1438 : BitVec 32 := Scalar.addi v1436 v1437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1341 : BitVec 32 := 1#32
  let v1439 : BitVec 32 := Scalar.muli v1434 c1_i32_1341
  let v1440 : BitVec 32 := Scalar.addi v1438 v1439
  v1440.toNat
def k0_dev3 (d0 : Dev nD) : Nat :=
  let c0_i32_34 : BitVec 32 := 0#32
  let c1_i32_31 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_31 v2
  let c8_i32_33 : BitVec 32 := 8#32
  let v41 : BitVec 32 := Scalar.muli v40 c8_i32_33
  let v42 : BitVec 32 := Scalar.addi c0_i32_34 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v43 : BitVec 32 := Scalar.muli v5 c4_i32_35
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v45 : BitVec 32 := Scalar.muli v8 c1_i32_36
  let v46 : BitVec 32 := Scalar.addi v44 v45
  v46.toNat
def k0_dev4 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v48 : BitVec 32 := Scalar.muli v2 c8_i32_39
  let v49 : BitVec 32 := Scalar.addi c0_i32_40 v48
  let c1_i32_37 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.subi c1_i32_37 v5
  let c4_i32_41 : BitVec 32 := 4#32
  let v50 : BitVec 32 := Scalar.muli v47 c4_i32_41
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v52 : BitVec 32 := Scalar.muli v8 c1_i32_42
  let v53 : BitVec 32 := Scalar.addi v51 v52
  v53.toNat
def k0_amt1 (d0 : Dev nD) : BitVec 32 :=
  let c2_i32_43 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let v54 : BitVec 32 := Scalar.extui v11
  let v55 : BitVec 32 := Scalar.addi c2_i32_43 v54
  let c0_i32 : BitVec 32 := 0#32
  let v12 : BitVec 1 := Scalar.cmpi .sgt v8 c0_i32
  let v56 : BitVec 32 := Scalar.extui v12
  let v57 : BitVec 32 := Scalar.addi v55 v56
  v57

def k0_off3 (d0 : Dev nD) : Fin 2 → Nat :=
  let c512_i32_79 : BitVec 32 := 512#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_67 : BitVec 32 := 2048#32
  let v81 : BitVec 32 := Scalar.muli v10 c2048_i32_67
  ![512, v81.toNat]
def k0_off4 (d0 : Dev nD) : Fin 2 → Nat :=
  let c768_i32_114 : BitVec 32 := 768#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_102 : BitVec 32 := 2048#32
  let v115 : BitVec 32 := Scalar.muli v10 c2048_i32_102
  ![768, v115.toNat]
def k0_off5 (d0 : Dev nD) : Fin 2 → Nat :=
  let c1024_i32_150 : BitVec 32 := 1024#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_138 : BitVec 32 := 2048#32
  let v149 : BitVec 32 := Scalar.muli v10 c2048_i32_138
  ![1024, v149.toNat]
def k0_off6 (d0 : Dev nD) : Fin 2 → Nat :=
  let c1280_i32_186 : BitVec 32 := 1280#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_174 : BitVec 32 := 2048#32
  let v183 : BitVec 32 := Scalar.muli v10 c2048_i32_174
  ![1280, v183.toNat]
def k0_off7 (d0 : Dev nD) : Fin 2 → Nat :=
  let c1536_i32_222 : BitVec 32 := 1536#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_210 : BitVec 32 := 2048#32
  let v217 : BitVec 32 := Scalar.muli v10 c2048_i32_210
  ![1536, v217.toNat]
def k0_off8 (d0 : Dev nD) : Fin 2 → Nat :=
  let c1792_i32_258 : BitVec 32 := 1792#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_246 : BitVec 32 := 2048#32
  let v251 : BitVec 32 := Scalar.muli v10 c2048_i32_246
  ![1792, v251.toNat]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_322 : BitVec 32 := 0#32
  let v326 : BitVec 1 := Scalar.cmpi .sle v8 c0_i32_322
  let v327 : BitVec 1 := Scalar.andi v11 v326
  let v328 : BitVec 32 := Scalar.extui v327
  let c0_i32_323 : BitVec 32 := 0#32
  let v329 : BitVec 1 := Scalar.cmpi .ne v328 c0_i32_323
  v329

def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_318 : BitVec 32 := 3#32
  let v322 : BitVec 32 := Scalar.addi v8 c3_i32_318
  let c0_i32_319 : BitVec 32 := 0#32
  let v323 : BitVec 32 := Scalar.subi v322 c0_i32_319
  let c512_i32_1337 : BitVec 32 := 512#32
  let v1435 : BitVec 32 := Scalar.muli v323 c512_i32_1337
  let c0_i32_1352 : BitVec 32 := 0#32
  ![v1435.toNat, 0]
def k0_dev5 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_324 : BitVec 32 := 3#32
  let v330 : BitVec 32 := Scalar.subi c3_i32_324 v8
  let c0_i32_325 : BitVec 32 := 0#32
  let v331 : BitVec 1 := Scalar.cmpi .sle v330 c0_i32_325
  let v332 : BitVec 1 := Scalar.andi v12 v331
  let v333 : BitVec 32 := Scalar.extui v332
  let c0_i32_326 : BitVec 32 := 0#32
  let v334 : BitVec 1 := Scalar.cmpi .ne v333 c0_i32_326
  v334

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_320 : BitVec 32 := 3#32
  let v324 : BitVec 32 := Scalar.subi v8 c3_i32_320
  let c0_i32_321 : BitVec 32 := 0#32
  let v325 : BitVec 32 := Scalar.addi v324 c0_i32_321
  let c512_i32_1337 : BitVec 32 := 512#32
  let v1435 : BitVec 32 := Scalar.muli v325 c512_i32_1337
  let c0_i32_1352 : BitVec 32 := 0#32
  ![v1435.toNat, 0]
def k0_dev6 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_331 : BitVec 32 := 0#32
  let v339 : BitVec 1 := Scalar.cmpi .sle v8 c0_i32_331
  let v340 : BitVec 1 := Scalar.andi v11 v339
  let v341 : BitVec 32 := Scalar.extui v340
  let c0_i32_332 : BitVec 32 := 0#32
  let v342 : BitVec 1 := Scalar.cmpi .ne v341 c0_i32_332
  v342

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_327 : BitVec 32 := 3#32
  let v335 : BitVec 32 := Scalar.addi v8 c3_i32_327
  let c0_i32_328 : BitVec 32 := 0#32
  let v336 : BitVec 32 := Scalar.subi v335 c0_i32_328
  let c512_i32_1337 : BitVec 32 := 512#32
  let v1435 : BitVec 32 := Scalar.muli v336 c512_i32_1337
  let c512_i32_1352 : BitVec 32 := 512#32
  ![v1435.toNat, 512]
def k0_dev7 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_333 : BitVec 32 := 3#32
  let v343 : BitVec 32 := Scalar.subi c3_i32_333 v8
  let c0_i32_334 : BitVec 32 := 0#32
  let v344 : BitVec 1 := Scalar.cmpi .sle v343 c0_i32_334
  let v345 : BitVec 1 := Scalar.andi v12 v344
  let v346 : BitVec 32 := Scalar.extui v345
  let c0_i32_335 : BitVec 32 := 0#32
  let v347 : BitVec 1 := Scalar.cmpi .ne v346 c0_i32_335
  v347

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_329 : BitVec 32 := 3#32
  let v337 : BitVec 32 := Scalar.subi v8 c3_i32_329
  let c0_i32_330 : BitVec 32 := 0#32
  let v338 : BitVec 32 := Scalar.addi v337 c0_i32_330
  let c512_i32_1337 : BitVec 32 := 512#32
  let v1435 : BitVec 32 := Scalar.muli v338 c512_i32_1337
  let c512_i32_1352 : BitVec 32 := 512#32
  ![v1435.toNat, 512]
def k0_dev8 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_340 : BitVec 32 := 0#32
  let v352 : BitVec 1 := Scalar.cmpi .sle v8 c0_i32_340
  let v353 : BitVec 1 := Scalar.andi v11 v352
  let v354 : BitVec 32 := Scalar.extui v353
  let c0_i32_341 : BitVec 32 := 0#32
  let v355 : BitVec 1 := Scalar.cmpi .ne v354 c0_i32_341
  v355

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_336 : BitVec 32 := 3#32
  let v348 : BitVec 32 := Scalar.addi v8 c3_i32_336
  let c0_i32_337 : BitVec 32 := 0#32
  let v349 : BitVec 32 := Scalar.subi v348 c0_i32_337
  let c512_i32_1337 : BitVec 32 := 512#32
  let v1435 : BitVec 32 := Scalar.muli v349 c512_i32_1337
  let c1024_i32_1352 : BitVec 32 := 1024#32
  ![v1435.toNat, 1024]
def k0_dev9 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_342 : BitVec 32 := 3#32
  let v356 : BitVec 32 := Scalar.subi c3_i32_342 v8
  let c0_i32_343 : BitVec 32 := 0#32
  let v357 : BitVec 1 := Scalar.cmpi .sle v356 c0_i32_343
  let v358 : BitVec 1 := Scalar.andi v12 v357
  let v359 : BitVec 32 := Scalar.extui v358
  let c0_i32_344 : BitVec 32 := 0#32
  let v360 : BitVec 1 := Scalar.cmpi .ne v359 c0_i32_344
  v360

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_338 : BitVec 32 := 3#32
  let v350 : BitVec 32 := Scalar.subi v8 c3_i32_338
  let c0_i32_339 : BitVec 32 := 0#32
  let v351 : BitVec 32 := Scalar.addi v350 c0_i32_339
  let c512_i32_1337 : BitVec 32 := 512#32
  let v1435 : BitVec 32 := Scalar.muli v351 c512_i32_1337
  let c1024_i32_1352 : BitVec 32 := 1024#32
  ![v1435.toNat, 1024]
def k0_dev10 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_349 : BitVec 32 := 0#32
  let v365 : BitVec 1 := Scalar.cmpi .sle v8 c0_i32_349
  let v366 : BitVec 1 := Scalar.andi v11 v365
  let v367 : BitVec 32 := Scalar.extui v366
  let c0_i32_350 : BitVec 32 := 0#32
  let v368 : BitVec 1 := Scalar.cmpi .ne v367 c0_i32_350
  v368

def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_345 : BitVec 32 := 3#32
  let v361 : BitVec 32 := Scalar.addi v8 c3_i32_345
  let c0_i32_346 : BitVec 32 := 0#32
  let v362 : BitVec 32 := Scalar.subi v361 c0_i32_346
  let c512_i32_1337 : BitVec 32 := 512#32
  let v1435 : BitVec 32 := Scalar.muli v362 c512_i32_1337
  let c1536_i32_1352 : BitVec 32 := 1536#32
  ![v1435.toNat, 1536]
def k0_dev11 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_351 : BitVec 32 := 3#32
  let v369 : BitVec 32 := Scalar.subi c3_i32_351 v8
  let c0_i32_352 : BitVec 32 := 0#32
  let v370 : BitVec 1 := Scalar.cmpi .sle v369 c0_i32_352
  let v371 : BitVec 1 := Scalar.andi v12 v370
  let v372 : BitVec 32 := Scalar.extui v371
  let c0_i32_353 : BitVec 32 := 0#32
  let v373 : BitVec 1 := Scalar.cmpi .ne v372 c0_i32_353
  v373

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_347 : BitVec 32 := 3#32
  let v363 : BitVec 32 := Scalar.subi v8 c3_i32_347
  let c0_i32_348 : BitVec 32 := 0#32
  let v364 : BitVec 32 := Scalar.addi v363 c0_i32_348
  let c512_i32_1337 : BitVec 32 := 512#32
  let v1435 : BitVec 32 := Scalar.muli v364 c512_i32_1337
  let c1536_i32_1352 : BitVec 32 := 1536#32
  ![v1435.toNat, 1536]
def k0_dev12 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_374 : BitVec 32 := 1#32
  let v394 : BitVec 32 := Scalar.subi v8 c1_i32_374
  let c0_i32_375 : BitVec 32 := 0#32
  let v395 : BitVec 1 := Scalar.cmpi .sle v394 c0_i32_375
  let v396 : BitVec 1 := Scalar.andi v12 v395
  let v397 : BitVec 32 := Scalar.extui v396
  let c0_i32_376 : BitVec 32 := 0#32
  let v398 : BitVec 1 := Scalar.cmpi .ne v397 c0_i32_376
  v398

def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c0_i32_1353 : BitVec 32 := 0#32
  let v1446 : BitVec 32 := Scalar.subi v1445 c0_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_377 : BitVec 32 := 2#32
  let v399 : BitVec 32 := Scalar.subi c2_i32_377 v8
  let c0_i32_378 : BitVec 32 := 0#32
  let v400 : BitVec 1 := Scalar.cmpi .sle v399 c0_i32_378
  let v401 : BitVec 1 := Scalar.andi v11 v400
  let v402 : BitVec 32 := Scalar.extui v401
  let c0_i32_379 : BitVec 32 := 0#32
  let v403 : BitVec 1 := Scalar.cmpi .ne v402 c0_i32_379
  v403

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c0_i32_1353 : BitVec 32 := 0#32
  let v1446 : BitVec 32 := Scalar.addi v1445 c0_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_384 : BitVec 32 := 1#32
  let v408 : BitVec 1 := Scalar.cmpi .sle v8 c1_i32_384
  let v409 : BitVec 1 := Scalar.andi v11 v408
  let v410 : BitVec 32 := Scalar.extui v409
  let c0_i32_385 : BitVec 32 := 0#32
  let v411 : BitVec 1 := Scalar.cmpi .ne v410 c0_i32_385
  v411

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_380 : BitVec 32 := 3#32
  let v404 : BitVec 32 := Scalar.addi v8 c3_i32_380
  let c1_i32_381 : BitVec 32 := 1#32
  let v405 : BitVec 32 := Scalar.subi v404 c1_i32_381
  let c512_i32_1337 : BitVec 32 := 512#32
  let v1435 : BitVec 32 := Scalar.muli v405 c512_i32_1337
  let c0_i32_1352 : BitVec 32 := 0#32
  ![v1435.toNat, 0]
def k0_dev13 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_386 : BitVec 32 := 3#32
  let v412 : BitVec 32 := Scalar.subi c3_i32_386 v8
  let c1_i32_387 : BitVec 32 := 1#32
  let v413 : BitVec 1 := Scalar.cmpi .sle v412 c1_i32_387
  let v414 : BitVec 1 := Scalar.andi v12 v413
  let v415 : BitVec 32 := Scalar.extui v414
  let c0_i32_388 : BitVec 32 := 0#32
  let v416 : BitVec 1 := Scalar.cmpi .ne v415 c0_i32_388
  v416

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_382 : BitVec 32 := 3#32
  let v406 : BitVec 32 := Scalar.subi v8 c3_i32_382
  let c1_i32_383 : BitVec 32 := 1#32
  let v407 : BitVec 32 := Scalar.addi v406 c1_i32_383
  let c512_i32_1337 : BitVec 32 := 512#32
  let v1435 : BitVec 32 := Scalar.muli v407 c512_i32_1337
  let c0_i32_1352 : BitVec 32 := 0#32
  ![v1435.toNat, 0]
def k0_dev14 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_389 : BitVec 32 := 1#32
  let v417 : BitVec 32 := Scalar.subi v8 c1_i32_389
  let c0_i32_390 : BitVec 32 := 0#32
  let v418 : BitVec 1 := Scalar.cmpi .sle v417 c0_i32_390
  let v419 : BitVec 1 := Scalar.andi v12 v418
  let v420 : BitVec 32 := Scalar.extui v419
  let c0_i32_391 : BitVec 32 := 0#32
  let v421 : BitVec 1 := Scalar.cmpi .ne v420 c0_i32_391
  v421

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c0_i32_1353 : BitVec 32 := 0#32
  let v1446 : BitVec 32 := Scalar.subi v1445 c0_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_392 : BitVec 32 := 2#32
  let v422 : BitVec 32 := Scalar.subi c2_i32_392 v8
  let c0_i32_393 : BitVec 32 := 0#32
  let v423 : BitVec 1 := Scalar.cmpi .sle v422 c0_i32_393
  let v424 : BitVec 1 := Scalar.andi v11 v423
  let v425 : BitVec 32 := Scalar.extui v424
  let c0_i32_394 : BitVec 32 := 0#32
  let v426 : BitVec 1 := Scalar.cmpi .ne v425 c0_i32_394
  v426

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c0_i32_1353 : BitVec 32 := 0#32
  let v1446 : BitVec 32 := Scalar.addi v1445 c0_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_399 : BitVec 32 := 1#32
  let v431 : BitVec 1 := Scalar.cmpi .sle v8 c1_i32_399
  let v432 : BitVec 1 := Scalar.andi v11 v431
  let v433 : BitVec 32 := Scalar.extui v432
  let c0_i32_400 : BitVec 32 := 0#32
  let v434 : BitVec 1 := Scalar.cmpi .ne v433 c0_i32_400
  v434

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_395 : BitVec 32 := 3#32
  let v427 : BitVec 32 := Scalar.addi v8 c3_i32_395
  let c1_i32_396 : BitVec 32 := 1#32
  let v428 : BitVec 32 := Scalar.subi v427 c1_i32_396
  let c512_i32_1337 : BitVec 32 := 512#32
  let v1435 : BitVec 32 := Scalar.muli v428 c512_i32_1337
  let c512_i32_1352 : BitVec 32 := 512#32
  ![v1435.toNat, 512]
def k0_dev15 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_401 : BitVec 32 := 3#32
  let v435 : BitVec 32 := Scalar.subi c3_i32_401 v8
  let c1_i32_402 : BitVec 32 := 1#32
  let v436 : BitVec 1 := Scalar.cmpi .sle v435 c1_i32_402
  let v437 : BitVec 1 := Scalar.andi v12 v436
  let v438 : BitVec 32 := Scalar.extui v437
  let c0_i32_403 : BitVec 32 := 0#32
  let v439 : BitVec 1 := Scalar.cmpi .ne v438 c0_i32_403
  v439

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_397 : BitVec 32 := 3#32
  let v429 : BitVec 32 := Scalar.subi v8 c3_i32_397
  let c1_i32_398 : BitVec 32 := 1#32
  let v430 : BitVec 32 := Scalar.addi v429 c1_i32_398
  let c512_i32_1337 : BitVec 32 := 512#32
  let v1435 : BitVec 32 := Scalar.muli v430 c512_i32_1337
  let c512_i32_1352 : BitVec 32 := 512#32
  ![v1435.toNat, 512]
def k0_dev16 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_404 : BitVec 32 := 1#32
  let v440 : BitVec 32 := Scalar.subi v8 c1_i32_404
  let c0_i32_405 : BitVec 32 := 0#32
  let v441 : BitVec 1 := Scalar.cmpi .sle v440 c0_i32_405
  let v442 : BitVec 1 := Scalar.andi v12 v441
  let v443 : BitVec 32 := Scalar.extui v442
  let c0_i32_406 : BitVec 32 := 0#32
  let v444 : BitVec 1 := Scalar.cmpi .ne v443 c0_i32_406
  v444

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c0_i32_1353 : BitVec 32 := 0#32
  let v1446 : BitVec 32 := Scalar.subi v1445 c0_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_407 : BitVec 32 := 2#32
  let v445 : BitVec 32 := Scalar.subi c2_i32_407 v8
  let c0_i32_408 : BitVec 32 := 0#32
  let v446 : BitVec 1 := Scalar.cmpi .sle v445 c0_i32_408
  let v447 : BitVec 1 := Scalar.andi v11 v446
  let v448 : BitVec 32 := Scalar.extui v447
  let c0_i32_409 : BitVec 32 := 0#32
  let v449 : BitVec 1 := Scalar.cmpi .ne v448 c0_i32_409
  v449

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c0_i32_1353 : BitVec 32 := 0#32
  let v1446 : BitVec 32 := Scalar.addi v1445 c0_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_414 : BitVec 32 := 1#32
  let v454 : BitVec 1 := Scalar.cmpi .sle v8 c1_i32_414
  let v455 : BitVec 1 := Scalar.andi v11 v454
  let v456 : BitVec 32 := Scalar.extui v455
  let c0_i32_415 : BitVec 32 := 0#32
  let v457 : BitVec 1 := Scalar.cmpi .ne v456 c0_i32_415
  v457

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_410 : BitVec 32 := 3#32
  let v450 : BitVec 32 := Scalar.addi v8 c3_i32_410
  let c1_i32_411 : BitVec 32 := 1#32
  let v451 : BitVec 32 := Scalar.subi v450 c1_i32_411
  let c512_i32_1337 : BitVec 32 := 512#32
  let v1435 : BitVec 32 := Scalar.muli v451 c512_i32_1337
  let c1024_i32_1352 : BitVec 32 := 1024#32
  ![v1435.toNat, 1024]
def k0_dev17 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_416 : BitVec 32 := 3#32
  let v458 : BitVec 32 := Scalar.subi c3_i32_416 v8
  let c1_i32_417 : BitVec 32 := 1#32
  let v459 : BitVec 1 := Scalar.cmpi .sle v458 c1_i32_417
  let v460 : BitVec 1 := Scalar.andi v12 v459
  let v461 : BitVec 32 := Scalar.extui v460
  let c0_i32_418 : BitVec 32 := 0#32
  let v462 : BitVec 1 := Scalar.cmpi .ne v461 c0_i32_418
  v462

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_412 : BitVec 32 := 3#32
  let v452 : BitVec 32 := Scalar.subi v8 c3_i32_412
  let c1_i32_413 : BitVec 32 := 1#32
  let v453 : BitVec 32 := Scalar.addi v452 c1_i32_413
  let c512_i32_1337 : BitVec 32 := 512#32
  let v1435 : BitVec 32 := Scalar.muli v453 c512_i32_1337
  let c1024_i32_1352 : BitVec 32 := 1024#32
  ![v1435.toNat, 1024]
def k0_dev18 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_419 : BitVec 32 := 1#32
  let v463 : BitVec 32 := Scalar.subi v8 c1_i32_419
  let c0_i32_420 : BitVec 32 := 0#32
  let v464 : BitVec 1 := Scalar.cmpi .sle v463 c0_i32_420
  let v465 : BitVec 1 := Scalar.andi v12 v464
  let v466 : BitVec 32 := Scalar.extui v465
  let c0_i32_421 : BitVec 32 := 0#32
  let v467 : BitVec 1 := Scalar.cmpi .ne v466 c0_i32_421
  v467

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c0_i32_1353 : BitVec 32 := 0#32
  let v1446 : BitVec 32 := Scalar.subi v1445 c0_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_422 : BitVec 32 := 2#32
  let v468 : BitVec 32 := Scalar.subi c2_i32_422 v8
  let c0_i32_423 : BitVec 32 := 0#32
  let v469 : BitVec 1 := Scalar.cmpi .sle v468 c0_i32_423
  let v470 : BitVec 1 := Scalar.andi v11 v469
  let v471 : BitVec 32 := Scalar.extui v470
  let c0_i32_424 : BitVec 32 := 0#32
  let v472 : BitVec 1 := Scalar.cmpi .ne v471 c0_i32_424
  v472

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c0_i32_1353 : BitVec 32 := 0#32
  let v1446 : BitVec 32 := Scalar.addi v1445 c0_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_429 : BitVec 32 := 1#32
  let v477 : BitVec 1 := Scalar.cmpi .sle v8 c1_i32_429
  let v478 : BitVec 1 := Scalar.andi v11 v477
  let v479 : BitVec 32 := Scalar.extui v478
  let c0_i32_430 : BitVec 32 := 0#32
  let v480 : BitVec 1 := Scalar.cmpi .ne v479 c0_i32_430
  v480

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_425 : BitVec 32 := 3#32
  let v473 : BitVec 32 := Scalar.addi v8 c3_i32_425
  let c1_i32_426 : BitVec 32 := 1#32
  let v474 : BitVec 32 := Scalar.subi v473 c1_i32_426
  let c512_i32_1337 : BitVec 32 := 512#32
  let v1435 : BitVec 32 := Scalar.muli v474 c512_i32_1337
  let c1536_i32_1352 : BitVec 32 := 1536#32
  ![v1435.toNat, 1536]
def k0_dev19 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_431 : BitVec 32 := 3#32
  let v481 : BitVec 32 := Scalar.subi c3_i32_431 v8
  let c1_i32_432 : BitVec 32 := 1#32
  let v482 : BitVec 1 := Scalar.cmpi .sle v481 c1_i32_432
  let v483 : BitVec 1 := Scalar.andi v12 v482
  let v484 : BitVec 32 := Scalar.extui v483
  let c0_i32_433 : BitVec 32 := 0#32
  let v485 : BitVec 1 := Scalar.cmpi .ne v484 c0_i32_433
  v485

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_427 : BitVec 32 := 3#32
  let v475 : BitVec 32 := Scalar.subi v8 c3_i32_427
  let c1_i32_428 : BitVec 32 := 1#32
  let v476 : BitVec 32 := Scalar.addi v475 c1_i32_428
  let c512_i32_1337 : BitVec 32 := 512#32
  let v1435 : BitVec 32 := Scalar.muli v476 c512_i32_1337
  let c1536_i32_1352 : BitVec 32 := 1536#32
  ![v1435.toNat, 1536]
def k0_dev20 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_434 : BitVec 32 := 1#32
  let v486 : BitVec 32 := Scalar.subi v8 c1_i32_434
  let c1_i32_435 : BitVec 32 := 1#32
  let v487 : BitVec 1 := Scalar.cmpi .sle v486 c1_i32_435
  let v488 : BitVec 1 := Scalar.andi v12 v487
  let v489 : BitVec 32 := Scalar.extui v488
  let c0_i32_436 : BitVec 32 := 0#32
  let v490 : BitVec 1 := Scalar.cmpi .ne v489 c0_i32_436
  v490

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c1_i32_1353 : BitVec 32 := 1#32
  let v1446 : BitVec 32 := Scalar.subi v1445 c1_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_437 : BitVec 32 := 2#32
  let v491 : BitVec 32 := Scalar.subi c2_i32_437 v8
  let c1_i32_438 : BitVec 32 := 1#32
  let v492 : BitVec 1 := Scalar.cmpi .sle v491 c1_i32_438
  let v493 : BitVec 1 := Scalar.andi v11 v492
  let v494 : BitVec 32 := Scalar.extui v493
  let c0_i32_439 : BitVec 32 := 0#32
  let v495 : BitVec 1 := Scalar.cmpi .ne v494 c0_i32_439
  v495

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c1_i32_1353 : BitVec 32 := 1#32
  let v1446 : BitVec 32 := Scalar.addi v1445 c1_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_444 : BitVec 32 := 2#32
  let v500 : BitVec 1 := Scalar.cmpi .sle v8 c2_i32_444
  let v501 : BitVec 1 := Scalar.andi v11 v500
  let v502 : BitVec 32 := Scalar.extui v501
  let c0_i32_445 : BitVec 32 := 0#32
  let v503 : BitVec 1 := Scalar.cmpi .ne v502 c0_i32_445
  v503

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_440 : BitVec 32 := 3#32
  let v496 : BitVec 32 := Scalar.addi v8 c3_i32_440
  let c2_i32_441 : BitVec 32 := 2#32
  let v497 : BitVec 32 := Scalar.subi v496 c2_i32_441
  let c512_i32_1337 : BitVec 32 := 512#32
  let v1435 : BitVec 32 := Scalar.muli v497 c512_i32_1337
  let c0_i32_1352 : BitVec 32 := 0#32
  ![v1435.toNat, 0]
def k0_dev21 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_446 : BitVec 32 := 3#32
  let v504 : BitVec 32 := Scalar.subi c3_i32_446 v8
  let c2_i32_447 : BitVec 32 := 2#32
  let v505 : BitVec 1 := Scalar.cmpi .sle v504 c2_i32_447
  let v506 : BitVec 1 := Scalar.andi v12 v505
  let v507 : BitVec 32 := Scalar.extui v506
  let c0_i32_448 : BitVec 32 := 0#32
  let v508 : BitVec 1 := Scalar.cmpi .ne v507 c0_i32_448
  v508

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_442 : BitVec 32 := 3#32
  let v498 : BitVec 32 := Scalar.subi v8 c3_i32_442
  let c2_i32_443 : BitVec 32 := 2#32
  let v499 : BitVec 32 := Scalar.addi v498 c2_i32_443
  let c512_i32_1337 : BitVec 32 := 512#32
  let v1435 : BitVec 32 := Scalar.muli v499 c512_i32_1337
  let c0_i32_1352 : BitVec 32 := 0#32
  ![v1435.toNat, 0]
def k0_dev22 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_449 : BitVec 32 := 1#32
  let v509 : BitVec 32 := Scalar.subi v8 c1_i32_449
  let c1_i32_450 : BitVec 32 := 1#32
  let v510 : BitVec 1 := Scalar.cmpi .sle v509 c1_i32_450
  let v511 : BitVec 1 := Scalar.andi v12 v510
  let v512 : BitVec 32 := Scalar.extui v511
  let c0_i32_451 : BitVec 32 := 0#32
  let v513 : BitVec 1 := Scalar.cmpi .ne v512 c0_i32_451
  v513

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c1_i32_1353 : BitVec 32 := 1#32
  let v1446 : BitVec 32 := Scalar.subi v1445 c1_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_452 : BitVec 32 := 2#32
  let v514 : BitVec 32 := Scalar.subi c2_i32_452 v8
  let c1_i32_453 : BitVec 32 := 1#32
  let v515 : BitVec 1 := Scalar.cmpi .sle v514 c1_i32_453
  let v516 : BitVec 1 := Scalar.andi v11 v515
  let v517 : BitVec 32 := Scalar.extui v516
  let c0_i32_454 : BitVec 32 := 0#32
  let v518 : BitVec 1 := Scalar.cmpi .ne v517 c0_i32_454
  v518

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c1_i32_1353 : BitVec 32 := 1#32
  let v1446 : BitVec 32 := Scalar.addi v1445 c1_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_459 : BitVec 32 := 2#32
  let v523 : BitVec 1 := Scalar.cmpi .sle v8 c2_i32_459
  let v524 : BitVec 1 := Scalar.andi v11 v523
  let v525 : BitVec 32 := Scalar.extui v524
  let c0_i32_460 : BitVec 32 := 0#32
  let v526 : BitVec 1 := Scalar.cmpi .ne v525 c0_i32_460
  v526

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_455 : BitVec 32 := 3#32
  let v519 : BitVec 32 := Scalar.addi v8 c3_i32_455
  let c2_i32_456 : BitVec 32 := 2#32
  let v520 : BitVec 32 := Scalar.subi v519 c2_i32_456
  let c512_i32_1337 : BitVec 32 := 512#32
  let v1435 : BitVec 32 := Scalar.muli v520 c512_i32_1337
  let c512_i32_1352 : BitVec 32 := 512#32
  ![v1435.toNat, 512]
def k0_dev23 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_461 : BitVec 32 := 3#32
  let v527 : BitVec 32 := Scalar.subi c3_i32_461 v8
  let c2_i32_462 : BitVec 32 := 2#32
  let v528 : BitVec 1 := Scalar.cmpi .sle v527 c2_i32_462
  let v529 : BitVec 1 := Scalar.andi v12 v528
  let v530 : BitVec 32 := Scalar.extui v529
  let c0_i32_463 : BitVec 32 := 0#32
  let v531 : BitVec 1 := Scalar.cmpi .ne v530 c0_i32_463
  v531

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_457 : BitVec 32 := 3#32
  let v521 : BitVec 32 := Scalar.subi v8 c3_i32_457
  let c2_i32_458 : BitVec 32 := 2#32
  let v522 : BitVec 32 := Scalar.addi v521 c2_i32_458
  let c512_i32_1337 : BitVec 32 := 512#32
  let v1435 : BitVec 32 := Scalar.muli v522 c512_i32_1337
  let c512_i32_1352 : BitVec 32 := 512#32
  ![v1435.toNat, 512]
def k0_dev24 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_464 : BitVec 32 := 1#32
  let v532 : BitVec 32 := Scalar.subi v8 c1_i32_464
  let c1_i32_465 : BitVec 32 := 1#32
  let v533 : BitVec 1 := Scalar.cmpi .sle v532 c1_i32_465
  let v534 : BitVec 1 := Scalar.andi v12 v533
  let v535 : BitVec 32 := Scalar.extui v534
  let c0_i32_466 : BitVec 32 := 0#32
  let v536 : BitVec 1 := Scalar.cmpi .ne v535 c0_i32_466
  v536

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c1_i32_1353 : BitVec 32 := 1#32
  let v1446 : BitVec 32 := Scalar.subi v1445 c1_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_467 : BitVec 32 := 2#32
  let v537 : BitVec 32 := Scalar.subi c2_i32_467 v8
  let c1_i32_468 : BitVec 32 := 1#32
  let v538 : BitVec 1 := Scalar.cmpi .sle v537 c1_i32_468
  let v539 : BitVec 1 := Scalar.andi v11 v538
  let v540 : BitVec 32 := Scalar.extui v539
  let c0_i32_469 : BitVec 32 := 0#32
  let v541 : BitVec 1 := Scalar.cmpi .ne v540 c0_i32_469
  v541

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c1_i32_1353 : BitVec 32 := 1#32
  let v1446 : BitVec 32 := Scalar.addi v1445 c1_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_474 : BitVec 32 := 2#32
  let v546 : BitVec 1 := Scalar.cmpi .sle v8 c2_i32_474
  let v547 : BitVec 1 := Scalar.andi v11 v546
  let v548 : BitVec 32 := Scalar.extui v547
  let c0_i32_475 : BitVec 32 := 0#32
  let v549 : BitVec 1 := Scalar.cmpi .ne v548 c0_i32_475
  v549

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_470 : BitVec 32 := 3#32
  let v542 : BitVec 32 := Scalar.addi v8 c3_i32_470
  let c2_i32_471 : BitVec 32 := 2#32
  let v543 : BitVec 32 := Scalar.subi v542 c2_i32_471
  let c512_i32_1337 : BitVec 32 := 512#32
  let v1435 : BitVec 32 := Scalar.muli v543 c512_i32_1337
  let c1024_i32_1352 : BitVec 32 := 1024#32
  ![v1435.toNat, 1024]
def k0_dev25 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_476 : BitVec 32 := 3#32
  let v550 : BitVec 32 := Scalar.subi c3_i32_476 v8
  let c2_i32_477 : BitVec 32 := 2#32
  let v551 : BitVec 1 := Scalar.cmpi .sle v550 c2_i32_477
  let v552 : BitVec 1 := Scalar.andi v12 v551
  let v553 : BitVec 32 := Scalar.extui v552
  let c0_i32_478 : BitVec 32 := 0#32
  let v554 : BitVec 1 := Scalar.cmpi .ne v553 c0_i32_478
  v554

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_472 : BitVec 32 := 3#32
  let v544 : BitVec 32 := Scalar.subi v8 c3_i32_472
  let c2_i32_473 : BitVec 32 := 2#32
  let v545 : BitVec 32 := Scalar.addi v544 c2_i32_473
  let c512_i32_1337 : BitVec 32 := 512#32
  let v1435 : BitVec 32 := Scalar.muli v545 c512_i32_1337
  let c1024_i32_1352 : BitVec 32 := 1024#32
  ![v1435.toNat, 1024]
def k0_dev26 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_479 : BitVec 32 := 1#32
  let v555 : BitVec 32 := Scalar.subi v8 c1_i32_479
  let c1_i32_480 : BitVec 32 := 1#32
  let v556 : BitVec 1 := Scalar.cmpi .sle v555 c1_i32_480
  let v557 : BitVec 1 := Scalar.andi v12 v556
  let v558 : BitVec 32 := Scalar.extui v557
  let c0_i32_481 : BitVec 32 := 0#32
  let v559 : BitVec 1 := Scalar.cmpi .ne v558 c0_i32_481
  v559

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c1_i32_1353 : BitVec 32 := 1#32
  let v1446 : BitVec 32 := Scalar.subi v1445 c1_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_482 : BitVec 32 := 2#32
  let v560 : BitVec 32 := Scalar.subi c2_i32_482 v8
  let c1_i32_483 : BitVec 32 := 1#32
  let v561 : BitVec 1 := Scalar.cmpi .sle v560 c1_i32_483
  let v562 : BitVec 1 := Scalar.andi v11 v561
  let v563 : BitVec 32 := Scalar.extui v562
  let c0_i32_484 : BitVec 32 := 0#32
  let v564 : BitVec 1 := Scalar.cmpi .ne v563 c0_i32_484
  v564

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c1_i32_1353 : BitVec 32 := 1#32
  let v1446 : BitVec 32 := Scalar.addi v1445 c1_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_489 : BitVec 32 := 2#32
  let v569 : BitVec 1 := Scalar.cmpi .sle v8 c2_i32_489
  let v570 : BitVec 1 := Scalar.andi v11 v569
  let v571 : BitVec 32 := Scalar.extui v570
  let c0_i32_490 : BitVec 32 := 0#32
  let v572 : BitVec 1 := Scalar.cmpi .ne v571 c0_i32_490
  v572

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_485 : BitVec 32 := 3#32
  let v565 : BitVec 32 := Scalar.addi v8 c3_i32_485
  let c2_i32_486 : BitVec 32 := 2#32
  let v566 : BitVec 32 := Scalar.subi v565 c2_i32_486
  let c512_i32_1337 : BitVec 32 := 512#32
  let v1435 : BitVec 32 := Scalar.muli v566 c512_i32_1337
  let c1536_i32_1352 : BitVec 32 := 1536#32
  ![v1435.toNat, 1536]
def k0_dev27 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.addi v8 c1_i32_1336
  let c1_i32_1349 : BitVec 32 := 1#32
  let v1440 : BitVec 32 := Scalar.muli v1434 c1_i32_1349
  let v1441 : BitVec 32 := Scalar.addi v1439 v1440
  v1441.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_491 : BitVec 32 := 3#32
  let v573 : BitVec 32 := Scalar.subi c3_i32_491 v8
  let c2_i32_492 : BitVec 32 := 2#32
  let v574 : BitVec 1 := Scalar.cmpi .sle v573 c2_i32_492
  let v575 : BitVec 1 := Scalar.andi v12 v574
  let v576 : BitVec 32 := Scalar.extui v575
  let c0_i32_493 : BitVec 32 := 0#32
  let v577 : BitVec 1 := Scalar.cmpi .ne v576 c0_i32_493
  v577

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_487 : BitVec 32 := 3#32
  let v567 : BitVec 32 := Scalar.subi v8 c3_i32_487
  let c2_i32_488 : BitVec 32 := 2#32
  let v568 : BitVec 32 := Scalar.addi v567 c2_i32_488
  let c512_i32_1337 : BitVec 32 := 512#32
  let v1435 : BitVec 32 := Scalar.muli v568 c512_i32_1337
  let c1536_i32_1352 : BitVec 32 := 1536#32
  ![v1435.toNat, 1536]
def k0_dev28 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1436 : BitVec 32 := Scalar.muli v2 c8_i32_1346
  let v1437 : BitVec 32 := Scalar.addi c0_i32_1347 v1436
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1438 : BitVec 32 := Scalar.muli v5 c4_i32_1348
  let v1439 : BitVec 32 := Scalar.addi v1437 v1438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1434 : BitVec 32 := Scalar.subi v8 c1_i32_1336
  let c1_i32_1349 : BitVec 32 := 1#32
  let v1440 : BitVec 32 := Scalar.muli v1434 c1_i32_1349
  let v1441 : BitVec 32 := Scalar.addi v1439 v1440
  v1441.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_494 : BitVec 32 := 1#32
  let v578 : BitVec 32 := Scalar.subi v8 c1_i32_494
  let c2_i32_495 : BitVec 32 := 2#32
  let v579 : BitVec 1 := Scalar.cmpi .sle v578 c2_i32_495
  let v580 : BitVec 1 := Scalar.andi v12 v579
  let v581 : BitVec 32 := Scalar.extui v580
  let c0_i32_496 : BitVec 32 := 0#32
  let v582 : BitVec 1 := Scalar.cmpi .ne v581 c0_i32_496
  v582

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c2_i32_1353 : BitVec 32 := 2#32
  let v1446 : BitVec 32 := Scalar.subi v1445 c2_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_497 : BitVec 32 := 2#32
  let v583 : BitVec 32 := Scalar.subi c2_i32_497 v8
  let c2_i32_498 : BitVec 32 := 2#32
  let v584 : BitVec 1 := Scalar.cmpi .sle v583 c2_i32_498
  let v585 : BitVec 1 := Scalar.andi v11 v584
  let v586 : BitVec 32 := Scalar.extui v585
  let c0_i32_499 : BitVec 32 := 0#32
  let v587 : BitVec 1 := Scalar.cmpi .ne v586 c0_i32_499
  v587

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c2_i32_1353 : BitVec 32 := 2#32
  let v1446 : BitVec 32 := Scalar.addi v1445 c2_i32_1353
  let c512_i32_1354 : BitVec 32 := 512#32
  let v1447 : BitVec 32 := Scalar.muli v1446 c512_i32_1354
  let v1448 : Index := Scalar.indexCast v1447
  let c0_1355 : Index := 0#32
  ![v1448.toNat, 0]
def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_368 : BitVec 32 := 512#32
  let v388 : BitVec 32 := Scalar.muli v8 c512_i32_368
  let c0_i32_511 : BitVec 32 := 0#32
  ![v388.toNat, 0]
def k0_dev29 (d0 : Dev nD) : Nat :=
  let c0_i32_506 : BitVec 32 := 0#32
  let c1_i32_372 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v392 : BitVec 32 := Scalar.subi c1_i32_372 v2
  let c8_i32_505 : BitVec 32 := 8#32
  let v588 : BitVec 32 := Scalar.muli v392 c8_i32_505
  let v589 : BitVec 32 := Scalar.addi c0_i32_506 v588
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_507 : BitVec 32 := 4#32
  let v590 : BitVec 32 := Scalar.muli v5 c4_i32_507
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v592 : BitVec 32 := Scalar.muli v8 c1_i32_508
  let v593 : BitVec 32 := Scalar.addi v591 v592
  v593.toNat
def k0_dev30 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_517 : BitVec 32 := 8#32
  let v601 : BitVec 32 := Scalar.muli v2 c8_i32_517
  let v602 : BitVec 32 := Scalar.addi c0_i32_518 v601
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_519 : BitVec 32 := 4#32
  let v603 : BitVec 32 := Scalar.muli v393 c4_i32_519
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v605 : BitVec 32 := Scalar.muli v8 c1_i32_520
  let v606 : BitVec 32 := Scalar.addi v604 v605
  v606.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_524 : BitVec 32 := 1#32
  let v614 : BitVec 32 := Scalar.subi v8 c1_i32_524
  let c2_i32_525 : BitVec 32 := 2#32
  let v615 : BitVec 1 := Scalar.cmpi .sle v614 c2_i32_525
  let v616 : BitVec 1 := Scalar.andi v12 v615
  let v617 : BitVec 32 := Scalar.extui v616
  let c0_i32_526 : BitVec 32 := 0#32
  let v618 : BitVec 1 := Scalar.cmpi .ne v617 c0_i32_526
  v618

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c2_i32_1353 : BitVec 32 := 2#32
  let v1446 : BitVec 32 := Scalar.subi v1445 c2_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_527 : BitVec 32 := 2#32
  let v619 : BitVec 32 := Scalar.subi c2_i32_527 v8
  let c2_i32_528 : BitVec 32 := 2#32
  let v620 : BitVec 1 := Scalar.cmpi .sle v619 c2_i32_528
  let v621 : BitVec 1 := Scalar.andi v11 v620
  let v622 : BitVec 32 := Scalar.extui v621
  let c0_i32_529 : BitVec 32 := 0#32
  let v623 : BitVec 1 := Scalar.cmpi .ne v622 c0_i32_529
  v623

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c2_i32_1353 : BitVec 32 := 2#32
  let v1446 : BitVec 32 := Scalar.addi v1445 c2_i32_1353
  let c512_i32_1354 : BitVec 32 := 512#32
  let v1447 : BitVec 32 := Scalar.muli v1446 c512_i32_1354
  let v1448 : Index := Scalar.indexCast v1447
  let c512_1355 : Index := 512#32
  ![v1448.toNat, 512]
def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_369 : BitVec 32 := 512#32
  let v389 : BitVec 32 := Scalar.muli v8 c512_i32_369
  let c512_i32_541 : BitVec 32 := 512#32
  ![v389.toNat, 512]
def k0_dev31 (d0 : Dev nD) : Nat :=
  let c0_i32_536 : BitVec 32 := 0#32
  let c1_i32_372 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v392 : BitVec 32 := Scalar.subi c1_i32_372 v2
  let c8_i32_535 : BitVec 32 := 8#32
  let v624 : BitVec 32 := Scalar.muli v392 c8_i32_535
  let v625 : BitVec 32 := Scalar.addi c0_i32_536 v624
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v626 : BitVec 32 := Scalar.muli v5 c4_i32_537
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_538 : BitVec 32 := 1#32
  let v628 : BitVec 32 := Scalar.muli v8 c1_i32_538
  let v629 : BitVec 32 := Scalar.addi v627 v628
  v629.toNat
def k0_dev32 (d0 : Dev nD) : Nat :=
  let c0_i32_548 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_547 : BitVec 32 := 8#32
  let v637 : BitVec 32 := Scalar.muli v2 c8_i32_547
  let v638 : BitVec 32 := Scalar.addi c0_i32_548 v637
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_549 : BitVec 32 := 4#32
  let v639 : BitVec 32 := Scalar.muli v393 c4_i32_549
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v641 : BitVec 32 := Scalar.muli v8 c1_i32_550
  let v642 : BitVec 32 := Scalar.addi v640 v641
  v642.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_554 : BitVec 32 := 1#32
  let v650 : BitVec 32 := Scalar.subi v8 c1_i32_554
  let c2_i32_555 : BitVec 32 := 2#32
  let v651 : BitVec 1 := Scalar.cmpi .sle v650 c2_i32_555
  let v652 : BitVec 1 := Scalar.andi v12 v651
  let v653 : BitVec 32 := Scalar.extui v652
  let c0_i32_556 : BitVec 32 := 0#32
  let v654 : BitVec 1 := Scalar.cmpi .ne v653 c0_i32_556
  v654

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c2_i32_1353 : BitVec 32 := 2#32
  let v1446 : BitVec 32 := Scalar.subi v1445 c2_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_557 : BitVec 32 := 2#32
  let v655 : BitVec 32 := Scalar.subi c2_i32_557 v8
  let c2_i32_558 : BitVec 32 := 2#32
  let v656 : BitVec 1 := Scalar.cmpi .sle v655 c2_i32_558
  let v657 : BitVec 1 := Scalar.andi v11 v656
  let v658 : BitVec 32 := Scalar.extui v657
  let c0_i32_559 : BitVec 32 := 0#32
  let v659 : BitVec 1 := Scalar.cmpi .ne v658 c0_i32_559
  v659

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c2_i32_1353 : BitVec 32 := 2#32
  let v1446 : BitVec 32 := Scalar.addi v1445 c2_i32_1353
  let c512_i32_1354 : BitVec 32 := 512#32
  let v1447 : BitVec 32 := Scalar.muli v1446 c512_i32_1354
  let v1448 : Index := Scalar.indexCast v1447
  let c1024_1355 : Index := 1024#32
  ![v1448.toNat, 1024]
def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_370 : BitVec 32 := 512#32
  let v390 : BitVec 32 := Scalar.muli v8 c512_i32_370
  let c1024_i32_571 : BitVec 32 := 1024#32
  ![v390.toNat, 1024]
def k0_dev33 (d0 : Dev nD) : Nat :=
  let c0_i32_566 : BitVec 32 := 0#32
  let c1_i32_372 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v392 : BitVec 32 := Scalar.subi c1_i32_372 v2
  let c8_i32_565 : BitVec 32 := 8#32
  let v660 : BitVec 32 := Scalar.muli v392 c8_i32_565
  let v661 : BitVec 32 := Scalar.addi c0_i32_566 v660
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_567 : BitVec 32 := 4#32
  let v662 : BitVec 32 := Scalar.muli v5 c4_i32_567
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v664 : BitVec 32 := Scalar.muli v8 c1_i32_568
  let v665 : BitVec 32 := Scalar.addi v663 v664
  v665.toNat
def k0_dev34 (d0 : Dev nD) : Nat :=
  let c0_i32_578 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_577 : BitVec 32 := 8#32
  let v673 : BitVec 32 := Scalar.muli v2 c8_i32_577
  let v674 : BitVec 32 := Scalar.addi c0_i32_578 v673
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_579 : BitVec 32 := 4#32
  let v675 : BitVec 32 := Scalar.muli v393 c4_i32_579
  let v676 : BitVec 32 := Scalar.addi v674 v675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_580 : BitVec 32 := 1#32
  let v677 : BitVec 32 := Scalar.muli v8 c1_i32_580
  let v678 : BitVec 32 := Scalar.addi v676 v677
  v678.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c1_i32_584 : BitVec 32 := 1#32
  let v686 : BitVec 32 := Scalar.subi v8 c1_i32_584
  let c2_i32_585 : BitVec 32 := 2#32
  let v687 : BitVec 1 := Scalar.cmpi .sle v686 c2_i32_585
  let v688 : BitVec 1 := Scalar.andi v12 v687
  let v689 : BitVec 32 := Scalar.extui v688
  let c0_i32_586 : BitVec 32 := 0#32
  let v690 : BitVec 1 := Scalar.cmpi .ne v689 c0_i32_586
  v690

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.addi v8 c2_i32_1352
  let c2_i32_1353 : BitVec 32 := 2#32
  let v1446 : BitVec 32 := Scalar.subi v1445 c2_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_587 : BitVec 32 := 2#32
  let v691 : BitVec 32 := Scalar.subi c2_i32_587 v8
  let c2_i32_588 : BitVec 32 := 2#32
  let v692 : BitVec 1 := Scalar.cmpi .sle v691 c2_i32_588
  let v693 : BitVec 1 := Scalar.andi v11 v692
  let v694 : BitVec 32 := Scalar.extui v693
  let c0_i32_589 : BitVec 32 := 0#32
  let v695 : BitVec 1 := Scalar.cmpi .ne v694 c0_i32_589
  v695

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1352 : BitVec 32 := 2#32
  let v1445 : BitVec 32 := Scalar.subi v8 c2_i32_1352
  let c2_i32_1353 : BitVec 32 := 2#32
  let v1446 : BitVec 32 := Scalar.addi v1445 c2_i32_1353
  let c512_i32_1354 : BitVec 32 := 512#32
  let v1447 : BitVec 32 := Scalar.muli v1446 c512_i32_1354
  let v1448 : Index := Scalar.indexCast v1447
  let c1536_1355 : Index := 1536#32
  ![v1448.toNat, 1536]
def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_371 : BitVec 32 := 512#32
  let v391 : BitVec 32 := Scalar.muli v8 c512_i32_371
  let c1536_i32_601 : BitVec 32 := 1536#32
  ![v391.toNat, 1536]
def k0_dev35 (d0 : Dev nD) : Nat :=
  let c0_i32_596 : BitVec 32 := 0#32
  let c1_i32_372 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v392 : BitVec 32 := Scalar.subi c1_i32_372 v2
  let c8_i32_595 : BitVec 32 := 8#32
  let v696 : BitVec 32 := Scalar.muli v392 c8_i32_595
  let v697 : BitVec 32 := Scalar.addi c0_i32_596 v696
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_597 : BitVec 32 := 4#32
  let v698 : BitVec 32 := Scalar.muli v5 c4_i32_597
  let v699 : BitVec 32 := Scalar.addi v697 v698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_598 : BitVec 32 := 1#32
  let v700 : BitVec 32 := Scalar.muli v8 c1_i32_598
  let v701 : BitVec 32 := Scalar.addi v699 v700
  v701.toNat
def k0_dev36 (d0 : Dev nD) : Nat :=
  let c0_i32_608 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_607 : BitVec 32 := 8#32
  let v709 : BitVec 32 := Scalar.muli v2 c8_i32_607
  let v710 : BitVec 32 := Scalar.addi c0_i32_608 v709
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_609 : BitVec 32 := 4#32
  let v711 : BitVec 32 := Scalar.muli v393 c4_i32_609
  let v712 : BitVec 32 := Scalar.addi v710 v711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_610 : BitVec 32 := 1#32
  let v713 : BitVec 32 := Scalar.muli v8 c1_i32_610
  let v714 : BitVec 32 := Scalar.addi v712 v713
  v714.toNat
def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_614 : BitVec 32 := 512#32
  let v722 : BitVec 32 := Scalar.muli v8 c512_i32_614
  let v723 : Index := Scalar.indexCast v722
  let c0_615 : Index := 0#32
  ![v723.toNat, 0]
def k0_off62 (d0 : Dev nD) (c0_i32_620 : BitVec 32) : Fin 2 → Nat :=
  let c0_i32_623 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32_619 : BitVec 32 := 2048#32
  let v729 : BitVec 32 := Scalar.muli v10 c2048_i32_619
  let v730 : BitVec 32 := Scalar.addi v729 c0_i32_620
  ![0, v730.toNat]
def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_626 : BitVec 32 := 512#32
  let v736 : BitVec 32 := Scalar.muli v8 c512_i32_626
  let v737 : Index := Scalar.indexCast v736
  let c512_627 : Index := 512#32
  ![v737.toNat, 512]
def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_638 : BitVec 32 := 512#32
  let v750 : BitVec 32 := Scalar.muli v8 c512_i32_638
  let v751 : Index := Scalar.indexCast v750
  let c1024_639 : Index := 1024#32
  ![v751.toNat, 1024]
def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_657 : BitVec 32 := 512#32
  let v771 : BitVec 32 := Scalar.muli v8 c512_i32_657
  let v772 : Index := Scalar.indexCast v771
  let c1536_658 : Index := 1536#32
  ![v772.toNat, 1536]
def k0_dev37 (d0 : Dev nD) : Nat :=
  let c0_i32_704 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_703 : BitVec 32 := 8#32
  let v808 : BitVec 32 := Scalar.muli v2 c8_i32_703
  let v809 : BitVec 32 := Scalar.addi c0_i32_704 v808
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_705 : BitVec 32 := 4#32
  let v810 : BitVec 32 := Scalar.muli v393 c4_i32_705
  let v811 : BitVec 32 := Scalar.addi v809 v810
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v812 : BitVec 32 := Scalar.muli v8 c1_i32_706
  let v813 : BitVec 32 := Scalar.addi v811 v812
  v813.toNat
def k0_off66 (d0 : Dev nD) (c2_i32_714 : BitVec 32) (c0_i32_726 : BitVec 32) : Fin 2 → Nat :=
  let c0_i32_729 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v824 : BitVec 32 := Scalar.xori v10 c2_i32_714
  let c2048_i32_725 : BitVec 32 := 2048#32
  let v836 : BitVec 32 := Scalar.muli v824 c2048_i32_725
  let v837 : BitVec 32 := Scalar.addi v836 c0_i32_726
  ![0, v837.toNat]
def k0_dev38 (d0 : Dev nD) : Nat :=
  let c0_i32_760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_759 : BitVec 32 := 8#32
  let v859 : BitVec 32 := Scalar.muli v2 c8_i32_759
  let v860 : BitVec 32 := Scalar.addi c0_i32_760 v859
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_761 : BitVec 32 := 4#32
  let v861 : BitVec 32 := Scalar.muli v393 c4_i32_761
  let v862 : BitVec 32 := Scalar.addi v860 v861
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_762 : BitVec 32 := 1#32
  let v863 : BitVec 32 := Scalar.muli v8 c1_i32_762
  let v864 : BitVec 32 := Scalar.addi v862 v863
  v864.toNat
def k0_dev39 (d0 : Dev nD) : Nat :=
  let c0_i32_816 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_815 : BitVec 32 := 8#32
  let v910 : BitVec 32 := Scalar.muli v2 c8_i32_815
  let v911 : BitVec 32 := Scalar.addi c0_i32_816 v910
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_817 : BitVec 32 := 4#32
  let v912 : BitVec 32 := Scalar.muli v393 c4_i32_817
  let v913 : BitVec 32 := Scalar.addi v911 v912
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_818 : BitVec 32 := 1#32
  let v914 : BitVec 32 := Scalar.muli v8 c1_i32_818
  let v915 : BitVec 32 := Scalar.addi v913 v914
  v915.toNat
def k0_dev40 (d0 : Dev nD) : Nat :=
  let c0_i32_871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_870 : BitVec 32 := 8#32
  let v961 : BitVec 32 := Scalar.muli v2 c8_i32_870
  let v962 : BitVec 32 := Scalar.addi c0_i32_871 v961
  let c1_i32_373 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v393 : BitVec 32 := Scalar.subi c1_i32_373 v5
  let c4_i32_872 : BitVec 32 := 4#32
  let v963 : BitVec 32 := Scalar.muli v393 c4_i32_872
  let v964 : BitVec 32 := Scalar.addi v962 v963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_873 : BitVec 32 := 1#32
  let v965 : BitVec 32 := Scalar.muli v8 c1_i32_873
  let v966 : BitVec 32 := Scalar.addi v964 v965
  v966.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_1268 : BitVec 32 := 0#32
  let v1318 : BitVec 1 := Scalar.cmpi .sle v8 c0_i32_1268
  let v1319 : BitVec 1 := Scalar.andi v11 v1318
  let v1320 : BitVec 32 := Scalar.extui v1319
  let c0_i32_1269 : BitVec 32 := 0#32
  let v1321 : BitVec 1 := Scalar.cmpi .ne v1320 c0_i32_1269
  v1321

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1264 : BitVec 32 := 3#32
  let v1314 : BitVec 32 := Scalar.addi v8 c3_i32_1264
  let c0_i32_1265 : BitVec 32 := 0#32
  let v1315 : BitVec 32 := Scalar.subi v1314 c0_i32_1265
  let c512_i32_1336 : BitVec 32 := 512#32
  let v1434 : BitVec 32 := Scalar.muli v1315 c512_i32_1336
  let c0_i32_1346 : BitVec 32 := 0#32
  ![v1434.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1270 : BitVec 32 := 3#32
  let v1322 : BitVec 32 := Scalar.subi c3_i32_1270 v8
  let c0_i32_1271 : BitVec 32 := 0#32
  let v1323 : BitVec 1 := Scalar.cmpi .sle v1322 c0_i32_1271
  let v1324 : BitVec 1 := Scalar.andi v12 v1323
  let v1325 : BitVec 32 := Scalar.extui v1324
  let c0_i32_1272 : BitVec 32 := 0#32
  let v1326 : BitVec 1 := Scalar.cmpi .ne v1325 c0_i32_1272
  v1326

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1266 : BitVec 32 := 3#32
  let v1316 : BitVec 32 := Scalar.subi v8 c3_i32_1266
  let c0_i32_1267 : BitVec 32 := 0#32
  let v1317 : BitVec 32 := Scalar.addi v1316 c0_i32_1267
  let c512_i32_1336 : BitVec 32 := 512#32
  let v1434 : BitVec 32 := Scalar.muli v1317 c512_i32_1336
  let c0_i32_1346 : BitVec 32 := 0#32
  ![v1434.toNat, 0]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_1273 : BitVec 32 := 0#32
  let v1327 : BitVec 1 := Scalar.cmpi .sle v8 c0_i32_1273
  let v1328 : BitVec 1 := Scalar.andi v11 v1327
  let v1329 : BitVec 32 := Scalar.extui v1328
  let c0_i32_1274 : BitVec 32 := 0#32
  let v1330 : BitVec 1 := Scalar.cmpi .ne v1329 c0_i32_1274
  v1330

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1264 : BitVec 32 := 3#32
  let v1314 : BitVec 32 := Scalar.addi v8 c3_i32_1264
  let c0_i32_1265 : BitVec 32 := 0#32
  let v1315 : BitVec 32 := Scalar.subi v1314 c0_i32_1265
  let c512_i32_1336 : BitVec 32 := 512#32
  let v1434 : BitVec 32 := Scalar.muli v1315 c512_i32_1336
  let c512_i32_1346 : BitVec 32 := 512#32
  ![v1434.toNat, 512]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1275 : BitVec 32 := 3#32
  let v1331 : BitVec 32 := Scalar.subi c3_i32_1275 v8
  let c0_i32_1276 : BitVec 32 := 0#32
  let v1332 : BitVec 1 := Scalar.cmpi .sle v1331 c0_i32_1276
  let v1333 : BitVec 1 := Scalar.andi v12 v1332
  let v1334 : BitVec 32 := Scalar.extui v1333
  let c0_i32_1277 : BitVec 32 := 0#32
  let v1335 : BitVec 1 := Scalar.cmpi .ne v1334 c0_i32_1277
  v1335

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1266 : BitVec 32 := 3#32
  let v1316 : BitVec 32 := Scalar.subi v8 c3_i32_1266
  let c0_i32_1267 : BitVec 32 := 0#32
  let v1317 : BitVec 32 := Scalar.addi v1316 c0_i32_1267
  let c512_i32_1336 : BitVec 32 := 512#32
  let v1434 : BitVec 32 := Scalar.muli v1317 c512_i32_1336
  let c512_i32_1346 : BitVec 32 := 512#32
  ![v1434.toNat, 512]
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_1278 : BitVec 32 := 0#32
  let v1336 : BitVec 1 := Scalar.cmpi .sle v8 c0_i32_1278
  let v1337 : BitVec 1 := Scalar.andi v11 v1336
  let v1338 : BitVec 32 := Scalar.extui v1337
  let c0_i32_1279 : BitVec 32 := 0#32
  let v1339 : BitVec 1 := Scalar.cmpi .ne v1338 c0_i32_1279
  v1339

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1264 : BitVec 32 := 3#32
  let v1314 : BitVec 32 := Scalar.addi v8 c3_i32_1264
  let c0_i32_1265 : BitVec 32 := 0#32
  let v1315 : BitVec 32 := Scalar.subi v1314 c0_i32_1265
  let c512_i32_1336 : BitVec 32 := 512#32
  let v1434 : BitVec 32 := Scalar.muli v1315 c512_i32_1336
  let c1024_i32_1346 : BitVec 32 := 1024#32
  ![v1434.toNat, 1024]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1280 : BitVec 32 := 3#32
  let v1340 : BitVec 32 := Scalar.subi c3_i32_1280 v8
  let c0_i32_1281 : BitVec 32 := 0#32
  let v1341 : BitVec 1 := Scalar.cmpi .sle v1340 c0_i32_1281
  let v1342 : BitVec 1 := Scalar.andi v12 v1341
  let v1343 : BitVec 32 := Scalar.extui v1342
  let c0_i32_1282 : BitVec 32 := 0#32
  let v1344 : BitVec 1 := Scalar.cmpi .ne v1343 c0_i32_1282
  v1344

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1266 : BitVec 32 := 3#32
  let v1316 : BitVec 32 := Scalar.subi v8 c3_i32_1266
  let c0_i32_1267 : BitVec 32 := 0#32
  let v1317 : BitVec 32 := Scalar.addi v1316 c0_i32_1267
  let c512_i32_1336 : BitVec 32 := 512#32
  let v1434 : BitVec 32 := Scalar.muli v1317 c512_i32_1336
  let c1024_i32_1346 : BitVec 32 := 1024#32
  ![v1434.toNat, 1024]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c0_i32_1283 : BitVec 32 := 0#32
  let v1345 : BitVec 1 := Scalar.cmpi .sle v8 c0_i32_1283
  let v1346 : BitVec 1 := Scalar.andi v11 v1345
  let v1347 : BitVec 32 := Scalar.extui v1346
  let c0_i32_1284 : BitVec 32 := 0#32
  let v1348 : BitVec 1 := Scalar.cmpi .ne v1347 c0_i32_1284
  v1348

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1264 : BitVec 32 := 3#32
  let v1314 : BitVec 32 := Scalar.addi v8 c3_i32_1264
  let c0_i32_1265 : BitVec 32 := 0#32
  let v1315 : BitVec 32 := Scalar.subi v1314 c0_i32_1265
  let c512_i32_1336 : BitVec 32 := 512#32
  let v1434 : BitVec 32 := Scalar.muli v1315 c512_i32_1336
  let c1536_i32_1346 : BitVec 32 := 1536#32
  ![v1434.toNat, 1536]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1285 : BitVec 32 := 3#32
  let v1349 : BitVec 32 := Scalar.subi c3_i32_1285 v8
  let c0_i32_1286 : BitVec 32 := 0#32
  let v1350 : BitVec 1 := Scalar.cmpi .sle v1349 c0_i32_1286
  let v1351 : BitVec 1 := Scalar.andi v12 v1350
  let v1352 : BitVec 32 := Scalar.extui v1351
  let c0_i32_1287 : BitVec 32 := 0#32
  let v1353 : BitVec 1 := Scalar.cmpi .ne v1352 c0_i32_1287
  v1353

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1266 : BitVec 32 := 3#32
  let v1316 : BitVec 32 := Scalar.subi v8 c3_i32_1266
  let c0_i32_1267 : BitVec 32 := 0#32
  let v1317 : BitVec 32 := Scalar.addi v1316 c0_i32_1267
  let c512_i32_1336 : BitVec 32 := 512#32
  let v1434 : BitVec 32 := Scalar.muli v1317 c512_i32_1336
  let c1536_i32_1346 : BitVec 32 := 1536#32
  ![v1434.toNat, 1536]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_1292 : BitVec 32 := 1#32
  let v1358 : BitVec 1 := Scalar.cmpi .sle v8 c1_i32_1292
  let v1359 : BitVec 1 := Scalar.andi v11 v1358
  let v1360 : BitVec 32 := Scalar.extui v1359
  let c0_i32_1293 : BitVec 32 := 0#32
  let v1361 : BitVec 1 := Scalar.cmpi .ne v1360 c0_i32_1293
  v1361

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1288 : BitVec 32 := 3#32
  let v1354 : BitVec 32 := Scalar.addi v8 c3_i32_1288
  let c1_i32_1289 : BitVec 32 := 1#32
  let v1355 : BitVec 32 := Scalar.subi v1354 c1_i32_1289
  let c512_i32_1336 : BitVec 32 := 512#32
  let v1434 : BitVec 32 := Scalar.muli v1355 c512_i32_1336
  let c0_i32_1346 : BitVec 32 := 0#32
  ![v1434.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1294 : BitVec 32 := 3#32
  let v1362 : BitVec 32 := Scalar.subi c3_i32_1294 v8
  let c1_i32_1295 : BitVec 32 := 1#32
  let v1363 : BitVec 1 := Scalar.cmpi .sle v1362 c1_i32_1295
  let v1364 : BitVec 1 := Scalar.andi v12 v1363
  let v1365 : BitVec 32 := Scalar.extui v1364
  let c0_i32_1296 : BitVec 32 := 0#32
  let v1366 : BitVec 1 := Scalar.cmpi .ne v1365 c0_i32_1296
  v1366

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1290 : BitVec 32 := 3#32
  let v1356 : BitVec 32 := Scalar.subi v8 c3_i32_1290
  let c1_i32_1291 : BitVec 32 := 1#32
  let v1357 : BitVec 32 := Scalar.addi v1356 c1_i32_1291
  let c512_i32_1336 : BitVec 32 := 512#32
  let v1434 : BitVec 32 := Scalar.muli v1357 c512_i32_1336
  let c0_i32_1346 : BitVec 32 := 0#32
  ![v1434.toNat, 0]
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_1297 : BitVec 32 := 1#32
  let v1367 : BitVec 1 := Scalar.cmpi .sle v8 c1_i32_1297
  let v1368 : BitVec 1 := Scalar.andi v11 v1367
  let v1369 : BitVec 32 := Scalar.extui v1368
  let c0_i32_1298 : BitVec 32 := 0#32
  let v1370 : BitVec 1 := Scalar.cmpi .ne v1369 c0_i32_1298
  v1370

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1288 : BitVec 32 := 3#32
  let v1354 : BitVec 32 := Scalar.addi v8 c3_i32_1288
  let c1_i32_1289 : BitVec 32 := 1#32
  let v1355 : BitVec 32 := Scalar.subi v1354 c1_i32_1289
  let c512_i32_1336 : BitVec 32 := 512#32
  let v1434 : BitVec 32 := Scalar.muli v1355 c512_i32_1336
  let c512_i32_1346 : BitVec 32 := 512#32
  ![v1434.toNat, 512]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1299 : BitVec 32 := 3#32
  let v1371 : BitVec 32 := Scalar.subi c3_i32_1299 v8
  let c1_i32_1300 : BitVec 32 := 1#32
  let v1372 : BitVec 1 := Scalar.cmpi .sle v1371 c1_i32_1300
  let v1373 : BitVec 1 := Scalar.andi v12 v1372
  let v1374 : BitVec 32 := Scalar.extui v1373
  let c0_i32_1301 : BitVec 32 := 0#32
  let v1375 : BitVec 1 := Scalar.cmpi .ne v1374 c0_i32_1301
  v1375

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1290 : BitVec 32 := 3#32
  let v1356 : BitVec 32 := Scalar.subi v8 c3_i32_1290
  let c1_i32_1291 : BitVec 32 := 1#32
  let v1357 : BitVec 32 := Scalar.addi v1356 c1_i32_1291
  let c512_i32_1336 : BitVec 32 := 512#32
  let v1434 : BitVec 32 := Scalar.muli v1357 c512_i32_1336
  let c512_i32_1346 : BitVec 32 := 512#32
  ![v1434.toNat, 512]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_1302 : BitVec 32 := 1#32
  let v1376 : BitVec 1 := Scalar.cmpi .sle v8 c1_i32_1302
  let v1377 : BitVec 1 := Scalar.andi v11 v1376
  let v1378 : BitVec 32 := Scalar.extui v1377
  let c0_i32_1303 : BitVec 32 := 0#32
  let v1379 : BitVec 1 := Scalar.cmpi .ne v1378 c0_i32_1303
  v1379

def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1288 : BitVec 32 := 3#32
  let v1354 : BitVec 32 := Scalar.addi v8 c3_i32_1288
  let c1_i32_1289 : BitVec 32 := 1#32
  let v1355 : BitVec 32 := Scalar.subi v1354 c1_i32_1289
  let c512_i32_1336 : BitVec 32 := 512#32
  let v1434 : BitVec 32 := Scalar.muli v1355 c512_i32_1336
  let c1024_i32_1346 : BitVec 32 := 1024#32
  ![v1434.toNat, 1024]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1304 : BitVec 32 := 3#32
  let v1380 : BitVec 32 := Scalar.subi c3_i32_1304 v8
  let c1_i32_1305 : BitVec 32 := 1#32
  let v1381 : BitVec 1 := Scalar.cmpi .sle v1380 c1_i32_1305
  let v1382 : BitVec 1 := Scalar.andi v12 v1381
  let v1383 : BitVec 32 := Scalar.extui v1382
  let c0_i32_1306 : BitVec 32 := 0#32
  let v1384 : BitVec 1 := Scalar.cmpi .ne v1383 c0_i32_1306
  v1384

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1290 : BitVec 32 := 3#32
  let v1356 : BitVec 32 := Scalar.subi v8 c3_i32_1290
  let c1_i32_1291 : BitVec 32 := 1#32
  let v1357 : BitVec 32 := Scalar.addi v1356 c1_i32_1291
  let c512_i32_1336 : BitVec 32 := 512#32
  let v1434 : BitVec 32 := Scalar.muli v1357 c512_i32_1336
  let c1024_i32_1346 : BitVec 32 := 1024#32
  ![v1434.toNat, 1024]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c1_i32_1307 : BitVec 32 := 1#32
  let v1385 : BitVec 1 := Scalar.cmpi .sle v8 c1_i32_1307
  let v1386 : BitVec 1 := Scalar.andi v11 v1385
  let v1387 : BitVec 32 := Scalar.extui v1386
  let c0_i32_1308 : BitVec 32 := 0#32
  let v1388 : BitVec 1 := Scalar.cmpi .ne v1387 c0_i32_1308
  v1388

def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1288 : BitVec 32 := 3#32
  let v1354 : BitVec 32 := Scalar.addi v8 c3_i32_1288
  let c1_i32_1289 : BitVec 32 := 1#32
  let v1355 : BitVec 32 := Scalar.subi v1354 c1_i32_1289
  let c512_i32_1336 : BitVec 32 := 512#32
  let v1434 : BitVec 32 := Scalar.muli v1355 c512_i32_1336
  let c1536_i32_1346 : BitVec 32 := 1536#32
  ![v1434.toNat, 1536]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1309 : BitVec 32 := 3#32
  let v1389 : BitVec 32 := Scalar.subi c3_i32_1309 v8
  let c1_i32_1310 : BitVec 32 := 1#32
  let v1390 : BitVec 1 := Scalar.cmpi .sle v1389 c1_i32_1310
  let v1391 : BitVec 1 := Scalar.andi v12 v1390
  let v1392 : BitVec 32 := Scalar.extui v1391
  let c0_i32_1311 : BitVec 32 := 0#32
  let v1393 : BitVec 1 := Scalar.cmpi .ne v1392 c0_i32_1311
  v1393

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1290 : BitVec 32 := 3#32
  let v1356 : BitVec 32 := Scalar.subi v8 c3_i32_1290
  let c1_i32_1291 : BitVec 32 := 1#32
  let v1357 : BitVec 32 := Scalar.addi v1356 c1_i32_1291
  let c512_i32_1336 : BitVec 32 := 512#32
  let v1434 : BitVec 32 := Scalar.muli v1357 c512_i32_1336
  let c1536_i32_1346 : BitVec 32 := 1536#32
  ![v1434.toNat, 1536]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_1316 : BitVec 32 := 2#32
  let v1398 : BitVec 1 := Scalar.cmpi .sle v8 c2_i32_1316
  let v1399 : BitVec 1 := Scalar.andi v11 v1398
  let v1400 : BitVec 32 := Scalar.extui v1399
  let c0_i32_1317 : BitVec 32 := 0#32
  let v1401 : BitVec 1 := Scalar.cmpi .ne v1400 c0_i32_1317
  v1401

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1312 : BitVec 32 := 3#32
  let v1394 : BitVec 32 := Scalar.addi v8 c3_i32_1312
  let c2_i32_1313 : BitVec 32 := 2#32
  let v1395 : BitVec 32 := Scalar.subi v1394 c2_i32_1313
  let c512_i32_1336 : BitVec 32 := 512#32
  let v1434 : BitVec 32 := Scalar.muli v1395 c512_i32_1336
  let c0_i32_1346 : BitVec 32 := 0#32
  ![v1434.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1318 : BitVec 32 := 3#32
  let v1402 : BitVec 32 := Scalar.subi c3_i32_1318 v8
  let c2_i32_1319 : BitVec 32 := 2#32
  let v1403 : BitVec 1 := Scalar.cmpi .sle v1402 c2_i32_1319
  let v1404 : BitVec 1 := Scalar.andi v12 v1403
  let v1405 : BitVec 32 := Scalar.extui v1404
  let c0_i32_1320 : BitVec 32 := 0#32
  let v1406 : BitVec 1 := Scalar.cmpi .ne v1405 c0_i32_1320
  v1406

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1314 : BitVec 32 := 3#32
  let v1396 : BitVec 32 := Scalar.subi v8 c3_i32_1314
  let c2_i32_1315 : BitVec 32 := 2#32
  let v1397 : BitVec 32 := Scalar.addi v1396 c2_i32_1315
  let c512_i32_1336 : BitVec 32 := 512#32
  let v1434 : BitVec 32 := Scalar.muli v1397 c512_i32_1336
  let c0_i32_1346 : BitVec 32 := 0#32
  ![v1434.toNat, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_1321 : BitVec 32 := 2#32
  let v1407 : BitVec 1 := Scalar.cmpi .sle v8 c2_i32_1321
  let v1408 : BitVec 1 := Scalar.andi v11 v1407
  let v1409 : BitVec 32 := Scalar.extui v1408
  let c0_i32_1322 : BitVec 32 := 0#32
  let v1410 : BitVec 1 := Scalar.cmpi .ne v1409 c0_i32_1322
  v1410

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1312 : BitVec 32 := 3#32
  let v1394 : BitVec 32 := Scalar.addi v8 c3_i32_1312
  let c2_i32_1313 : BitVec 32 := 2#32
  let v1395 : BitVec 32 := Scalar.subi v1394 c2_i32_1313
  let c512_i32_1336 : BitVec 32 := 512#32
  let v1434 : BitVec 32 := Scalar.muli v1395 c512_i32_1336
  let c512_i32_1346 : BitVec 32 := 512#32
  ![v1434.toNat, 512]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1323 : BitVec 32 := 3#32
  let v1411 : BitVec 32 := Scalar.subi c3_i32_1323 v8
  let c2_i32_1324 : BitVec 32 := 2#32
  let v1412 : BitVec 1 := Scalar.cmpi .sle v1411 c2_i32_1324
  let v1413 : BitVec 1 := Scalar.andi v12 v1412
  let v1414 : BitVec 32 := Scalar.extui v1413
  let c0_i32_1325 : BitVec 32 := 0#32
  let v1415 : BitVec 1 := Scalar.cmpi .ne v1414 c0_i32_1325
  v1415

def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1314 : BitVec 32 := 3#32
  let v1396 : BitVec 32 := Scalar.subi v8 c3_i32_1314
  let c2_i32_1315 : BitVec 32 := 2#32
  let v1397 : BitVec 32 := Scalar.addi v1396 c2_i32_1315
  let c512_i32_1336 : BitVec 32 := 512#32
  let v1434 : BitVec 32 := Scalar.muli v1397 c512_i32_1336
  let c512_i32_1346 : BitVec 32 := 512#32
  ![v1434.toNat, 512]
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_1326 : BitVec 32 := 2#32
  let v1416 : BitVec 1 := Scalar.cmpi .sle v8 c2_i32_1326
  let v1417 : BitVec 1 := Scalar.andi v11 v1416
  let v1418 : BitVec 32 := Scalar.extui v1417
  let c0_i32_1327 : BitVec 32 := 0#32
  let v1419 : BitVec 1 := Scalar.cmpi .ne v1418 c0_i32_1327
  v1419

def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1312 : BitVec 32 := 3#32
  let v1394 : BitVec 32 := Scalar.addi v8 c3_i32_1312
  let c2_i32_1313 : BitVec 32 := 2#32
  let v1395 : BitVec 32 := Scalar.subi v1394 c2_i32_1313
  let c512_i32_1336 : BitVec 32 := 512#32
  let v1434 : BitVec 32 := Scalar.muli v1395 c512_i32_1336
  let c1024_i32_1346 : BitVec 32 := 1024#32
  ![v1434.toNat, 1024]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1328 : BitVec 32 := 3#32
  let v1420 : BitVec 32 := Scalar.subi c3_i32_1328 v8
  let c2_i32_1329 : BitVec 32 := 2#32
  let v1421 : BitVec 1 := Scalar.cmpi .sle v1420 c2_i32_1329
  let v1422 : BitVec 1 := Scalar.andi v12 v1421
  let v1423 : BitVec 32 := Scalar.extui v1422
  let c0_i32_1330 : BitVec 32 := 0#32
  let v1424 : BitVec 1 := Scalar.cmpi .ne v1423 c0_i32_1330
  v1424

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1314 : BitVec 32 := 3#32
  let v1396 : BitVec 32 := Scalar.subi v8 c3_i32_1314
  let c2_i32_1315 : BitVec 32 := 2#32
  let v1397 : BitVec 32 := Scalar.addi v1396 c2_i32_1315
  let c512_i32_1336 : BitVec 32 := 512#32
  let v1434 : BitVec 32 := Scalar.muli v1397 c512_i32_1336
  let c1024_i32_1346 : BitVec 32 := 1024#32
  ![v1434.toNat, 1024]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v11 : BitVec 1 := Scalar.cmpi .slt v8 c3_i32
  let c2_i32_1331 : BitVec 32 := 2#32
  let v1425 : BitVec 1 := Scalar.cmpi .sle v8 c2_i32_1331
  let v1426 : BitVec 1 := Scalar.andi v11 v1425
  let v1427 : BitVec 32 := Scalar.extui v1426
  let c0_i32_1332 : BitVec 32 := 0#32
  let v1428 : BitVec 1 := Scalar.cmpi .ne v1427 c0_i32_1332
  v1428

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1312 : BitVec 32 := 3#32
  let v1394 : BitVec 32 := Scalar.addi v8 c3_i32_1312
  let c2_i32_1313 : BitVec 32 := 2#32
  let v1395 : BitVec 32 := Scalar.subi v1394 c2_i32_1313
  let c512_i32_1336 : BitVec 32 := 512#32
  let v1434 : BitVec 32 := Scalar.muli v1395 c512_i32_1336
  let c1536_i32_1346 : BitVec 32 := 1536#32
  ![v1434.toNat, 1536]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let c3_i32_1333 : BitVec 32 := 3#32
  let v1429 : BitVec 32 := Scalar.subi c3_i32_1333 v8
  let c2_i32_1334 : BitVec 32 := 2#32
  let v1430 : BitVec 1 := Scalar.cmpi .sle v1429 c2_i32_1334
  let v1431 : BitVec 1 := Scalar.andi v12 v1430
  let v1432 : BitVec 32 := Scalar.extui v1431
  let c0_i32_1335 : BitVec 32 := 0#32
  let v1433 : BitVec 1 := Scalar.cmpi .ne v1432 c0_i32_1335
  v1433

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1314 : BitVec 32 := 3#32
  let v1396 : BitVec 32 := Scalar.subi v8 c3_i32_1314
  let c2_i32_1315 : BitVec 32 := 2#32
  let v1397 : BitVec 32 := Scalar.addi v1396 c2_i32_1315
  let c512_i32_1336 : BitVec 32 := 512#32
  let v1434 : BitVec 32 := Scalar.muli v1397 c512_i32_1336
  let c1536_i32_1346 : BitVec 32 := 1536#32
  ![v1434.toNat, 1536]
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048x8192, .f32⟩
  | .hbm, ⟨3, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
module

public import proofs.«01_k».proof.Proof.Gen.KernelIdeal.Points
public import proofs.«01_k».proof.Proof.Gen.KernelIdeal.Skeleton

/-! The kernel's memory operations, one definition for each kind, indexed by direction, step, column block and
    slot. The program of a device is a sequence of these. -/

@[expose] public section

set_option synthInstance.maxSize 4096

noncomputable section

namespace Cert.KernelIdeal.Ring

open Idealize.ShloMosaic Idealize.ShloMosaic.TcCoe
open Idealize.SL Idealize.SL.Sem
open Cert.KernelIdeal.Gen

variable {F : FTy → Type} [FloatOps F]

/-- A program of one device. -/
abbrev P (F : FTy → Type) (α : Type) : Type 1 := Prog (TpuEff nD τ sig (Elt F) Λ₀ .tc) α

/-! ## Tables

The words the kernel computes for its conditions, offsets and peers, by direction (0 towards larger `z`, 1 towards
smaller), step and column block. -/

/-- Of direction, step and column block: whether this device sends. -/
def cS : Fin 2 → Fin 3 → Fin 4 → Dev nD → BitVec 1 :=
  ![![![k0_cond3, k0_cond5, k0_cond7, k0_cond9], ![k0_cond13, k0_cond17, k0_cond21, k0_cond25], ![k0_cond29, k0_cond33, k0_cond37, k0_cond41]],
    ![![k0_cond4, k0_cond6, k0_cond8, k0_cond10], ![k0_cond14, k0_cond18, k0_cond22, k0_cond26], ![k0_cond30, k0_cond34, k0_cond38, k0_cond42]]]

/-- Of direction, step and column block: the sent tile's offset. -/
def oS : Fin 2 → Fin 3 → Fin 4 → Dev nD → Fin 2 → ℕ :=
  ![![![k0_off9, k0_off11, k0_off13, k0_off15], ![k0_off19, k0_off23, k0_off27, k0_off31], ![k0_off35, k0_off39, k0_off43, k0_off47]],
    ![![k0_off10, k0_off12, k0_off14, k0_off16], ![k0_off20, k0_off24, k0_off28, k0_off32], ![k0_off36, k0_off40, k0_off44, k0_off48]]]

/-- Of direction, step and column block: the device a tile is sent to. -/
def eS : Fin 2 → Fin 3 → Fin 4 → Dev nD → ℕ :=
  ![![![k0_dev5, k0_dev7, k0_dev9, k0_dev11], ![k0_dev13, k0_dev15, k0_dev17, k0_dev19], ![k0_dev21, k0_dev23, k0_dev25, k0_dev27]],
    ![![k0_dev6, k0_dev8, k0_dev10, k0_dev12], ![k0_dev14, k0_dev16, k0_dev18, k0_dev20], ![k0_dev22, k0_dev24, k0_dev26, k0_dev28]]]

/-- Of direction, step and column block: whether this device receives. -/
def cR : Fin 2 → Fin 3 → Fin 4 → Dev nD → BitVec 1 :=
  ![![![k0_cond11, k0_cond15, k0_cond19, k0_cond23], ![k0_cond27, k0_cond31, k0_cond35, k0_cond39], ![k0_cond43, k0_cond45, k0_cond47, k0_cond49]],
    ![![k0_cond12, k0_cond16, k0_cond20, k0_cond24], ![k0_cond28, k0_cond32, k0_cond36, k0_cond40], ![k0_cond44, k0_cond46, k0_cond48, k0_cond50]]]

/-- Of direction, step and column block: the offset of the tile a received one is added to. -/
def oR : Fin 2 → Fin 3 → Fin 4 → Dev nD → Fin 2 → ℕ :=
  ![![![k0_off17, k0_off21, k0_off25, k0_off29], ![k0_off33, k0_off37, k0_off41, k0_off45], ![k0_off49, k0_off52, k0_off55, k0_off58]],
    ![![k0_off18, k0_off22, k0_off26, k0_off30], ![k0_off34, k0_off38, k0_off42, k0_off46], ![k0_off50, k0_off53, k0_off56, k0_off59]]]

/-- Of direction, step and column block: whether this device waits for a tile it sent. -/
def cW : Fin 2 → Fin 3 → Fin 4 → Dev nD → BitVec 1 :=
  ![![![k0_cond51, k0_cond53, k0_cond55, k0_cond57], ![k0_cond59, k0_cond61, k0_cond63, k0_cond65], ![k0_cond67, k0_cond69, k0_cond71, k0_cond73]],
    ![![k0_cond52, k0_cond54, k0_cond56, k0_cond58], ![k0_cond60, k0_cond62, k0_cond64, k0_cond66], ![k0_cond68, k0_cond70, k0_cond72, k0_cond74]]]

/-- Of direction, step and column block: the offset of the tile whose sending is awaited. -/
def oW : Fin 2 → Fin 3 → Fin 4 → Dev nD → Fin 2 → ℕ :=
  ![![![k0_off67, k0_off69, k0_off71, k0_off73], ![k0_off75, k0_off77, k0_off79, k0_off81], ![k0_off83, k0_off85, k0_off87, k0_off89]],
    ![![k0_off68, k0_off70, k0_off72, k0_off74], ![k0_off76, k0_off78, k0_off80, k0_off82], ![k0_off84, k0_off86, k0_off88, k0_off90]]]

/-- Of the column block: the offset of the device's own reduced tile, as its copies compute it. -/
def oOwn : Fin 4 → Dev nD → Fin 2 → ℕ := ![k0_off51, k0_off54, k0_off57, k0_off60]

/-- Of the column block: the same offset, as its loads compute it. -/
def oLd : Fin 4 → Dev nD → Fin 2 → ℕ := ![k0_off61, k0_off63, k0_off64, k0_off65]

/-- Of exchange and column block: the device a reduced tile is sent to. -/
def eX : Fin 3 → Fin 4 → Dev nD → ℕ :=
  ![![k0_dev29, k0_dev31, k0_dev33, k0_dev35], ![k0_dev30, k0_dev32, k0_dev34, k0_dev36], ![k0_dev37, k0_dev38, k0_dev39, k0_dev40]]

/-- The columns of the second argument that one step of the input pipeline copies. -/
def oD : Fin 8 → Dev nD → Fin 2 → ℕ := ![k0_off1, k0_off2, k0_off3, k0_off4, k0_off5, k0_off6, k0_off7, k0_off8]

/-- The place in the result of a reduced tile: by the column its owner is in (this device's, or its peer's along the
    first mesh axis, along the second, along both) and its column block. -/
def oOut : Fin 4 → Fin 4 → Dev nD → Fin 2 → ℕ :=
  ![fun h c => k0_off62 c (BitVec.ofNat 32 (512 * h.val)),
    fun h c => k0_off66 c 2#32 (BitVec.ofNat 32 (512 * h.val)),
    fun h c => k0_off66 c 1#32 (BitVec.ofNat 32 (512 * h.val)),
    fun h c => k0_off66 c 3#32 (BitVec.ofNat 32 (512 * h.val))]

/-- A tile that is sent lies within the partial product. -/
theorem oS_inb : ∀ d s h c, cS d s h c = 1#1 → ∀ a, oS d s h c a + S512x512.size a ≤ S2048x2048.size a := by decide +kernel
/-- A tile that is sent is made of whole words. -/
theorem oS_words : ∀ d s h c, (k : cS d s h c = 1#1) → (Rect.unit (s := S2048x2048) (oS d s h c) S512x512.size (oS_inb d s h c k)).WholeWords (EltTy.packing .bf16) := by decide +kernel
/-- A tile that a received one is added to lies within the partial product. -/
theorem oR_inb : ∀ d s h c, cR d s h c = 1#1 → ∀ a, oR d s h c a + S512x512.size a ≤ S2048x2048.size a := by decide +kernel
/-- A tile that a received one is added to is made of whole words. -/
theorem oR_words : ∀ d s h c, (k : cR d s h c = 1#1) → (Rect.unit (s := S2048x2048) (oR d s h c) S512x512.size (oR_inb d s h c k)).WholeWords (EltTy.packing .bf16) := by decide +kernel
/-- A tile whose sending is awaited lies within the partial product. -/
theorem oW_inb : ∀ d s h c, cW d s h c = 1#1 → ∀ a, oW d s h c a + S512x512.size a ≤ S2048x2048.size a := by decide +kernel
/-- A tile whose sending is awaited is made of whole words. -/
theorem oW_words : ∀ d s h c, (k : cW d s h c = 1#1) → (Rect.unit (s := S2048x2048) (oW d s h c) S512x512.size (oW_inb d s h c k)).WholeWords (EltTy.packing .bf16) := by decide +kernel
/-- A tile that a received one is added to has its rows packed in whole words. -/
theorem oR_packed : ∀ d s h c, (k : cR d s h c = 1#1) → (Rect.unit (s := S2048x2048) (oR d s h c) S512x512.size (oR_inb d s h c k)).PackedRows (EltTy.packing .bf16) := by decide +kernel
/-- The device a tile is sent to along the third axis exists. -/
theorem eS_lt : ∀ d s h c, cS d s h c = 1#1 → eS d s h c < nD := by decide +kernel
/-- The device a reduced tile is sent to exists. -/
theorem eX_lt : ∀ e h c, eX e h c < nD := by decide +kernel
/-- The device's own reduced tile, as its copies place it, lies within the partial product. -/
theorem oOwn_inb : ∀ h c, ∀ a, oOwn h c a + S512x512.size a ≤ S2048x2048.size a := by decide +kernel
/-- The same tile, as its loads place it, lies within the partial product. -/
theorem oLd_inb : ∀ h c, ∀ a, oLd h c a + S512x512.size a ≤ S2048x2048.size a := by decide +kernel
/-- The device's own reduced tile is made of whole words. -/
theorem oOwn_words : ∀ h c, (Rect.unit (s := S2048x2048) (oOwn h c) S512x512.size (oOwn_inb h c)).WholeWords (EltTy.packing .bf16) := by decide +kernel
/-- What one step of the input pipeline copies lies within the second argument. -/
theorem oD_inb : ∀ k c, ∀ a, oD k c a + S256x2048.size a ≤ S2048x8192.size a := by decide +kernel
/-- A tile that is written out lies within the result. -/
theorem oOut_inb : ∀ j h c, ∀ a, oOut j h c a + S512x512.size a ≤ S512x8192.size a := by decide +kernel

/-- A block of 256 rows lies within a square buffer. -/
theorem inbIn (k : Fin 8) : ∀ a, (![256 * k.val, 0] : Fin 2 → ℕ) a + S256x2048.size a ≤ S2048x2048.size a := by revert k; decide +kernel
/-- A slot lies within an input buffer. -/
theorem inbSt (p : Fin 2) : ∀ a, (![p.val, 0, 0] : Fin 3 → ℕ) a + S1x256x2048.size a ≤ S2x256x2048.size a := by revert p; decide +kernel
/-- A block of 512 rows lies within a square buffer. -/
theorem inbRow (r : Fin 4) : ∀ a, (![512 * r.val, 0] : Fin 2 → ℕ) a + S512x2048.size a ≤ S2048x2048.size a := by revert r; decide +kernel
/-- A block of 512 columns lies within a square buffer. -/
theorem inbCol (r : Fin 4) : ∀ a, (![0, 512 * r.val] : Fin 2 → ℕ) a + S2048x512.size a ≤ S2048x2048.size a := by revert r; decide +kernel
/-- A tile of the first block of rows lies within a square buffer. -/
theorem inbTop (h : Fin 4) : ∀ a, (![0, 512 * h.val] : Fin 2 → ℕ) a + S512x512.size a ≤ S2048x2048.size a := by revert h; decide +kernel
/-- A slot lies within a direction's receive buffer. -/
theorem inbZ (s : Fin 3) (h : Fin 4) : ∀ a, (![s.val, h.val, 0, 0] : Fin 4 → ℕ) a + S1x1x512x512.size a ≤ S3x4x512x512.size a := by revert s h; decide +kernel
/-- A slot lies within an exchange's buffer. -/
theorem inbX (h : Fin 4) : ∀ a, (![h.val, 0, 0] : Fin 3 → ℕ) a + S1x512x512.size a ≤ S4x512x512.size a := by revert h; decide +kernel
/-- A slot lies within the staging buffer. -/
theorem inbStage (p : Fin 2) : ∀ a, (![p.val, 0, 0] : Fin 3 → ℕ) a + S1x512x512.size a ≤ S2x512x512.size a := by revert p; decide +kernel
/-- A semaphore lies within the array of the third axis's semaphores. -/
theorem inbSz (d : Fin 2) (s : Fin 3) (h : Fin 4) : ∀ a, (![d.val, s.val, h.val] : Fin 3 → ℕ) a + S1x1x1.size a ≤ S2x3x4.size a := by revert d s h; decide +kernel
/-- A semaphore lies within the array of the exchanges' semaphores. -/
theorem inbSx (e : Fin 3) (h : Fin 4) : ∀ a, (![e.val, h.val] : Fin 2 → ℕ) a + S1x1.size a ≤ S3x4.size a := by revert e h; decide +kernel
/-- A semaphore lies within the array of the input pipeline's semaphores. -/
theorem inbSi (b p : Fin 2) : ∀ a, (![b.val, p.val] : Fin 2 → ℕ) a + S1x1.size a ≤ S2x2.size a := by revert b p; decide +kernel
/-- A semaphore lies within the array of the staging buffer's semaphores. -/
theorem inbSs (p : Fin 2) : ∀ a, (![p.val] : Fin 1 → ℕ) a + S1.size a ≤ S2.size a := by revert p; decide +kernel
/-- A slot of a direction's receive buffer is made of whole words. -/
theorem wordsZ (s : Fin 3) (h : Fin 4) : (Rect.unit (s := S3x4x512x512) ![s.val, h.val, 0, 0] S1x1x512x512.size (inbZ s h)).WholeWords (EltTy.packing .bf16) := by revert s h; decide +kernel
/-- A slot of an exchange's buffer is made of whole words. -/
theorem wordsX (h : Fin 4) : (Rect.unit (s := S4x512x512) ![h.val, 0, 0] S1x512x512.size (inbX h)).WholeWords (EltTy.packing .bf16) := by revert h; decide +kernel
/-- A tile of the first block of rows is made of whole words. -/
theorem wordsTop (h : Fin 4) : (Rect.unit (s := S2048x2048) ![0, 512 * h.val] S512x512.size (inbTop h)).WholeWords (EltTy.packing .bf16) := by revert h; decide +kernel
/-- A block of 256 rows has its rows packed in whole words. -/
theorem packedIn (k : Fin 8) : (Rect.unit (s := S2048x2048) ![256 * k.val, 0] S256x2048.size (inbIn k)).PackedRows (EltTy.packing .bf16) := by revert k; decide +kernel
/-- A block of 512 rows has its rows packed in whole words. -/
theorem packedRow (r : Fin 4) : (Rect.unit (s := S2048x2048) ![512 * r.val, 0] S512x2048.size (inbRow r)).PackedRows (EltTy.packing .bf16) := by revert r; decide +kernel

/-! ## Memrefs and semaphores -/

abbrev A0 : Memref sig .tc .hbm S2048x2048 .f32 := Memref.whole main_arg0
abbrev A1 : Memref sig .tc .hbm S2048x8192 .f32 := Memref.whole main_arg1
abbrev AO : Memref sig .tc .hbm S512x8192 .f32 := Memref.whole main_v1
abbrev Xb : Memref sig .tc .vmem S2048x2048 .bf16 := Memref.whole cc0_scratch0
abbrev Db : Memref sig .tc .vmem S2048x2048 .bf16 := Memref.whole cc0_scratch1
abbrev Pb : Memref sig .tc .vmem S2048x2048 .bf16 := Memref.whole cc0_scratch2
abbrev St : Memref sig .tc .vmem S2x512x512 .f32 := Memref.whole cc0_scratch8
abbrev Xs : Memref sig .tc .vmem S2x256x2048 .f32 := Memref.whole cc0_scratch9
abbrev Ds : Memref sig .tc .vmem S2x256x2048 .f32 := Memref.whole cc0_scratch10

/-- The buffer tiles are received in, by direction. -/
def Rb : Fin 2 → Memref sig .tc .vmem S3x4x512x512 .bf16 := ![Memref.whole cc0_scratch3, Memref.whole cc0_scratch4]
/-- A direction's receive buffer is a whole buffer. -/
theorem Rb_whole : ∀ d, (Rb d).IsWhole := by
  intro d; fin_cases d <;> exact Memref.isWhole_whole _
/-- The buffer reduced tiles are received in, by exchange. -/
def Eb : Fin 3 → Memref sig .tc .vmem S4x512x512 .bf16 := ![Memref.whole cc0_scratch5, Memref.whole cc0_scratch6, Memref.whole cc0_scratch7]
/-- An exchange's buffer is a whole buffer. -/
theorem Eb_whole : ∀ e, (Eb e).IsWhole := by
  intro d; fin_cases d <;> exact Memref.isWhole_whole _

/-- One slot of a receive buffer. -/
abbrev zSlot (d : Fin 2) (s : Fin 3) (h : Fin 4) : Memref sig .tc .vmem S512x512 .bf16 :=
  ((Rb d).slice (Rect.unit (s := S3x4x512x512) ![s.val, h.val, 0, 0] S1x1x512x512.size (inbZ s h)) (fun _ => rfl)).squeeze S512x512 squeezes_S1x1x512x512_S512x512
/-- One slot of an exchange's buffer. -/
abbrev xSlot (e : Fin 3) (h : Fin 4) : Memref sig .tc .vmem S512x512 .bf16 :=
  ((Eb e).slice (Rect.unit (s := S4x512x512) ![h.val, 0, 0] S1x512x512.size (inbX h)) (fun _ => rfl)).squeeze S512x512 squeezes_S1x512x512_S512x512
/-- A tile of the partial product. -/
abbrev pTile (o : Fin 2 → ℕ) (ho : ∀ a, o a + S512x512.size a ≤ S2048x2048.size a) : Memref sig .tc .vmem S512x512 .bf16 :=
  Pb.slice (Rect.unit (s := S2048x2048) o S512x512.size ho) (fun _ => rfl)
/-- One slot of the staging buffer. -/
abbrev stSlot (p : Fin 2) : Memref sig .tc .vmem S512x512 .f32 :=
  (St.slice (Rect.unit (s := S2x512x512) ![p.val, 0, 0] S1x512x512.size (inbStage p)) (fun _ => rfl)).squeeze S512x512 squeezes_S1x512x512_S512x512
/-- A tile of the result. -/
abbrev oTile (o : Fin 2 → ℕ) (ho : ∀ a, o a + S512x512.size a ≤ S512x8192.size a) : Memref sig .tc .hbm S512x512 .f32 :=
  AO.slice (Rect.unit (s := S512x8192) o S512x512.size ho) (fun _ => rfl)
/-- A block of rows of the first argument. -/
abbrev aX (k : Fin 8) : Memref sig .tc .hbm S256x2048 .f32 :=
  A0.slice (Rect.unit (s := S2048x2048) ![256 * k.val, 0] S256x2048.size (inbIn k)) (fun _ => rfl)
/-- A block of rows of this device's columns of the second argument. -/
abbrev aD (c : Dev nD) (k : Fin 8) : Memref sig .tc .hbm S256x2048 .f32 :=
  A1.slice (Rect.unit (s := S2048x8192) (oD k c) S256x2048.size (oD_inb k c)) (fun _ => rfl)
/-- The input pipeline's slots. -/
abbrev xsSlot (p : Fin 2) : Memref sig .tc .vmem S256x2048 .f32 :=
  (Xs.slice (Rect.unit (s := S2x256x2048) ![p.val, 0, 0] S1x256x2048.size (inbSt p)) (fun _ => rfl)).squeeze S256x2048 squeezes_S1x256x2048_S256x2048
abbrev dsSlot (p : Fin 2) : Memref sig .tc .vmem S256x2048 .f32 :=
  (Ds.slice (Rect.unit (s := S2x256x2048) ![p.val, 0, 0] S1x256x2048.size (inbSt p)) (fun _ => rfl)).squeeze S256x2048 squeezes_S1x256x2048_S256x2048

def zsS (d : Fin 2) (s : Fin 3) (h : Fin 4) : DmaSems sig S_ :=
  (cc0_scratch11.slice (Rect.unit (s := S2x3x4) ![d.val, s.val, h.val] S1x1x1.size (inbSz d s h))).squeeze S_ squeezes_S1x1x1_S_
def zrS (d : Fin 2) (s : Fin 3) (h : Fin 4) : DmaSems sig S_ :=
  (cc0_scratch12.slice (Rect.unit (s := S2x3x4) ![d.val, s.val, h.val] S1x1x1.size (inbSz d s h))).squeeze S_ squeezes_S1x1x1_S_
def xsS (e : Fin 3) (h : Fin 4) : DmaSems sig S_ :=
  (cc0_scratch13.slice (Rect.unit (s := S3x4) ![e.val, h.val] S1x1.size (inbSx e h))).squeeze S_ squeezes_S1x1_S_
def xrS (e : Fin 3) (h : Fin 4) : DmaSems sig S_ :=
  (cc0_scratch14.slice (Rect.unit (s := S3x4) ![e.val, h.val] S1x1.size (inbSx e h))).squeeze S_ squeezes_S1x1_S_
def sgS (p : Fin 2) : DmaSems sig S_ :=
  (cc0_scratch15.slice (Rect.unit (s := S2) ![p.val] S1.size (inbSs p))).squeeze S_ squeezes_S1_S_
def inS (b p : Fin 2) : DmaSems sig S_ :=
  (cc0_scratch16.slice (Rect.unit (s := S2x2) ![b.val, p.val] S1x1.size (inbSi b p))).squeeze S_ squeezes_S1x1_S_

/-! ## The operations -/

def devId : P F (Dev nD) := Prog.lift .deviceId
def cpX (k : Fin 8) (p : Fin 2) : P F PUnit :=
  Prog.lift (.enqueueDma (aX k) (.here (xsSlot p)) (.dma (inS 0 p).sem) (View.wordExact_bits rfl) ((View.wordExact_bits rfl).reshape _ _) ⟨Or.inl rfl, trivial⟩)
def cpD (c : Dev nD) (k : Fin 8) (p : Fin 2) : P F PUnit :=
  Prog.lift (.enqueueDma (aD c k) (.here (dsSlot p)) (.dma (inS 1 p).sem) (View.wordExact_bits rfl) ((View.wordExact_bits rfl).reshape _ _) ⟨Or.inl rfl, trivial⟩)
def wtX (k : Fin 8) (p : Fin 2) : P F PUnit :=
  Prog.lift (.waitDma2 (inS 0 p).sem (aX k) (xsSlot p) (View.wordExact_bits rfl) ((View.wordExact_bits rfl).reshape _ _))
def wtD (c : Dev nD) (k : Fin 8) (p : Fin 2) : P F PUnit :=
  Prog.lift (.waitDma2 (inS 1 p).sem (aD c k) (dsSlot p) (View.wordExact_bits rfl) ((View.wordExact_bits rfl).reshape _ _))
def ldXs (p : Fin 2) : P F (Vec F S1x256x2048 .f32) :=
  Prog.lift (.load Xs (Rect.unit (s := S2x256x2048) ![p.val, 0, 0] S1x256x2048.size (inbSt p)).toLoadRect (View.loadsAt_vmem h_S1x256x2048))
def ldDs (p : Fin 2) : P F (Vec F S1x256x2048 .f32) :=
  Prog.lift (.load Ds (Rect.unit (s := S2x256x2048) ![p.val, 0, 0] S1x256x2048.size (inbSt p)).toLoadRect (View.loadsAt_vmem h_S1x256x2048))
def ldXb (k : Fin 8) : P F (Vec F S256x2048 .bf16) :=
  Prog.lift (.load Xb (Rect.unit (s := S2048x2048) ![256 * k.val, 0] S256x2048.size (inbIn k)).toLoadRect (View.loadsAt_vmem h_S256x2048))
def ldDb (k : Fin 8) : P F (Vec F S256x2048 .bf16) :=
  Prog.lift (.load Db (Rect.unit (s := S2048x2048) ![256 * k.val, 0] S256x2048.size (inbIn k)).toLoadRect (View.loadsAt_vmem h_S256x2048))
def stXb (k : Fin 8) (v : FVec F S256x2048 .bf16) : P F PUnit :=
  Prog.lift (.store Xb (Rect.unit (s := S2048x2048) ![256 * k.val, 0] S256x2048.size (inbIn k)) v Finset.univ (View.stores_vmem h_S256x2048 ((Memref.isWhole_whole _).storeExact_slice rfl _ (packedIn k)) (fun _ => rfl)) (.inl rfl))
def stDb (k : Fin 8) (v : FVec F S256x2048 .bf16) : P F PUnit :=
  Prog.lift (.store Db (Rect.unit (s := S2048x2048) ![256 * k.val, 0] S256x2048.size (inbIn k)) v Finset.univ (View.stores_vmem h_S256x2048 ((Memref.isWhole_whole _).storeExact_slice rfl _ (packedIn k)) (fun _ => rfl)) (.inl rfl))
/-- The semaphore of the opening barrier. -/
abbrev barS : Sems sig S_ := SemArray.scalar (sig.barrier 0 rfl)
def sigUp (c : Dev nD) : P F PUnit :=
  if h : k0_cond1 c = 1#1 then do semSignalWord (⟨k0_dev1 c, k0_dev1_lt c h⟩ : Dev nD) barS.sem 1#32; pure ⟨⟩ else pure ⟨⟩
def sigDn (c : Dev nD) : P F PUnit :=
  if h : k0_cond2 c = 1#1 then do semSignalWord (⟨k0_dev2 c, k0_dev2_lt c h⟩ : Dev nD) barS.sem 1#32; pure ⟨⟩ else pure ⟨⟩
def sigX (c : Dev nD) : P F PUnit := semSignalWord (⟨k0_dev3 c, k0_dev3_lt c⟩ : Dev nD) barS.sem 1#32
def sigY (c : Dev nD) : P F PUnit := semSignalWord (⟨k0_dev4 c, k0_dev4_lt c⟩ : Dev nD) barS.sem 1#32
def barWait (c : Dev nD) : P F PUnit := semWaitWord barS.sem (k0_amt1 c)
def ldXc (r : Fin 4) : P F (Vec F S2048x512 .bf16) :=
  Prog.lift (.load Xb (Rect.unit (s := S2048x2048) ![0, 512 * r.val] S2048x512.size (inbCol r)).toLoadRect (View.loadsAt_vmem h_S2048x512))
def ldDy : P F (Vec F S2048x2048 .bf16) :=
  Prog.lift (.load Db (Rect.unit (s := S2048x2048) ![0, 0] S2048x2048.size inb_S2048x2048_S2048x2048_0_0).toLoadRect (View.loadsAt_vmem h_S2048x2048))
def ldP (r : Fin 4) : P F (Vec F S512x2048 .bf16) :=
  Prog.lift (.load Pb (Rect.unit (s := S2048x2048) ![512 * r.val, 0] S512x2048.size (inbRow r)).toLoadRect (View.loadsAt_vmem h_S512x2048))
def stP (r : Fin 4) (v : FVec F S512x2048 .bf16) : P F PUnit :=
  Prog.lift (.store Pb (Rect.unit (s := S2048x2048) ![512 * r.val, 0] S512x2048.size (inbRow r)) v Finset.univ (View.stores_vmem h_S512x2048 ((Memref.isWhole_whole _).storeExact_slice rfl _ (packedRow r)) (fun _ => rfl)) (.inl rfl))

/-- Send this device's running tile of a direction, when this step is this device's to send in. -/
def sendZ (d : Fin 2) (s : Fin 3) (h : Fin 4) (c : Dev nD) : P F PUnit :=
  if k : cS d s h c = 1#1 then do
    Prog.lift (.enqueueDma (pTile (oS d s h c) (oS_inb d s h c k)) (.remote (Dev.tc (⟨eS d s h c, eS_lt d s h c k⟩ : Dev nD)) (zSlot d s h) (.dma (zsS d s h).sem)) (.dma (zrS d s h).sem)
      ((Memref.isWhole_whole _).wordExact_slice rfl _ (oS_words d s h c k)) (((Rb_whole d).wordExact_slice rfl _ (wordsZ s h)).reshape _ _) ⟨⟨rfl, Or.inl rfl⟩, trivial⟩)
    pure ⟨⟩
  else pure ⟨⟩

/-- The sum of a tile and a received tile. -/
def addV (a : Vec F S512x512 .bf16) (b : Vec F S1x1x512x512 .bf16) : FVec F S512x512 .bf16 := k0_pay23 a b

/-- Receive a tile of a direction and add it to this device's own, when this step is this device's to receive in. -/
def recvZ (d : Fin 2) (s : Fin 3) (h : Fin 4) (c : Dev nD) : P F PUnit :=
  if k : cR d s h c = 1#1 then do
    Prog.lift (.waitDma2 (zrS d s h).sem (pTile ![0, 512 * h.val] (inbTop h)) (zSlot d s h) ((Memref.isWhole_whole _).wordExact_slice rfl _ (wordsTop h)) (((Rb_whole d).wordExact_slice rfl _ (wordsZ s h)).reshape _ _))
    let a : Vec F S512x512 .bf16 ← Prog.lift (.load Pb (Rect.unit (s := S2048x2048) (oR d s h c) S512x512.size (oR_inb d s h c k)).toLoadRect (View.loadsAt_vmem h_S512x512))
    let b : Vec F S1x1x512x512 .bf16 ← Prog.lift (.load (Rb d) (Rect.unit (s := S3x4x512x512) ![s.val, h.val, 0, 0] S1x1x512x512.size (inbZ s h)).toLoadRect (View.loadsAt_vmem h_S1x1x512x512))
    let _ : Vec F S512x512 .bf16 ← Prog.lift (.load Pb (Rect.unit (s := S2048x2048) (oR d s h c) S512x512.size (oR_inb d s h c k)).toLoadRect (View.loadsAt_vmem h_S512x512))
    Prog.lift (.store Pb (Rect.unit (s := S2048x2048) (oR d s h c) S512x512.size (oR_inb d s h c k)) (addV a b) Finset.univ (View.stores_vmem h_S512x512 ((Memref.isWhole_whole _).storeExact_slice rfl _ (oR_packed d s h c k)) (fun _ => rfl)) (.inl rfl))
    pure ⟨⟩
  else pure ⟨⟩

/-- Wait until a tile this device sent has left it. -/
def waitSent (d : Fin 2) (s : Fin 3) (h : Fin 4) (c : Dev nD) : P F PUnit :=
  if k : cW d s h c = 1#1 then do
    Prog.lift (.waitDma2 (zsS d s h).sem (zSlot d s h) (pTile (oW d s h c) (oW_inb d s h c k)) (((Rb_whole d).wordExact_slice rfl _ (wordsZ s h)).reshape _ _) ((Memref.isWhole_whole _).wordExact_slice rfl _ (oW_words d s h c k)))
    pure ⟨⟩
  else pure ⟨⟩

/-- Send the reduced tile to the peer along the first mesh axis (exchange 0) or along the second (exchange 1). -/
def xSend (e : Fin 3) (h : Fin 4) (c : Dev nD) : P F PUnit :=
  Prog.lift (.enqueueDma (pTile (oOwn h c) (oOwn_inb h c)) (.remote (Dev.tc (⟨eX e h c, eX_lt e h c⟩ : Dev nD)) (xSlot e h) (.dma (xsS e h).sem)) (.dma (xrS e h).sem)
    ((Memref.isWhole_whole _).wordExact_slice rfl _ (oOwn_words h c)) (((Eb_whole e).wordExact_slice rfl _ (wordsX h)).reshape _ _) ⟨⟨rfl, Or.inl rfl⟩, trivial⟩)
/-- Send on the tile received from the peer along the first axis to the peer along the second. -/
def xFwd (h : Fin 4) (c : Dev nD) : P F PUnit :=
  Prog.lift (.enqueueDma (xSlot 0 h) (.remote (Dev.tc (⟨eX 2 h c, eX_lt 2 h c⟩ : Dev nD)) (xSlot 2 h) (.dma (xsS 2 h).sem)) (.dma (xrS 2 h).sem)
    (((Eb_whole 0).wordExact_slice rfl _ (wordsX h)).reshape _ _) (((Eb_whole 2).wordExact_slice rfl _ (wordsX h)).reshape _ _) ⟨⟨rfl, Or.inl rfl⟩, trivial⟩)
def xWaitS (e : Fin 3) (h : Fin 4) (c : Dev nD) : P F PUnit :=
  Prog.lift (.waitDma2 (xsS e h).sem (xSlot e h) (pTile (oOwn h c) (oOwn_inb h c)) (((Eb_whole e).wordExact_slice rfl _ (wordsX h)).reshape _ _) ((Memref.isWhole_whole _).wordExact_slice rfl _ (oOwn_words h c)))
def xWaitR (e : Fin 3) (h : Fin 4) (c : Dev nD) : P F PUnit :=
  Prog.lift (.waitDma2 (xrS e h).sem (pTile (oOwn h c) (oOwn_inb h c)) (xSlot e h) ((Memref.isWhole_whole _).wordExact_slice rfl _ (oOwn_words h c)) (((Eb_whole e).wordExact_slice rfl _ (wordsX h)).reshape _ _))
def fWaitS (h : Fin 4) : P F PUnit :=
  Prog.lift (.waitDma2 (xsS 2 h).sem (xSlot 2 h) (xSlot 0 h) (((Eb_whole 2).wordExact_slice rfl _ (wordsX h)).reshape _ _) (((Eb_whole 0).wordExact_slice rfl _ (wordsX h)).reshape _ _))
def fWaitR (h : Fin 4) : P F PUnit :=
  Prog.lift (.waitDma2 (xrS 2 h).sem (xSlot 0 h) (xSlot 2 h) (((Eb_whole 0).wordExact_slice rfl _ (wordsX h)).reshape _ _) (((Eb_whole 2).wordExact_slice rfl _ (wordsX h)).reshape _ _))
def ldOwn (h : Fin 4) (c : Dev nD) : P F (Vec F S512x512 .bf16) :=
  Prog.lift (.load Pb (Rect.unit (s := S2048x2048) (oLd h c) S512x512.size (oLd_inb h c)).toLoadRect (View.loadsAt_vmem h_S512x512))
def ldE (e : Fin 3) (h : Fin 4) : P F (Vec F S1x512x512 .bf16) :=
  Prog.lift (.load (Eb e) (Rect.unit (s := S4x512x512) ![h.val, 0, 0] S1x512x512.size (inbX h)).toLoadRect (View.loadsAt_vmem h_S1x512x512))
def ldSt (p : Fin 2) : P F (Vec F S1x512x512 .f32) :=
  Prog.lift (.load St (Rect.unit (s := S2x512x512) ![p.val, 0, 0] S1x512x512.size (inbStage p)).toLoadRect (View.loadsAt_vmem h_S1x512x512))
def stSt (p : Fin 2) (v : FVec F S1x512x512 .f32) : P F PUnit :=
  Prog.lift (.store St (Rect.unit (s := S2x512x512) ![p.val, 0, 0] S1x512x512.size (inbStage p)) v Finset.univ (View.stores_vmem_bits_univ h_S1x512x512 rfl) (.inl rfl))
def cpOut (j h : Fin 4) (p : Fin 2) (c : Dev nD) : P F PUnit :=
  Prog.lift (.enqueueDma (stSlot p) (.here (oTile (oOut j h c) (oOut_inb j h c))) (.dma (sgS p).sem) ((View.wordExact_bits rfl).reshape _ _) (View.wordExact_bits rfl) ⟨Or.inl rfl, trivial⟩)
def wtOut (j h : Fin 4) (p : Fin 2) (c : Dev nD) : P F PUnit :=
  Prog.lift (.waitDma2 (sgS p).sem (stSlot p) (oTile (oOut j h c) (oOut_inb j h c)) ((View.wordExact_bits rfl).reshape _ _) (View.wordExact_bits rfl))

/-- What follows a conditional operation can be moved into both of its branches. -/
theorem dite_bind {α : Type} {q : Prop} [Decidable q] (a : q → P F PUnit) (b : ¬ q → P F PUnit) (K : PUnit → P F α) :
    (dite q a b >>= K) = dite q (fun k => a k >>= K) (fun k => b k >>= K) := by
  split <;> rfl

end Cert.KernelIdeal.Ring
-- ==== Proof.Tabs.lean ====
module

public import proofs.«01_k».proof.Proof.Ops

/-! The mesh and the tables of the kernel in closed form: who sends what to whom at which step. -/

@[expose] public section

set_option synthInstance.maxSize 4096
set_option maxRecDepth 65536

noncomputable section

namespace Cert.KernelIdeal.Ring

open Idealize.ShloMosaic Idealize.ShloMosaic.TcCoe
open Idealize.SL Idealize.SL.Sem
open Cert.KernelIdeal.Gen

/-! ## The mesh -/

/-- The place along the third axis. -/
def zc (c : Dev nD) : Fin 4 := ⟨c.val % 4, by omega⟩
/-- The place along the third axis as a direction counts it. -/
def zz (d : Fin 2) (c : Dev nD) : ℕ := if d = 0 then (zc c).val else 3 - (zc c).val
/-- A row block as a direction counts it. -/
def flp (d : Fin 2) (r : Fin 4) : Fin 4 := if d = 0 then r else ⟨3 - r.val, by omega⟩

def nxtF (d : Fin 2) (c : Dev nD) : Dev nD :=
  ⟨c.val / 4 * 4 + (c.val % 4 + (if d = 0 then 1 else 3)) % 4, by have : c.val < 16 := c.isLt; show _ < 16; omega⟩
def pxF (c : Dev nD) : Dev nD := ⟨(c.val + 8) % 16, by show _ < 16; omega⟩
def pyF (c : Dev nD) : Dev nD := ⟨c.val / 8 * 8 + (c.val + 4) % 8, by have : c.val < 16 := c.isLt; show _ < 16; omega⟩

/-- The neighbour in a direction (the ends wrap round; no copy crosses there). -/
def nx (d : Fin 2) : Equiv.Perm (Dev nD) where
  toFun := nxtF d
  invFun := nxtF (1 - d)
  left_inv := by revert d; decide +kernel
  right_inv := by revert d; decide +kernel
/-- The peer along the first axis. -/
def px : Equiv.Perm (Dev nD) where
  toFun := pxF
  invFun := pxF
  left_inv := by unfold Function.LeftInverse; decide +kernel
  right_inv := by unfold Function.RightInverse Function.LeftInverse; decide +kernel
/-- The peer along the second axis. -/
def py : Equiv.Perm (Dev nD) where
  toFun := pyF
  invFun := pyF
  left_inv := by unfold Function.LeftInverse; decide +kernel
  right_inv := by unfold Function.RightInverse Function.LeftInverse; decide +kernel

/-- The remote copies of one device: by direction, step and column block, then by exchange and column block. -/
abbrev J : Type := (Fin 2 × Fin 3 × Fin 4) ⊕ (Fin 3 × Fin 4)

/-- The device a copy goes to. -/
def dst : J → Equiv.Perm (Dev nD)
  | .inl (d, _, _) => nx d
  | .inr (e, _) => if e = 0 then px else py

/-- Whether a device makes a copy. -/
def act : J → Dev nD → Bool
  | .inl (d, s, _), c => decide (zz d c < 3 ∧ zz d c ≤ s.val)
  | .inr _, _ => true
/-- Whether a device receives a copy. -/
abbrev actR (j : J) (c : Dev nD) : Bool := act j ((dst j).symm c)

/-- The row block a device sends in a direction at a step. -/
def rowS (d : Fin 2) (s : Fin 3) (c : Dev nD) : Fin 4 := flp d ⟨(zz d c + 3 - s.val) % 4, by omega⟩
/-- The row block a device receives. -/
def rowR (d : Fin 2) (s : Fin 3) (c : Dev nD) : Fin 4 := flp d ⟨(zz d c + 2 - s.val) % 4, by omega⟩

/-- The device a barrier signal goes to. -/
def bto (b : Fin 4) : Equiv.Perm (Dev nD) := if b = 0 then nx 0 else if b = 1 then nx 1 else if b = 2 then px else py
/-- Whether a device gives a barrier signal. -/
def bact (b : Fin 4) (c : Dev nD) : Bool := if b = 0 then decide ((zc c).val < 3) else if b = 1 then decide (0 < (zc c).val) else true
/-- The barrier signal that hands over a copy's slot. -/
def brr : J → Fin 4
  | .inl (d, _, _) => if d = 0 then 1 else 0
  | .inr (e, _) => if e = 0 then 2 else 3

/-- The place of a signal or a copy in a device's program. -/
def pos : Fin 4 ⊕ J → ℕ
  | .inl b => b.val
  | .inr (.inl (d, s, h)) => 4 + 8 * s.val + 2 * h.val + d.val
  | .inr (.inr (e, h)) => if e = 2 then 36 + h.val else 28 + 2 * h.val + e.val

/-- No two signals or copies have the same place. -/
theorem pos_inj : ∀ i i' : Fin 4 ⊕ J, pos i = pos i' → i = i' := by decide +kernel

/-! ## The tables in closed form -/

/-- A device sends when the closed form says so. -/
theorem cS_iff : ∀ d s h c, cS d s h c = 1#1 ↔ act (.inl (d, s, h)) c = true := by decide +kernel
/-- A device awaits a sent tile when it sent one. -/
theorem cW_iff : ∀ d s h c, cW d s h c = 1#1 ↔ act (.inl (d, s, h)) c = true := by decide +kernel
/-- A device receives when the device before it sends. -/
theorem cR_iff : ∀ d s h c, cR d s h c = 1#1 ↔ actR (.inl (d, s, h)) c = true := by decide +kernel
/-- The offset of a sent tile. -/
theorem oS_eq : ∀ d s h c, act (.inl (d, s, h)) c = true → oS d s h c = ![512 * (rowS d s c).val, 512 * h.val] := by decide +kernel
/-- The offset of a tile whose sending is awaited. -/
theorem oW_eq : ∀ d s h c, act (.inl (d, s, h)) c = true → oW d s h c = ![512 * (rowS d s c).val, 512 * h.val] := by decide +kernel
/-- The offset of the tile a received one is added to. -/
theorem oR_eq : ∀ d s h c, actR (.inl (d, s, h)) c = true → oR d s h c = ![512 * (rowR d s c).val, 512 * h.val] := by decide +kernel
/-- The device a tile is sent to along the third axis. -/
theorem eS_eq : ∀ d s h c, act (.inl (d, s, h)) c = true → eS d s h c = (dst (.inl (d, s, h)) c).val := by decide +kernel
/-- The device a reduced tile is sent to. -/
theorem eX_eq : ∀ e h c, eX e h c = (dst (.inr (e, h)) c).val := by decide +kernel
/-- The offset of the own reduced tile, as its copies compute it, -/
theorem oOwn_eq : ∀ h c, oOwn h c = ![512 * (zc c).val, 512 * h.val] := by decide +kernel
/-- and as its loads compute it. -/
theorem oLd_eq : ∀ h c, oLd h c = ![512 * (zc c).val, 512 * h.val] := by decide +kernel
/-- The row block received is the one the device before sends. -/
theorem rowR_eq : ∀ d s h c, actR (.inl (d, s, h)) c = true → rowR d s c = rowS d s ((dst (.inl (d, s, h))).symm c) := by decide +kernel

/-- The column of devices a device is in. -/
def qc (c : Dev nD) : Fin 4 := ⟨c.val / 4 % 4, by omega⟩
/-- The device of a column at a place along the third axis. -/
def devOf (q z : Fin 4) : Dev nD := ⟨4 * q.val + z.val, by show _ < 16; omega⟩
/-- The column a written tile comes from: this device's, its peers' along the first axis, the second, both. -/
def qj (j : Fin 4) (c : Dev nD) : Fin 4 :=
  ![qc c, qc (px c), qc (py c), qc (px (py c))] j
/-- The offset of what the input pipeline copies of the second argument. -/
theorem oD_eq : ∀ k c, oD k c = ![256 * k.val, 2048 * (qc c).val] := by decide +kernel
/-- The offset of a tile that is written out. -/
theorem oOut_eq : ∀ j h c, oOut j h c = ![0, 2048 * (qj j c).val + 512 * h.val] := by decide +kernel
/-- The four columns written are different, -/
theorem qj_inj : ∀ c j j', qj j c = qj j' c → j = j' := by decide +kernel
/-- and they are all the columns. -/
theorem qj_surj : ∀ c q, ∃ j, qj j c = q := by decide +kernel
/-- At this device's place, the four columns have this device, its peers, and its peers' peer. -/
theorem devOf_qj : ∀ j c, devOf (qj j c) (zc c) = ![c, px c, py c, px (py c)] j := by decide +kernel
/-- The order of the two peers does not matter. -/
theorem px_py : ∀ c, py (px c) = px (py c) := by decide +kernel
/-- A peer along the first axis has the same place along the third. -/
theorem zc_px : ∀ c, zc (px c) = zc c := by decide +kernel
/-- So has a peer along the second axis. -/
theorem zc_py : ∀ c, zc (py c) = zc c := by decide +kernel

/-- A device signals towards larger `z` unless it is last. -/
theorem sigUp_iff : ∀ c, k0_cond1 c = 1#1 ↔ bact 0 c = true := by decide +kernel
/-- A device signals towards smaller `z` unless it is first. -/
theorem sigDn_iff : ∀ c, k0_cond2 c = 1#1 ↔ bact 1 c = true := by decide +kernel
/-- The device signalled towards larger `z`. -/
theorem dev1_eq' : ∀ c, bact 0 c = true → k0_dev1 c = (bto 0 c).val := by decide +kernel
/-- The device signalled towards smaller `z`. -/
theorem dev2_eq' : ∀ c, bact 1 c = true → k0_dev2 c = (bto 1 c).val := by decide +kernel
/-- The device signalled along the first axis. -/
theorem dev3_eq' : ∀ c, k0_dev3 c = (bto 2 c).val := by decide +kernel
/-- The device signalled along the second axis. -/
theorem dev4_eq' : ∀ c, k0_dev4 c = (bto 3 c).val := by decide +kernel

/-- A signal's slots are those its receiver copies into. -/
theorem dst_bto : ∀ j c, dst j (bto (brr j) c) = c := by decide +kernel
/-- The device whose signal hands over a copy's slot is the one the copy goes to. -/
theorem bto_symm : ∀ j c, (bto (brr j)).symm c = dst j c := by decide +kernel
/-- The device a copy comes from is the one that its slot's signal goes to. -/
theorem dst_symm : ∀ j c, (dst j).symm c = bto (brr j) c := by decide +kernel
/-- A device that receives a copy gives the signal that hands over its slot. -/
theorem bact_of_act : ∀ j c, act j (bto (brr j) c) = true → bact (brr j) c = true := by decide +kernel
/-- The signals a device waits for. -/
theorem amt_eq : ∀ c, (k0_amt1 c).toNat = ∑ b : Fin 4, if bact b ((bto b).symm c) then 1 else 0 := by decide +kernel

/-! ## The semaphores -/

/-- The cells of one device that others or its remote copies credit: the barrier's, and each copy's sending and
    receiving cells. -/
abbrev C : Type := Option (Bool × J)

def sendSem : J → DmaSem sig
  | .inl (d, s, h) => (zsS d s h).sem
  | .inr (e, h) => (xsS e h).sem
def recvSem : J → DmaSem sig
  | .inl (d, s, h) => (zrS d s h).sem
  | .inr (e, h) => (xrS e h).sem

def csem : C → SemLoc sig
  | none => .reg barS.sem
  | some (false, j) => .dma (sendSem j)
  | some (true, j) => .dma (recvSem j)

/-- Different cells of a device have different semaphores. -/
theorem csem_inj : Function.Injective csem := by unfold Function.Injective; decide +kernel

/-- No cell is a semaphore of the input pipeline. -/
theorem csem_in : ∀ k b p, csem k ≠ .dma (inS b p).sem := by decide +kernel
/-- No cell is a semaphore of the staging buffer. -/
theorem csem_sg : ∀ k p, csem k ≠ .dma (sgS p).sem := by decide +kernel

end Cert.KernelIdeal.Ring
-- ==== Proof.Mem.lean ====
module

public import proofs.«01_k».proof.Proof.Tabs
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref
public import Idealize.ShloMosaic.Lib.ViewIndex

/-! Loads, stores and local copies of owned slices; a buffer as its grid of equal tiles. -/

@[expose] public section

set_option synthInstance.maxSize 4096

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER : Emb UB 𝕄).LandsIn (upEmb : UEmb _ 𝕄) := by unfold ER; infer_instance
/-- The local copies' component. -/
abbrev EC : UEmb Counters (MT nD τ sig Unit (Elt F) ℕ UU ℕ) := countersEmb
instance : (EC : UEmb Counters 𝕄).LandsIn (upEmb : UEmb _ 𝕄) := by unfold EC; infer_instance

abbrev 𝒱₀ : Variants := Variants.none

/-- Device `c`'s program `p` runs and ends with `Q`. -/
abbrev wpK (c : Dev nD) {α : Type} (p : P F α) (Q : α → sProp 𝕄) : sProp 𝕄 :=
  wp frame (wpE (defs₀ (F := F)) 𝒱₀ (c : Thread nD τ) none) Set.univ p Q

/-- From `A`, device `c`'s program `p` ends with the value `v` and `B`. -/
abbrev Tr (c : Dev nD) {α : Type} (A : sProp 𝕄) (p : P F α) (v : α) (B : sProp 𝕄) : Prop :=
  A ⊢ wpK c p (fun a => iprop(⌜a = v⌝ ∗ B))

section Tr

variable {c : Dev nD} {α β : Type} {A A' B B' R C : sProp (MT nD τ sig Unit (Elt F) ℕ UU ℕ)} {p : P F α} {v : α}

/-- The rest of a program after its beginning. -/
theorem Tr.seq (h : Tr c A p v B) {k : α → P F β} {Q : β → sProp 𝕄} :
    A ⊢ iprop((B -∗ wpK c (k v) Q) -∗ wpK c (p >>= k) Q) := by
  have e : wpK c (p >>= k) Q = wpK c p (fun a => wpK c (k a) Q) := wp_bind _ _ _ _ _ _
  rw [e]
  refine h.trans ((wp_wand _ _ _ (Q' := fun a => wpK c (k a) Q)).trans (wand_mono_left ?_))
  iintro Hk %a ⟨%ha, HB⟩
  subst ha
  iapply Hk; iexact HB

/-- Two programs in order, the second starting with what the first leaves. -/
theorem Tr.bind (h : Tr c A p v B) {k : α → P F β} {w : β} (h' : Tr c B (k v) w C) : Tr c A (p >>= k) w C := by
  unfold Tr
  iintro HA
  iapply h.seq $$ HA
  iintro HB
  iapply h'; iexact HB

/-- A program may be given more and asked for less. -/
theorem Tr.conseq (h : Tr c A p v B) (hA : A' ⊢ A) (hB : B ⊢ B') : Tr c A' p v B' :=
  hA.trans (h.trans (wp_mono _ _ _ fun _ => sep_mono_right hB))

/-- What a program does not use is kept. -/
theorem Tr.frame (h : Tr c A p v B) (R : sProp 𝕄) : Tr c iprop(A ∗ R) p v iprop(B ∗ R) := by
  refine (sep_mono_left h).trans ((wp_frame_r _ _ _).trans (wp_mono _ _ _ fun a => ?_))
  iintro ⟨⟨%ha, HB⟩, HR⟩
  isplitr; · ipureintro; exact ha
  isplitl [HB] <;> iassumption

/-- A program that only returns a value changes nothing. -/
theorem Tr.ret : Tr c A (pure v : P F α) v A := by
  unfold Tr
  iintro HA
  simp only [Prog.pure_eq_ret, wp_ret]
  imodintro
  isplitr; · ipureintro; trivial
  iexact HA

/-- A pure hypothesis may be used. -/
theorem Tr.pure {q : Prop} (h : q → Tr c A p v B) : Tr c iprop(⌜q⌝ ∗ A) p v B := by
  unfold Tr
  iintro ⟨%hq, HA⟩
  iapply (h hq); iexact HA

/-- A program that runs from each instance runs from some instance. -/
theorem Tr.ex {T : Type} {A : T → sProp 𝕄} (h : ∀ x, Tr c (A x) p v B) : Tr c iprop(∃ x, A x) p v B := by
  unfold Tr
  iintro ⟨%x, HA⟩
  iapply (h x); iexact HA

/-- The rule of one operation, as it is stated of the rest of the program. -/
theorem Tr.of_op {e : TpuEff nD τ sig (Elt F) Λ₀ .tc α}
    (h : ∀ (Q : α → sProp 𝕄), A ⊢ iprop((B -∗ wpK c (.ret v) Q) -∗ wpK c (.op e .ret) Q)) : Tr c A (Prog.lift e) v B := by
  unfold Tr
  iintro HA
  iapply (h _) $$ HA
  iintro HB
  simp only [wp_ret]
  imodintro
  isplitr; · ipureintro; trivial
  iexact HB

end Tr

/-! ## Rules on owned memrefs -/

section Rules

variable (c : Dev nD) {sp : Space} {s : Shape} {e : EltTy}

/-- Loading a rectangle of an owned memref. -/
theorem ld_sub {cs : CoreSpace} (m : Memref sig .tc cs s e) (r : Rect s) (hl : m.view.LoadsAt r.toLoadRect) (q : PosShare TreeShare) (X : s.Idx → Elt F e) :
    Tr c (ownsTc c m q X) (Prog.lift (.load m r.toLoadRect hl)) (fun j => X (r.emb j)) (ownsTc c m q X) := by
  refine Tr.of_op fun Q => ?_
  unfold ownsTc owns
  iintro ⟨%f, %hf, H⟩ Hk
  subst hf
  iapply (wp_load 𝒱₀ (c : Thread nD τ) none Set.univ (m := m) (r := r.toLoadRect) (hl := hl) (S := m.view.set) (f := f)
    (show m.view.setOn r.toLoadRect.set ⊆ m.view.set from Finset.map_subset_map.mpr (Finset.subset_univ _))) $$ H
  iintro H
  iapply Hk
  iexists f
  isplitr; · ipureintro; rfl
  iexact H

/-- Loading an owned slice. -/
theorem ld_slice {cs : CoreSpace} (m : Memref sig .tc cs s e) (r : Rect s) (hr : ∀ a, r.stride a = 1) (hl : m.view.LoadsAt r.toLoadRect) (q : PosShare TreeShare)
    (X : r.shape.Idx → Elt F e) :
    Tr c (ownsTc c (m.slice r hr) q X) (Prog.lift (.load m r.toLoadRect hl)) X (ownsTc c (m.slice r hr) q X) := by
  refine Tr.of_op fun Q => ?_
  unfold ownsTc owns
  iintro ⟨%f, %hf, H⟩ Hk
  subst hf
  iapply (wp_load_rect 𝒱₀ (c : Thread nD τ) none Set.univ (m := m) (r := r) (hl := hl) (S := (m.access r).set) (f := f) subset_rfl) $$ H
  iintro H
  iapply Hk
  iexists f
  isplitr; · ipureintro; rfl
  iexact H

/-- Storing to an owned slice. -/
theorem st_slice {cs : CoreSpace} (m : Memref sig .tc cs s e) (r : Rect s) (hr : ∀ a, r.stride a = 1)
    (w : r.shape.Idx → Elt F e) (hx : (m.access r).Stores Finset.univ) (hm) (X : r.shape.Idx → Elt F e) :
    Tr c (ownsTc c (m.slice r hr) fullShare X) (Prog.lift (.store m r w Finset.univ hx hm)) ⟨⟩ (ownsTc c (m.slice r hr) fullShare w) := by
  refine Tr.of_op fun Q => ?_
  unfold ownsTc owns
  iintro ⟨%f, %hf, H⟩ Hk
  iapply (wp_store 𝒱₀ (c : Thread nD τ) none Set.univ (m := m) (r := r) (w := w) (Mk := Finset.univ) (hx := hx) (hm := hm) (S := (m.access r).set) (f := f)
    (show (m.access r).setOn Finset.univ ⊆ (m.access r).set from subset_rfl)) $$ H
  iintro H
  iapply Hk
  iexists (m.access r).write (Elt F) f w Finset.univ
  isplitr; · ipureintro; exact View.read_write_univ _ _
  iexact H

/-- Contents of a memref read through its squeezed form. -/
def sq {s s' : Shape} {α : Type} (h : s.Squeezes s') (Y : s.Idx → α) : s'.Idx → α := fun i => Y (Shape.reshapeEquiv h.numel_eq i)

/-- Leaving out the axes of size one loses nothing. -/
theorem sq_inj {s s' : Shape} {α : Type} (h : s.Squeezes s') {Y Y' : s.Idx → α} (e : sq h Y = sq h Y') : Y = Y' := by
  funext i
  have := congrFun e ((Shape.reshapeEquiv h.numel_eq).symm i)
  simpa only [sq, Equiv.apply_symm_apply] using this

/-- The contents of a memref whose squeezed form reads `X`. -/
def unsq {s s' : Shape} {α : Type} (h : s.Squeezes s') (X : s'.Idx → α) : s.Idx → α := fun i => X ((Shape.reshapeEquiv h.numel_eq).symm i)

/-- Putting the axes of size one in and leaving them out again changes nothing. -/
theorem sq_unsq {s s' : Shape} {α : Type} (h : s.Squeezes s') (X : s'.Idx → α) : sq h (unsq h X) = X := by
  funext i; simp only [sq, unsq, Equiv.symm_apply_apply]

/-- A squeezed memref is owned as the memref is. -/
theorem owns_squeeze (m : Memref sig .tc sp s e) {s' : Shape} (h : s.Squeezes s') (q : PosShare TreeShare) (Y : s.Idx → Elt F e) :
    (ownsTc c (m.squeeze s' h) q (sq h Y) : sProp 𝕄) = ownsTc c m q Y := by
  unfold ownsTc owns
  have hr : ∀ f : m.view.ty.Contents (Elt F), (m.squeeze s' h).view.read (Elt F) f = sq h (m.view.read (Elt F) f) := fun f => rfl
  have hs : (m.squeeze s' h).view.set = m.view.set := View.set_reshape _ _
  have h1 : ∀ f : m.view.ty.Contents (Elt F), ((m.squeeze s' h).view.read (Elt F) f = sq h Y) = (m.view.read (Elt F) f = Y) := fun f =>
    propext ⟨fun k => sq_inj h ((hr f).symm.trans k), fun k => (hr f).trans (congrArg (sq h) k)⟩
  show iprop(∃ f : m.view.ty.Contents (Elt F), ⌜(m.squeeze s' h).view.read (Elt F) f = sq h Y⌝ ∗ (m.view.loc (c : Thread nD τ) ↦[(m.squeeze s' h).view.set]{q} f)) = _
  simp only [h1, hs]

/-- Owning a squeezed buffer at a value is owning the buffer at the value with the axes put in. -/
theorem owns_unsq (m : Memref sig .tc sp s e) {s' : Shape} (h : s.Squeezes s') (q : PosShare TreeShare) (X : s'.Idx → Elt F e) :
    (ownsTc c (m.squeeze s' h) q X : sProp 𝕄) = ownsTc c m q (unsq h X) := by
  rw [← owns_squeeze c m h q, sq_unsq]

/-- Loading an owned squeezed slice. -/
theorem ld_sq {cs : CoreSpace} (m : Memref sig .tc cs s e) (r : Rect s) (hr : ∀ a, r.stride a = 1) {s' : Shape} (h : r.shape.Squeezes s')
    (hl : m.view.LoadsAt r.toLoadRect) (q : PosShare TreeShare) (X : s'.Idx → Elt F e) :
    Tr c (ownsTc c ((m.slice r hr).squeeze s' h) q X) (Prog.lift (.load m r.toLoadRect hl)) (unsq h X) (ownsTc c ((m.slice r hr).squeeze s' h) q X) := by
  rw [owns_unsq]; exact ld_slice c m r hr hl q _

/-- Storing to an owned squeezed slice. -/
theorem st_sq {cs : CoreSpace} (m : Memref sig .tc cs s e) (r : Rect s) (hr : ∀ a, r.stride a = 1) {s' : Shape} (h : r.shape.Squeezes s')
    (w : r.shape.Idx → Elt F e) (hx : (m.access r).Stores Finset.univ) (hm) (X : s'.Idx → Elt F e) :
    Tr c (ownsTc c ((m.slice r hr).squeeze s' h) fullShare X) (Prog.lift (.store m r w Finset.univ hx hm)) ⟨⟩
      (ownsTc c ((m.slice r hr).squeeze s' h) fullShare (sq h w)) := by
  rw [owns_unsq, owns_squeeze]; exact st_slice c m r hr w hx hm _

/-- An owned memref, its share in two. -/
theorem owns_split (m : Memref sig .tc sp s e) (q : PosShare TreeShare) (X : s.Idx → Elt F e) :
    (ownsTc c m q X : sProp 𝕄) ⊢ iprop(ownsTc c m q.left X ∗ ownsTc c m q.right X) := by
  unfold ownsTc owns
  iintro ⟨%f, %hf, H⟩
  ihave H := (pointsTo_share (PosShare.mem_left_op_right q)).1 $$ H
  icases H with ⟨Hl, Hr⟩
  isplitl [Hl]
  · iexists f; isplitr; · ipureintro; exact hf
    iexact Hl
  · iexists f; isplitr; · ipureintro; exact hf
    iexact Hr

/-- The two halves of a share of a buffer, with the same contents, make the share. -/
theorem owns_join (m : Memref sig .tc sp s e) (q : PosShare TreeShare) (X : s.Idx → Elt F e) :
    iprop(ownsTc c m q.left X ∗ ownsTc c m q.right X) ⊢ (ownsTc c m q X : sProp 𝕄) := by
  unfold ownsTc owns
  iintro ⟨⟨%f, %hf, Hl⟩, ⟨%g, %hg, Hr⟩⟩
  have hfg : ∀ i ∈ m.view.set, g i = f i := by
    intro i hi
    obtain ⟨x, -, rfl⟩ := Finset.mem_map.mp hi
    exact View.eq_of_read_eq (congrFun (hg.trans hf.symm) x)
  iexists f
  isplitr; · ipureintro; exact hf
  have e : (m.view.loc (c : Thread nD τ) ↦[m.view.set]{q.right} g : sProp 𝕄) = (m.view.loc (c : Thread nD τ) ↦[m.view.set]{q.right} f) := pointsTo_congr hfg
  iapply (pointsTo_share (PosShare.mem_left_op_right q)).2
  isplitl [Hl]; · iexact Hl
  rw [← e]; iexact Hr

/-- Starting a local copy. -/
theorem cp_here {sp' : Space} (src : Memref sig .tc sp s e) (dst : Memref sig .tc sp' s e) (sm : DmaSem sig) (hsrc hdst hsem)
    (N : ℕ) (hN : dst.view.amount (.dma sm) = N) (hN0 : 0 < N) (q : PosShare TreeShare) (X Y : s.Idx → Elt F e) :
    Tr c iprop(ownsTc c src q X ∗ ownsTc c dst fullShare Y ∗ semVal ((c : Thread nD τ), .dma sm) 0)
      (Prog.lift (.enqueueDma src (.here dst) (.dma sm) hsrc hdst hsem)) ⟨⟩
      (Transfers.Flight (EC (F := F)) (c : Thread nD τ) (.dma sm) () N iprop(ownsTc c dst fullShare X ∗ ownsTc c src q X)) := by
  refine Tr.of_op fun Q => ?_
  unfold ownsTc owns
  iintro ⟨⟨%f, %hf, Hs⟩, ⟨%g, %hg, Hd⟩, Hv⟩ Hk
  subst hf
  iapply (Transfers.wp_dmaLocal (EC (F := F)) 𝒱₀ (c : Thread nD τ) none (src := src) (dst := dst) (fs := f) (fd := g) (Sd := dst.view.set) () N hN hN0 subset_rfl) $$ [Hs Hd Hv]
  · isplitl [Hs]; · iexact Hs
    isplitl [Hd] <;> iassumption
  iintro Hf
  iapply Hk
  iapply (Transfers.Flight_mono (EC (F := F)) (c : Thread nD τ) ?_) $$ Hf
  iintro ⟨Hd, Hs⟩
  isplitl [Hd]
  · iexists (dst.view.write (Elt F) g (src.view.read (Elt F) f) Finset.univ)
    isplitr; · ipureintro; exact View.read_write_univ _ _
    iexact Hd
  · iexists f
    isplitr; · ipureintro; rfl
    iexact Hs

/-- Awaiting a local copy. -/
theorem wt_here {sp' : Space} {s' : Shape} {e' : EltTy} (srcw : Memref sig .tc sp' s' e') (dstw : Memref sig .tc sp s e) (sm : DmaSem sig) (hsrc hdst)
    (N : ℕ) (hN : dstw.view.dmaCredit = N) (D : sProp 𝕄) (O : CellTallies nD τ sig Unit) (W : Waits sig Unit) :
    Tr c iprop(Transfers.Flight (EC (F := F)) (c : Thread nD τ) (.dma sm) () N D ∗ owes (c : Thread nD τ) O W ∗ MayWait (c : Thread nD τ) (.dma sm) () O)
      (Prog.lift (.waitDma2 sm srcw dstw hsrc hdst)) ⟨⟩
      iprop(D ∗ semVal ((c : Thread nD τ), .dma sm) 0 ∗ owes (c : Thread nD τ) O (insert (SemLoc.dma sm, ()) W)) :=
  Tr.of_op fun Q => Transfers.wp_waitLocalO (EC (F := F)) 𝒱₀ (c : Thread nD τ) none () hN

end Rules

/-! ## Grids -/

section Grid

variable {s : Shape} {T : Type} [Fintype T] [DecidableEq T]

/-- Boxes of one size set apart along some axis are disjoint. -/
theorem grid_disj (o : T → Fin s.rank → ℕ) (sz : Fin s.rank → ℕ) (h : ∀ t a, o t a + sz a ≤ s.size a)
    (hs : ∀ t t', t ≠ t' → ∃ a, o t a + sz a ≤ o t' a ∨ o t' a + sz a ≤ o t a) (t t' : T) (ht : t ≠ t') :
    Disjoint (Rect.unit (s := s) (o t) sz (h t)).set (Rect.unit (s := s) (o t') sz (h t')).set := by
  rw [Finset.disjoint_left]
  intro i h₁ h₂
  obtain ⟨a, ha⟩ := hs t t' ht
  have h1 := Rect.mem_set_unit.mp h₁ a
  have h2 := Rect.mem_set_unit.mp h₂ a
  omega

/-- Disjoint boxes with as many elements together as the shape cover it. -/
theorem grid_cov (r : T → Rect s) (hd : ∀ t t', t ≠ t' → Disjoint (r t).set (r t').set)
    (n : ℕ) (hn : ∀ t, (r t).shape.numel = n) (h : Fintype.card T * n = s.numel) :
    (Finset.univ : Finset T).biUnion (fun t => (r t).set) = Finset.univ := by
  apply Finset.eq_univ_of_card
  rw [Finset.card_biUnion (fun t _ t' _ ht => hd t t' ht), Shape.card_idx, ← h]
  rw [Finset.sum_congr rfl fun t _ => (show (r t).set.card = n by
    rw [← Rect.map_emb_univ, Finset.card_map, Finset.card_univ, Shape.card_idx, hn])]
  simp

variable (c : Dev nD) {sp : Space} {e : EltTy} (m : Memref sig .tc sp s e) (r : T → Rect s) (hr : ∀ t a, (r t).stride a = 1)
  (hd : ∀ t t', t ≠ t' → Disjoint (r t).set (r t').set)
  (hcov : (Finset.univ : Finset T).biUnion (fun t => (r t).set) = Finset.univ)

/-- A memref owned at some contents. -/
abbrev ownsX {s : Shape} (c : Dev nD) (m : Memref sig .tc sp s e) : sProp 𝕄 := iprop(∃ X, ownsTc c m fullShare X)

include hd hcov

/-- A buffer, whatever it holds, gives the blocks of a grid that covers it. -/
theorem grid_split : (ownsX c m : sProp 𝕄) ⊢ bigSep Finset.univ fun t => ownsX c (m.slice (r t) (hr t)) := by
  unfold ownsX
  iintro ⟨%X, H⟩
  ihave H := (owns_rects (c : Thread nD τ) m fullShare r hr hd hcov X) $$ H
  have hm : (bigSep Finset.univ fun t => ownsTc c (m.slice (r t) (hr t)) fullShare (fun j => X ((r t).emb j)) : sProp 𝕄)
      ⊢ bigSep Finset.univ fun t => ownsX c (m.slice (r t) (hr t)) := by
    refine bigSep_mono fun t _ => ?_
    show (ownsTc c (m.slice (r t) (hr t)) fullShare (fun j => X ((r t).emb j)) : sProp 𝕄) ⊢ iprop(∃ X, ownsTc c (m.slice (r t) (hr t)) fullShare X)
    iintro H
    iexists (fun j => X ((r t).emb j))
    iexact H
  iapply hm $$ H

/-- Blocks with contents make the buffer with the contents put together. -/
theorem grid_glue (Z : (t : T) → (r t).shape.Idx → Elt F e) :
    (bigSep Finset.univ fun t => ownsTc c (m.slice (r t) (hr t)) fullShare (Z t)) ⊢ (ownsTc c m fullShare (Rect.glue r hcov Z) : sProp 𝕄) := by
  refine Entails.trans (Entails.of_eq ?_) (owns_of_rects (c : Thread nD τ) m fullShare r hr hd hcov (Rect.glue r hcov Z))
  refine bigSep_congr fun t _ => ?_
  show owns _ _ _ _ = owns _ _ _ _
  congr 1
  funext j
  exact (Rect.glue_emb r hcov hd Z t j).symm

/-- Blocks, whatever they hold, make the buffer. -/
theorem grid_join : (bigSep Finset.univ fun t => ownsX c (m.slice (r t) (hr t))) ⊢ (ownsX c m : sProp 𝕄) := by
  refine (bigSep_exists_pi _ _).trans ?_
  iintro ⟨%Z, H⟩
  iexists (Rect.glue r hcov Z)
  iapply (grid_glue c m r hr hd hcov Z) $$ H

end Grid

end Cert.KernelIdeal.Ring
-- ==== Proof.Vals.lean ====
module

public import proofs.«01_k».proof.Proof.Mem

/-! The grids of tiles the buffers are used as, and what each tile holds. -/

@[expose] public section

set_option synthInstance.maxSize 4096
set_option maxRecDepth 65536

noncomputable section

namespace Cert.KernelIdeal.Ring

open Idealize.ShloMosaic Idealize.ShloMosaic.TcCoe
open Idealize.SL Idealize.SL.Sem
open Cert.KernelIdeal.Gen

variable {F : FTy → Type} [FloatOps F]

/-! ## Grids -/

/-- A block of 256 rows of a square buffer. -/
abbrev rowR8 (k : Fin 8) : Rect S2048x2048 := Rect.unit (s := S2048x2048) ![256 * k.val, 0] S256x2048.size (inbIn k)
/-- Different blocks of 256 rows have no place in common. -/
theorem rowR8_disj : ∀ t t', t ≠ t' → Disjoint (rowR8 t).set (rowR8 t').set := grid_disj _ _ _ (by decide +kernel)
/-- The blocks of 256 rows cover the buffer. -/
theorem rowR8_cov : (Finset.univ : Finset (Fin 8)).biUnion (fun t => (rowR8 t).set) = Finset.univ :=
  grid_cov _ rowR8_disj (256 * 2048) (by decide +kernel) (by decide +kernel)

/-- A block of 256 rows and 2048 columns lies within the second argument. -/
theorem inbA : ∀ t : Fin 8 × Fin 4, ∀ a, (![256 * t.1.val, 2048 * t.2.val] : Fin 2 → ℕ) a + S256x2048.size a ≤ S2048x8192.size a := by decide +kernel
/-- A block of 256 rows and 2048 columns of the second argument. -/
abbrev aR (t : Fin 8 × Fin 4) : Rect S2048x8192 := Rect.unit (s := S2048x8192) ![256 * t.1.val, 2048 * t.2.val] S256x2048.size (inbA t)
/-- Different blocks of the second argument have no place in common. -/
theorem aR_disj : ∀ t t', t ≠ t' → Disjoint (aR t).set (aR t').set := grid_disj _ _ _ (by decide +kernel)
/-- The blocks of the second argument cover it. -/
theorem aR_cov : (Finset.univ : Finset (Fin 8 × Fin 4)).biUnion (fun t => (aR t).set) = Finset.univ :=
  grid_cov _ aR_disj (256 * 2048) (by decide +kernel) (by decide +kernel)

/-- A tile lies within the partial product. -/
theorem inbP : ∀ t : Fin 4 × Fin 4, ∀ a, (![512 * t.1.val, 512 * t.2.val] : Fin 2 → ℕ) a + S512x512.size a ≤ S2048x2048.size a := by decide +kernel
/-- A tile of the partial product, by row block and column block. -/
abbrev pR (t : Fin 4 × Fin 4) : Rect S2048x2048 := Rect.unit (s := S2048x2048) ![512 * t.1.val, 512 * t.2.val] S512x512.size (inbP t)
/-- Different tiles of the partial product have no place in common. -/
theorem pR_disj : ∀ t t', t ≠ t' → Disjoint (pR t).set (pR t').set := grid_disj _ _ _ (by decide +kernel)
/-- The tiles of the partial product cover it. -/
theorem pR_cov : (Finset.univ : Finset (Fin 4 × Fin 4)).biUnion (fun t => (pR t).set) = Finset.univ :=
  grid_cov _ pR_disj (512 * 512) (by decide +kernel) (by decide +kernel)

/-- A slot of a direction's receive buffer, by step and column block. -/
abbrev zR (t : Fin 3 × Fin 4) : Rect S3x4x512x512 := Rect.unit (s := S3x4x512x512) ![t.1.val, t.2.val, 0, 0] S1x1x512x512.size (inbZ t.1 t.2)
/-- Different slots of a direction's receive buffer have no place in common. -/
theorem zR_disj : ∀ t t', t ≠ t' → Disjoint (zR t).set (zR t').set := grid_disj _ _ _ (by decide +kernel)
/-- The slots of a direction's receive buffer cover it. -/
theorem zR_cov : (Finset.univ : Finset (Fin 3 × Fin 4)).biUnion (fun t => (zR t).set) = Finset.univ :=
  grid_cov _ zR_disj (512 * 512) (by decide +kernel) (by decide +kernel)

/-- A slot of an exchange's buffer. -/
abbrev xR (h : Fin 4) : Rect S4x512x512 := Rect.unit (s := S4x512x512) ![h.val, 0, 0] S1x512x512.size (inbX h)
/-- Different slots of an exchange's buffer have no place in common. -/
theorem xR_disj : ∀ t t', t ≠ t' → Disjoint (xR t).set (xR t').set := grid_disj _ _ _ (by decide +kernel)
/-- The slots of an exchange's buffer cover it. -/
theorem xR_cov : (Finset.univ : Finset (Fin 4)).biUnion (fun t => (xR t).set) = Finset.univ :=
  grid_cov _ xR_disj (512 * 512) (by decide +kernel) (by decide +kernel)

/-- A slot of the staging buffer. -/
abbrev stR (p : Fin 2) : Rect S2x512x512 := Rect.unit (s := S2x512x512) ![p.val, 0, 0] S1x512x512.size (inbStage p)
/-- The two slots of the staging buffer have no place in common. -/
theorem stR_disj : ∀ t t', t ≠ t' → Disjoint (stR t).set (stR t').set := grid_disj _ _ _ (by decide +kernel)
/-- The two slots of the staging buffer cover it. -/
theorem stR_cov : (Finset.univ : Finset (Fin 2)).biUnion (fun t => (stR t).set) = Finset.univ :=
  grid_cov _ stR_disj (512 * 512) (by decide +kernel) (by decide +kernel)

/-- A slot of the input pipeline's buffers. -/
abbrev inR (p : Fin 2) : Rect S2x256x2048 := Rect.unit (s := S2x256x2048) ![p.val, 0, 0] S1x256x2048.size (inbSt p)
/-- The two slots of an input buffer have no place in common. -/
theorem inR_disj : ∀ t t', t ≠ t' → Disjoint (inR t).set (inR t').set := grid_disj _ _ _ (by decide +kernel)
/-- The two slots of an input buffer cover it. -/
theorem inR_cov : (Finset.univ : Finset (Fin 2)).biUnion (fun t => (inR t).set) = Finset.univ :=
  grid_cov _ inR_disj (256 * 2048) (by decide +kernel) (by decide +kernel)

/-- A tile lies within the result. -/
theorem inbO : ∀ t : Fin 4 × Fin 4, ∀ a, (![0, 2048 * t.1.val + 512 * t.2.val] : Fin 2 → ℕ) a + S512x512.size a ≤ S512x8192.size a := by decide +kernel
/-- A tile of the result, by the column of devices it comes from and column block. -/
abbrev oR' (t : Fin 4 × Fin 4) : Rect S512x8192 := Rect.unit (s := S512x8192) ![0, 2048 * t.1.val + 512 * t.2.val] S512x512.size (inbO t)
/-- Different tiles of the result have no place in common. -/
theorem oR'_disj : ∀ t t', t ≠ t' → Disjoint (oR' t).set (oR' t').set := grid_disj _ _ _ (by decide +kernel)
/-- The tiles of the result cover it. -/
theorem oR'_cov : (Finset.univ : Finset (Fin 4 × Fin 4)).biUnion (fun t => (oR' t).set) = Finset.univ :=
  grid_cov _ oR'_disj (512 * 512) (by decide +kernel) (by decide +kernel)

/-- A block of columns of a block of rows. -/
theorem inbPart : ∀ h : Fin 4, ∀ a, (![0, 512 * h.val] : Fin 2 → ℕ) a + S512x512.size a ≤ S512x2048.size a := by decide +kernel
abbrev partR (h : Fin 4) : Rect S512x2048 := Rect.unit (s := S512x2048) ![0, 512 * h.val] S512x512.size (inbPart h)

/-! ## Contents -/

section Values

variable (m : (ℓ : Loc nD τ sig) → Buf (Elt F) ℓ)

def in0 (c : Dev nD) : Vec F S2048x2048 .f32 := m ((c : Thread nD τ).loc main_arg0)
def in1 (c : Dev nD) : Vec F S2048x8192 .f32 := m ((c : Thread nD τ).loc main_arg1)
/-- What a step of the input pipeline copies in of each argument. -/
def xIn (c : Dev nD) (k : Fin 8) : Vec F S256x2048 .f32 := fun j => in0 m c ((rowR8 k).emb j)
def dIn (c : Dev nD) (k : Fin 8) : Vec F S256x2048 .f32 := fun j => in1 m c ((aR (k, qc c)).emb j)
/-- The converted blocks. -/
def xBlk (c : Dev nD) (k : Fin 8) : Vec F S256x2048 .bf16 := k0_pay1 (unsq squeezes_S1x256x2048_S256x2048 (xIn m c k))
def dBlk (c : Dev nD) (k : Fin 8) : Vec F S256x2048 .bf16 := k0_pay1 (unsq squeezes_S1x256x2048_S256x2048 (dIn m c k))
/-- The converted arguments. -/
def XB (c : Dev nD) : Vec F S2048x2048 .bf16 := Rect.glue rowR8 rowR8_cov (xBlk m c)
def DB (c : Dev nD) : Vec F S2048x2048 .bf16 := Rect.glue rowR8 rowR8_cov (dBlk m c)
/-- A block of rows of the partial product, as it is stored; -/
def prodRow (c : Dev nD) (r : Fin 4) : Vec F S512x2048 .bf16 :=
  k0_pay18 (fun j => XB m c ((Rect.unit (s := S2048x2048) ![0, 512 * r.val] S2048x512.size (inbCol r)).emb j))
    (fun j => DB m c ((Rect.unit (s := S2048x2048) ![0, 0] S2048x2048.size inb_S2048x2048_S2048x2048_0_0).emb j))
/-- and one tile of it. -/
def Pt (c : Dev nD) (r h : Fin 4) : Vec F S512x512 .bf16 := fun j => prodRow m c r ((partR h).emb j)

/-- A received tile as the addition reads it. -/
abbrev unz (X : Vec F S512x512 .bf16) : Vec F S1x1x512x512 .bf16 := unsq squeezes_S1x1x512x512_S512x512 X

/-- The running sum a direction has formed after `n` hops. -/
def run (d : Fin 2) : ℕ → Dev nD → Fin 4 → Fin 4 → Vec F S512x512 .bf16
  | 0, c, r, h => Pt m c r h
  | n + 1, c, r, h => addV (Pt m c r h) (unz (run d n ((nx d).symm c) r h))
/-- The running sum of a direction at a device. -/
def Vf (d : Fin 2) (c : Dev nD) (r h : Fin 4) : Vec F S512x512 .bf16 := run m d (zz d c) c r h
/-- A tile with the running sums received so far added. -/
def cont (c : Dev nD) (h r : Fin 4) (u w : Bool) : Vec F S512x512 .bf16 :=
  let a := if u then addV (Pt m c r h) (unz (Vf m 0 ((nx 0).symm c) r h)) else Pt m c r h
  if w then addV a (unz (Vf m 1 ((nx 1).symm c) r h)) else a
/-- The reduced tile of a device. -/
def Own (c : Dev nD) (h : Fin 4) : Vec F S512x512 .bf16 := cont m c h (zc c) (decide (0 < zz 0 c)) (decide (0 < zz 1 c))

/-- What a copy carries from device `c`. -/
def Sent : J → Dev nD → Vec F S512x512 .bf16
  | .inl (d, s, h), c => Vf m d c (rowS d s c) h
  | .inr (e, h), c => if e = 2 then Own m (px c) h else Own m c h
/-- What a copy brings device `c`. -/
def In (j : J) (c : Dev nD) : Vec F S512x512 .bf16 := Sent m j ((dst j).symm c)

/-- A tile of the result: the widened reduced tile of the device of its column at this device's place. -/
def outT (c : Dev nD) (t : Fin 4 × Fin 4) : Vec F S512x512 .f32 := sq squeezes_S1x512x512_S512x512 (k0_pay47 (Own m (devOf t.1 (zc c)) t.2))
/-- The result. -/
def outV (c : Dev nD) : Vec F S512x8192 .f32 := Rect.glue oR' oR'_cov (outT m c)

/-- A running sum, on a device that is not the direction's first, is its own tile and the running sum of the device
    before. -/
theorem Vf_up (c : Dev nD) (d : Fin 2) (r h : Fin 4) (hz : 0 < zz d c) :
    Vf m d c r h = addV (Pt m c r h) (unz (Vf m d ((nx d).symm c) r h)) := by
  have e : ∀ d c, 0 < zz d c → zz d c = zz d ((nx d).symm c) + 1 := by decide +kernel
  unfold Vf
  rw [e d c hz]; rfl

/-- On the direction's first device it is the device's own tile. -/
theorem Vf_zero (c : Dev nD) (d : Fin 2) (r h : Fin 4) (hz : ¬ 0 < zz d c) : Vf m d c r h = Pt m c r h := by
  unfold Vf
  rw [Nat.eq_zero_of_not_pos hz]; rfl

/-- A running sum is the device's tile with what that direction brought added. -/
theorem Vf_cont (c : Dev nD) (d : Fin 2) (r h : Fin 4) :
    Vf m d c r h = cont m c h r (decide (d = 0 ∧ 0 < zz d c)) (decide (d = 1 ∧ 0 < zz d c)) := by
  unfold cont
  by_cases hz : 0 < zz d c
  · rw [Vf_up m c d r h hz]
    obtain rfl | rfl : d = 0 ∨ d = 1 := by clear hz; revert d; decide
    · simp [hz]
    · simp [hz]
  · rw [Vf_zero m c d r h hz]
    simp [hz]

end Values

/-! ## When a tile is where -/

/-- Whether a direction's running sum has been added to a row block's tile by a time of its column's schedule. The
    schedule of a column: at step `s` the sends are at times `4 s` and `4 s + 1`, the receipts at `4 s + 2` and
    `4 s + 3`; then from time 12 on the tiles sent come back, two for each step. -/
def fl (d : Fin 2) (c : Dev nD) (r : Fin 4) (p : ℕ) : Bool :=
  decide (∃ s : Fin 3, actR (.inl (d, s, 0)) c = true ∧ rowR d s c = r ∧ 4 * s.val + 2 + d.val < p)
/-- Whether the tile of a row block is lent to a copy at a time. -/
def gn (c : Dev nD) (r : Fin 4) (p : ℕ) : Bool :=
  decide (∃ d : Fin 2, ∃ s : Fin 3, act (.inl (d, s, 0)) c = true ∧ rowS d s c = r ∧ 4 * s.val + d.val < p ∧ ¬ 12 + 2 * s.val + d.val < p)

abbrev same (c : Dev nD) (r : Fin 4) (p : ℕ) : Prop := gn c r p = gn c r (p + 1) ∧ fl 0 c r p = fl 0 c r (p + 1) ∧ fl 1 c r p = fl 1 c r (p + 1)

/-- Sending changes the record of no row block but the one sent. -/
theorem send_other : ∀ (d : Fin 2) (s : Fin 3) (c : Dev nD) (r : Fin 4), (act (.inl (d, s, 0)) c = true → r ≠ rowS d s c) → same c r (4 * s.val + d.val) := by
  decide +kernel
/-- A row block that is sent was here, with only that direction's sum in it, and is lent afterwards. -/
theorem send_this : ∀ (d : Fin 2) (s : Fin 3) (c : Dev nD), act (.inl (d, s, 0)) c = true →
    gn c (rowS d s c) (4 * s.val + d.val) = false ∧ gn c (rowS d s c) (4 * s.val + d.val + 1) = true
      ∧ fl 0 c (rowS d s c) (4 * s.val + d.val) = decide (d = 0 ∧ 0 < zz d c) ∧ fl 1 c (rowS d s c) (4 * s.val + d.val) = decide (d = 1 ∧ 0 < zz d c) := by
  decide +kernel
/-- Receiving changes the record of no row block but the one received. -/
theorem recv_other : ∀ (d : Fin 2) (s : Fin 3) (c : Dev nD) (r : Fin 4), (actR (.inl (d, s, 0)) c = true → r ≠ rowR d s c) → same c r (4 * s.val + 2 + d.val) := by
  decide +kernel
/-- A row block that is received is here before and after, and gains that direction's sum alone, the first direction's
    before the second's. -/
theorem recv_this : ∀ (d : Fin 2) (s : Fin 3) (c : Dev nD), actR (.inl (d, s, 0)) c = true →
    gn c (rowR d s c) (4 * s.val + 2 + d.val) = false ∧ gn c (rowR d s c) (4 * s.val + 2 + d.val + 1) = false
      ∧ fl d c (rowR d s c) (4 * s.val + 2 + d.val) = false ∧ fl d c (rowR d s c) (4 * s.val + 2 + d.val + 1) = true
      ∧ fl (1 - d) c (rowR d s c) (4 * s.val + 2 + d.val) = fl (1 - d) c (rowR d s c) (4 * s.val + 2 + d.val + 1)
      ∧ (d = 0 → fl 1 c (rowR d s c) (4 * s.val + 2 + d.val) = false) := by
  decide +kernel
/-- A sent tile's return changes the record of no other row block. -/
theorem back_other : ∀ (d : Fin 2) (s : Fin 3) (c : Dev nD) (r : Fin 4), (act (.inl (d, s, 0)) c = true → r ≠ rowS d s c) → same c r (12 + 2 * s.val + d.val) := by
  decide +kernel
/-- A row block that comes back was lent, is here afterwards with the sum it was sent with, and is not the device's
    own. -/
theorem back_this : ∀ (d : Fin 2) (s : Fin 3) (c : Dev nD), act (.inl (d, s, 0)) c = true →
    gn c (rowS d s c) (12 + 2 * s.val + d.val) = true ∧ gn c (rowS d s c) (12 + 2 * s.val + d.val + 1) = false
      ∧ fl 0 c (rowS d s c) (12 + 2 * s.val + d.val + 1) = decide (d = 0 ∧ 0 < zz d c) ∧ fl 1 c (rowS d s c) (12 + 2 * s.val + d.val + 1) = decide (d = 1 ∧ 0 < zz d c)
      ∧ rowS d s c ≠ zc c := by
  decide +kernel
/-- When all is received, the device's own row block is here with the sums of both directions. -/
theorem own_final : ∀ c : Dev nD, gn c (zc c) 12 = false ∧ fl 0 c (zc c) 12 = decide (0 < zz 0 c) ∧ fl 1 c (zc c) 12 = decide (0 < zz 1 c) := by decide +kernel
/-- At the end no row block is lent. -/
theorem all_back : ∀ (c : Dev nD) (r : Fin 4), gn c r 18 = false := by decide +kernel
/-- At the start every row block is here with nothing added. -/
theorem none_yet : ∀ (c : Dev nD) (r : Fin 4), gn c r 0 = false ∧ fl 0 c r 0 = false ∧ fl 1 c r 0 = false := by decide +kernel
/-- The middle row blocks are not sent first. -/
theorem mid_yet : ∀ (c : Dev nD), (gn c 1 2 = false ∧ fl 0 c 1 2 = false ∧ fl 1 c 1 2 = false) ∧ (gn c 2 2 = false ∧ fl 0 c 2 2 = false ∧ fl 1 c 2 2 = false) := by decide +kernel
/-- The first row block sent is not one of the two in the middle. -/
theorem first_edge : ∀ (d : Fin 2) (c : Dev nD), act (.inl (d, 0, 0)) c = true → rowS d 0 c ≠ 1 ∧ rowS d 0 c ≠ 2 := by decide +kernel

end Cert.KernelIdeal.Ring
-- ==== Proof.Sched.lean ====
module

public import proofs.«01_k».proof.Proof.Vals

/-! The protocol: what each cell's round pays, what a device owes at each place of its program, and the rules of the
    signals, remote copies and waits. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Slots, tiles and cells -/

/-- The slot a copy writes at its receiver. -/
def slot : J → Memref sig .tc .vmem S512x512 .bf16
  | .inl (d, s, h) => zSlot d s h
  | .inr (e, h) => xSlot e h
/-- A tile of the partial product. -/
abbrev pT (r h : Fin 4) : Memref sig .tc .vmem S512x512 .bf16 := Pb.slice (pR (r, h)) (fun _ => rfl)

/-- The credit of one tile's copy. -/
abbrev N : ℕ := (pT 0 0).view.dmaCredit
/-- A remote copy credits its semaphores by a positive amount. -/
theorem N_pos : 0 < N := View.dmaCredit_pos _ (by decide)
/-- Copies into every slot credit their semaphores by the same amount. -/
theorem slot_credit : ∀ j, (slot j).view.dmaCredit = N := by
  rintro (⟨d, s, h⟩ | ⟨e, h⟩)
  · fin_cases d <;> rfl
  · fin_cases e <;> rfl

/-- The cell of device `c` that `k` names. -/
abbrev kcell (c : Dev nD) (k : C) : GSem nD τ sig := ((c : Thread nD τ), csem k)
abbrev barC (c : Dev nD) : GSem nD τ sig := kcell c none
abbrev sendC (c : Dev nD) (j : J) : GSem nD τ sig := kcell c (some (false, j))
abbrev recvC (c : Dev nD) (j : J) : GSem nD τ sig := kcell c (some (true, j))

open Classical in
/-- The name of a cell. -/
def cidx (s : SemLoc sig) : Option C := Function.partialInv csem s
/-- The name of a cell is read off its semaphore. -/
theorem cidx_csem (k : C) : cidx (csem k) = some k := Function.partialInv_left csem_inj k
/-- A semaphore of no cell has no name. -/
theorem cidx_none {s : SemLoc sig} (h : ∀ k, csem k ≠ s) : cidx s = none := by
  unfold cidx
  rcases e : Function.partialInv csem s with _ | k
  · rfl
  · exact absurd ((Function.partialInv_of_injective csem_inj k s).1 e) (h k)

section Protocol

variable (m : (ℓ : Loc nD τ sig) → Buf (Elt F) ℓ)

/-- What a copy's departure returns to its sender: the tile it read. -/
def srcBack : J → Dev nD → sProp 𝕄
  | .inl (d, s, h), c => ownsTc c (pT (rowS d s c) h) fullShare (Sent m (.inl (d, s, h)) c)
  | .inr (e, h), c =>
    if e = 0 then ownsTc c (pT (zc c) h) fullShare.right.left (Own m c h)
    else if e = 1 then ownsTc c (pT (zc c) h) fullShare.right.right (Own m c h)
    else ownsTc c (xSlot 0 h) fullShare.right (Own m (px c) h)

/-- The slots of device `c` that a barrier signal to device `t` hands over. -/
def lends (b : Fin 4) (t c : Dev nD) : sProp 𝕄 :=
  bigSep Finset.univ fun j : J => if brr j = b ∧ act j t = true then ownsX c (slot j) else iprop(emp)

def dutiesK (c : Dev nD) : C → Finset (Fin 4)
  | none => Finset.univ.filter fun b => bact b ((bto b).symm c) = true
  | some (false, j) => if act j c = true then {0} else ∅
  | some (true, j) => if actR j c = true then {0} else ∅
def amountK : C → ℕ
  | none => 1
  | some _ => N
def payK (c : Dev nD) : C → Fin 4 → sProp 𝕄
  | none, b => lends b c ((bto b).symm c)
  | some (false, j), _ => srcBack m j c
  | some (true, j), _ => ownsTc c (slot j) fullShare (In m j c)

/-- Every duty of a cell credits it by a positive amount. -/
theorem amountK_pos (k : C) : 0 < amountK k := by
  rcases k with _ | _
  · exact Nat.one_pos
  · exact N_pos

instance srcBack_storable (j : J) (c : Dev nD) : BI.Storable (upEmb : UEmb _ 𝕄) (srcBack m j c) := by
  rcases j with ⟨d, s, h⟩ | ⟨e, h⟩
  · unfold srcBack; infer_instance
  · unfold srcBack; dsimp only; (repeat' split) <;> infer_instance
instance lends_storable (b : Fin 4) (t c : Dev nD) : BI.Storable (upEmb : UEmb _ 𝕄) (lends (F := F) b t c) := by
  unfold lends
  have : ∀ j : J, BI.Storable (upEmb : UEmb _ 𝕄) (if brr j = b ∧ act j t = true then ownsX (F := F) c (slot j) else iprop(emp)) := fun j => by
    split <;> infer_instance
  infer_instance
instance payK_storable (c : Dev nD) (k : C) (d : Fin 4) : BI.Storable (upEmb : UEmb _ 𝕄) (payK m c k d) := by
  rcases k with _ | ⟨_ | _, j⟩ <;> unfold payK <;> infer_instance

/-- Every cell has one round. -/
def Rd : Rounds.Schedule (GSem nD τ sig) (Fin 4) 𝕄 where
  duties g r := if r = 0 ∧ g.1.2 = .tc then (match cidx g.2 with | some k => dutiesK g.1.1 k | none => ∅) else ∅
  unitless _ := False
  amount g _ _ := match cidx g.2 with | some k => amountK k | none => 1
  payload g _ d := match cidx g.2 with | some k => payK m g.1.1 k d | none => iprop(emp)
  amount_pos g _ _ _ := by
    rcases cidx g.2 with _ | k
    · exact Nat.one_pos
    · exact amountK_pos k

instance Rd_storable (g : GSem nD τ sig) (r : ℕ) (d : Fin 4) : BI.Storable (upEmb : UEmb _ 𝕄) ((Rd m).payload g r d) := by
  unfold Rd; dsimp only
  split <;> infer_instance

/-- The duties of a cell's only round. -/
theorem duties_eq (c : Dev nD) (k : C) : (Rd m).duties (kcell c k) 0 = dutiesK c k := by
  unfold Rd; dsimp only; rw [if_pos ⟨rfl, rfl⟩, cidx_csem]
/-- No cell has duties in a later round. -/
theorem duties_later (g : GSem nD τ sig) : ∀ r, 1 ≤ r → (Rd m).duties g r = ∅ := fun r hr => by
  unfold Rd; dsimp only; rw [if_neg fun h => by omega]
/-- A cell without duties has none in any round. -/
theorem duties_idle (c : Dev nD) (k : C) (h : dutiesK c k = ∅) : ∀ r, 0 ≤ r → (Rd m).duties (kcell c k) r = ∅ := fun r _ => by
  rcases Nat.eq_zero_or_pos r with rfl | hr
  · rw [duties_eq, h]
  · exact duties_later m _ r hr
/-- The amount of each of a cell's duties. -/
theorem amount_eq (c : Dev nD) (k : C) (r : ℕ) (d : Fin 4) : (Rd m).amount (kcell c k) r d = amountK k := by
  unfold Rd; dsimp only; rw [cidx_csem]
/-- What each of a cell's duties hands over. -/
theorem payload_eq (c : Dev nD) (k : C) (r : ℕ) (d : Fin 4) : (Rd m).payload (kcell c k) r d = payK m c k d := by
  unfold Rd; dsimp only; rw [cidx_csem]
/-- What a cell expects in its round: its number of duties times the amount of one. -/
theorem expect_eq (c : Dev nD) (k : C) : (Rd m).expect (kcell c k) 0 = (dutiesK c k).card * amountK k := by
  unfold Schedule.expect Schedule.amountOf
  rw [duties_eq, Finset.sum_congr rfl fun d _ => amount_eq m c k 0 d, Finset.sum_const, smul_eq_mul]
/-- What a cell's round hands over when nothing of it has been taken. -/
theorem rest_eq (c : Dev nD) (k : C) : (bigSep ((Rd m).duties (kcell c k) 0 \ ∅) fun d => (Rd m).payload (kcell c k) 0 d) = bigSep (dutiesK c k) fun d => payK m c k d := by
  rw [Finset.sdiff_empty, duties_eq]
  exact bigSep_congr fun d _ => payload_eq m c k 0 d

/-! ## What is owed, and the levels -/

/-- What a signal or a copy of device `c` owes. -/
def oi (c : Dev nD) : Fin 4 ⊕ J → CellTallies nD τ sig Unit
  | .inl b => if bact b c = true then tallyAt (barC (bto b c)) () 1 else 0
  | .inr j => if act j c = true then tallyAt (recvC (dst j c) j) () N else 0
/-- What device `c` owes from a place of its program on. -/
def O (c : Dev nD) (n : ℕ) : CellTallies nD τ sig Unit := ∑ i ∈ Finset.univ.filter (fun i : Fin 4 ⊕ J => n ≤ pos i), oi c i

/-- Doing the next thing owed leaves what is owed after it. -/
theorem O_step (c : Dev nD) (i : Fin 4 ⊕ J) : O c (pos i) = O c (pos i + 1) + oi c i := by
  unfold O
  have e : (Finset.univ.filter fun i' : Fin 4 ⊕ J => pos i ≤ pos i') = insert i (Finset.univ.filter fun i' : Fin 4 ⊕ J => pos i + 1 ≤ pos i') := by
    ext i'
    simp only [Finset.mem_filter, Finset.mem_univ, true_and, Finset.mem_insert]
    constructor
    · intro h
      rcases Nat.lt_or_ge (pos i) (pos i') with h' | h'
      · exact Or.inr h'
      · exact Or.inl (pos_inj _ _ (le_antisymm h' h))
    · rintro (rfl | h) <;> omega
  rw [e, Finset.sum_insert (by simp), add_comm]
/-- Nothing is owed at the end. -/
theorem O_end (c : Dev nD) : O c 40 = 0 := by
  unfold O
  have e : (Finset.univ.filter fun i' : Fin 4 ⊕ J => 40 ≤ pos i') = ∅ := by decide +kernel
  rw [e, Finset.sum_empty]

def L (g : GSem nD τ sig) : Finset Unit := if g.1.2 = .tc then {()} else ∅
/-- Only the devices' main threads have cells with a level. -/
theorem L_of_ne (g : GSem nD τ sig) (h : g.1.2 ≠ .tc) : L g = ∅ := if_neg h
/-- Every semaphore of a device's main thread has one. -/
theorem L_tc (c : Dev nD) (sm : SemLoc sig) : L ((c : Thread nD τ), sm) = {()} := if_pos rfl

/-- The level of a named cell. -/
def lvK : C → ℕ
  | none => 1
  | some (false, _) => 0
  | some (true, .inl (_, s, _)) => 2 + s.val
  | some (true, .inr (e, _)) => if e = 2 then 7 else 6
def lv (g : GSem nD τ sig) (_ : Unit) : ℕ := match cidx g.2 with | some k => lvK k | none => 0
/-- The level of a cell. -/
theorem lv_eq (c : Dev nD) (k : C) (u : Unit) : lv (kcell c k) u = lvK k := by unfold lv; rw [cidx_csem]

/-- The cell an owed item is of. -/
def cellI : Fin 4 ⊕ J → C
  | .inl _ => none
  | .inr j => some (true, j)

/-- What is owed from a place on is owed to cells of signals and copies from that place on. -/
theorem O_pos {c : Dev nD} {n : ℕ} {g : GSem nD τ sig} {u : Unit} (h : 0 < O c n g u) : ∃ i, n ≤ pos i ∧ ∃ t : Dev nD, g = kcell t (cellI i) := by
  by_contra hn
  push Not at hn
  have : O c n g u = 0 := by
    unfold O
    rw [Finset.sum_apply, Finsupp.finset_sum_apply]
    refine Finset.sum_eq_zero fun i hi => ?_
    have hp := (Finset.mem_filter.mp hi).2
    rcases i with b | j
    · unfold oi; dsimp only; split
      · rw [tallyAt_apply, if_neg fun h' => hn _ hp _ h'.1]
      · rfl
    · unfold oi; dsimp only; split
      · rw [tallyAt_apply, if_neg fun h' => hn _ hp _ h'.1]
      · rfl
  omega

/-- A device may wait on a semaphore whose level is below those of all it still owes. -/
theorem mayWait_of (c : Dev nD) (sm : SemLoc sig) (l n : ℕ) (hl : ∀ u, lv ((c : Thread nD τ), sm) u ≤ l) (h : ∀ i, n ≤ pos i → l < lvK (cellI i)) :
    (levAts L lv : sProp 𝕄) ⊢ MayWait (c : Thread nD τ) sm () (O c n) :=
  MayOwe.of_cut (L := L) (lev := lv) l (fun p hp => by rw [Finset.mem_singleton.mp hp, L_tc]; exact Finset.mem_singleton_self _)
    (fun g u hg => by
      obtain ⟨i, -, t, rfl⟩ := O_pos hg
      rw [L_tc]; exact Finset.mem_singleton_self _)
    (fun p hp => by rw [Finset.mem_singleton.mp hp]; exact hl _)
    (fun g u hg => by
      obtain ⟨i, hi, t, rfl⟩ := O_pos hg
      rw [lv_eq]; exact h i hi)

/-- The levels of what is owed from a place on. -/
theorem lev0 : ∀ i, 0 < lvK (cellI i) := by decide +kernel
/-- The barrier is below all that is owed after it. -/
theorem lev_bar : ∀ i, 4 ≤ pos i → 1 < lvK (cellI i) := by decide +kernel
/-- A receiving cell of the third axis is below all that is owed when it is awaited. -/
theorem lev_z : ∀ (d : Fin 2) (s : Fin 3) (h : Fin 4) i, 12 + 8 * s.val + 2 * h.val ≤ pos i → lvK (some (true, .inl (d, s, h))) < lvK (cellI i) := by decide +kernel
/-- A receiving cell of an exchange is below all that is owed when it is awaited. -/
theorem lev_x : ∀ (e : Fin 3) (h : Fin 4) i, (if e = 0 then 36 else 40) ≤ pos i → lvK (some (true, .inr (e, h))) < lvK (cellI i) := by decide +kernel

/-! ## What a device may use throughout, and what it owes -/

variable (K : Dev nD × C → ℕ)

/-- The cells' invariants, that each cell is at its first round, and the levels. -/
def Inv : sProp 𝕄 :=
  iprop((bigSep Finset.univ fun p : Dev nD × C => cellInv ER (Rd m) (K p) (kcell p.1 p.2))
    ∗ (bigSep Finset.univ fun p : Dev nD × C => reached ER (kcell p.1 p.2) 0) ∗ levAts L lv)

instance Inv_persistent : BI.Persistent (Inv m K) := by unfold Inv; infer_instance

/-- The shared facts hold each cell's invariant, -/
theorem Inv_cell (c : Dev nD) (k : C) : Inv m K ⊢ cellInv ER (Rd m) (K (c, k)) (kcell c k) := by
  have h : (bigSep Finset.univ fun p : Dev nD × C => (cellInv ER (Rd m) (K p) (kcell p.1 p.2) : sProp 𝕄)) ⊢ (cellInv ER (Rd m) (K (c, k)) (kcell c k) : sProp 𝕄) := bigSep_elim (Finset.mem_univ (c, k))
  unfold Inv
  iintro ⟨H, -, -⟩
  iapply h $$ H
/-- that its first round is reached, -/
theorem Inv_reached (c : Dev nD) (k : C) : Inv m K ⊢ (reached ER (kcell c k) 0 : sProp 𝕄) := by
  have h : (bigSep Finset.univ fun p : Dev nD × C => (reached ER (kcell p.1 p.2) 0 : sProp 𝕄)) ⊢ (reached ER (kcell c k) 0 : sProp 𝕄) := bigSep_elim (Finset.mem_univ (c, k))
  unfold Inv
  iintro ⟨-, H, -⟩
  iapply h $$ H
/-- and the levels. -/
theorem Inv_lev : Inv m K ⊢ (levAts L lv : sProp 𝕄) := by
  unfold Inv
  iintro ⟨-, -, H⟩
  iexact H

/-- Device `c` at a place of its program. -/
def Ow (c : Dev nD) (n : ℕ) : sProp 𝕄 := iprop(Inv m K ∗ ∃ W, owes (c : Thread nD τ) (O c n) W)

/-- A signal or a copy that is not made changes nothing owed. -/
theorem Ow_skip (c : Dev nD) (i : Fin 4 ⊕ J) (h : oi c i = 0) : Ow m K c (pos i) ⊢ Ow m K c (pos i + 1) := by
  unfold Ow; rw [O_step, h, add_zero]

/-- A signal of the barrier: the slots it lends go with it. -/
theorem tr_signal (c : Dev nD) (b : Fin 4) (hb : bact b c = true) :
    Tr c iprop(Ow m K c (pos (.inl b)) ∗ dutyTok ER (barC (bto b c)) 0 b ∗ lends b (bto b c) c)
      (Prog.lift (.semSignal ((bto b c : Dev nD) : Thread nD τ) barS.sem 1)) ⟨⟩ (Ow m K c (pos (.inl b) + 1)) := by
  refine Tr.of_op fun Q => ?_
  unfold Ow
  iintro ⟨⟨#HI, %W, HO⟩, Ht, Hp⟩ Hk
  iapply (Rounds.wp_signal 𝒱₀ ER (Rd m) (c : Thread nD τ) none (dst := ((bto b c : Dev nD) : Thread nD τ)) (κ := K (bto b c, none)) (r := 0) (d := b)
    (by
      show b ∈ (Rd m).duties (kcell (bto b c) none) 0
      rw [duties_eq]; unfold dutiesK
      exact Finset.mem_filter.mpr ⟨Finset.mem_univ _, by rw [Equiv.symm_apply_apply]; exact hb⟩)
    (amount_eq m (bto b c) none 0 b) () (O₀ := O c (pos (.inl b))) (O c (pos (.inl b) + 1))
    (by rw [O_step]; unfold oi; dsimp only; rw [if_pos hb]; rfl)) $$ [HO Ht Hp]
  · isplitr; · iapply (Inv_cell m K (bto b c) none) $$ HI
    isplitl [HO]; · iexact HO
    isplitl [Ht]; · iexact Ht
    isplitl [Hp]
    · have e : (Rd m).payload (((bto b c : Dev nD) : Thread nD τ), .reg barS.sem) 0 b = lends b (bto b c) c := by
        show (Rd m).payload (kcell (bto b c) none) 0 b = _
        rw [payload_eq]; unfold payK; dsimp only; rw [Equiv.symm_apply_apply]
      iapply (Entails.of_eq e.symm) $$ Hp
    · iapply (Inv_reached m K (bto b c) none) $$ HI
  iintro HO
  iapply Hk
  isplitr; · iexact HI
  iexists W; iexact HO

/-- A remote copy. -/
theorem tr_send (c t : Dev nD) (j : J) {sp : Space} (src : Memref sig .tc sp S512x512 .bf16) (q : PosShare TreeShare) (ht : t = dst j c) (ha : act j c = true)
    (hsrcB : srcBack m j c = ownsTc c src q (Sent m j c))
    {hsc : (slot j : Memref sig (Dev.tc t : Thread nD τ).2.kind .vmem S512x512 .bf16).view.ref.isScScratch = false} {hsrc hdst}
    {hsem : DmaTarget.Typed sp (.dma (recvSem j)) (.remote (Dev.tc t : Thread nD τ) (slot j : Memref sig .tc .vmem S512x512 .bf16) (.dma (sendSem j)) hsc)} :
    Tr c iprop(Ow m K c (pos (.inr j)) ∗ ownsTc c src q (Sent m j c) ∗ ownsX (dst j c) (slot j) ∗ dutyTok ER (sendC c j) 0 0 ∗ dutyTok ER (recvC (dst j c) j) 0 0)
      (Prog.lift (.enqueueDma src (.remote (Dev.tc t : Thread nD τ) (slot j) (.dma (sendSem j)) hsc) (.dma (recvSem j)) hsrc hdst hsem)) ⟨⟩
      iprop(Ow m K c (pos (.inr j) + 1) ∗ cred (tallyAt (sendC c j) () N)) := by
  subst ht
  refine Tr.of_op fun Q => ?_
  unfold Ow ownsX ownsTc owns
  iintro ⟨⟨#HI, %W, HO⟩, ⟨%f, %hf, Hs⟩, ⟨%X, %g, %hg, Hd⟩, Ht1, Ht2⟩ Hk
  iapply (Rounds.wp_send_pointsTo 𝒱₀ ER (Rd m) (c : Thread nD τ) none (c' := ((dst j c : Dev nD) : Thread nD τ)) (κ₁ := K (c, some (false, j))) (κ₂ := K (dst j c, some (true, j)))
    (src := src) (dst := slot j) (sS := .dma (sendSem j)) (sem := .dma (recvSem j)) (fs := f) (q := q)
    (r₁ := 0) (r₂ := 0) (d₁ := 0) (d₂ := 0) (fd := g)
    (by show 0 ∈ (Rd m).duties (kcell c (some (false, j))) 0
        rw [duties_eq]; unfold dutiesK; dsimp only; rw [if_pos ha]; exact Finset.mem_singleton_self _)
    (by show 0 ∈ (Rd m).duties (kcell (dst j c) (some (true, j))) 0
        rw [duties_eq]; unfold dutiesK actR; dsimp only; rw [Equiv.symm_apply_apply, if_pos ha]; exact Finset.mem_singleton_self _)
    () () N (slot_credit j) (amount_eq m c (some (false, j)) 0 0) (amount_eq m (dst j c) (some (true, j)) 0 0) (O₀ := O c (pos (.inr j))) (O c (pos (.inr j) + 1))
    (by rw [O_step]; unfold oi; dsimp only; rw [if_pos ha]; rfl) (W := W)
    (by
      show _ ⊢ (Rd m).payload (kcell c (some (false, j))) 0 0
      rw [payload_eq]; unfold payK; dsimp only; rw [hsrcB]; unfold ownsTc owns
      iintro H
      iexists f
      isplitr; · ipureintro; exact hf
      iexact H)
    (by
      show _ ⊢ (Rd m).payload (kcell (dst j c) (some (true, j))) 0 0
      rw [payload_eq]; unfold payK In; dsimp only; rw [Equiv.symm_apply_apply]; unfold ownsTc owns
      iintro H
      iexists ((slot j).view.write (Elt F) g (src.view.read (Elt F) f) Finset.univ)
      isplitr; · ipureintro; exact (View.read_write_univ _ _).trans hf
      iexact H)) $$ [HO Hs Hd Ht1 Ht2]
  · isplitr; · iapply (Inv_cell m K c (some (false, j))) $$ HI
    isplitr; · iapply (Inv_cell m K (dst j c) (some (true, j))) $$ HI
    isplitl [Hs]; · iexact Hs
    isplitl [Hd]; · iexact Hd
    isplitl [HO]; · iexact HO
    isplitl [Ht1]; · iexact Ht1
    isplitr; · iapply (Inv_reached m K c (some (false, j))) $$ HI
    isplitl [Ht2]; · iexact Ht2
    iapply (Inv_reached m K (dst j c) (some (true, j))) $$ HI
  iintro ⟨Hc, HO⟩
  iapply Hk
  isplitl [HO]
  · isplitr; · iexact HI
    iexists W; iexact HO
  iexact Hc

/-- A wait for a cell's round. -/
theorem tr_wait (c : Dev nD) (k : C) {w : TpuEff nD τ sig (Elt F) Λ₀ .tc PUnit} {k' n : ℕ}
    (hw : ∀ Kt : PUnit → sProp 𝕄, wpE (defs₀ (F := F)) 𝒱₀ (c : Thread nD τ) none Set.univ w Kt = waitSpec (c : Thread nD τ) Set.univ (csem k) k' Kt)
    (hk : k' = (dutiesK c k).card * amountK k) (hn : ∀ i, n ≤ pos i → lvK k < lvK (cellI i)) :
    Tr c iprop(Ow m K c n ∗ cred (tallyAt (kcell c k) () k') ∗ atPos ER (kcell c k) 0 ∅ 0) (Prog.lift w) ⟨⟩
      iprop(Ow m K c n ∗ atPos ER (kcell c k) 1 ∅ 0 ∗ bigSep (dutiesK c k) fun d => payK m c k d) := by
  refine Tr.of_op fun Q => ?_
  unfold Ow
  iintro ⟨⟨#HI, %W, HO⟩, Hc, Ha⟩ Hk
  iapply (Rounds.wp_wait_rest_token 𝒱₀ ER (Rd m) (c : Thread nD τ) none (κ := K (c, k)) hw (Set.mem_univ _) () (O := O c n) (W := W) (R := 0) (m := 0) (T := ∅)
    (by rw [Nat.zero_add, hk]; exact (expect_eq m c k).symm)) $$ [HO Hc Ha]
  · isplitr; · iapply (Inv_cell m K c k) $$ HI
    isplitl [Hc]; · iexact Hc
    isplitl [HO]; · iexact HO
    isplitr
    · iapply (mayWait_of c (csem k) (lvK k) n (fun u => (lv_eq c k u).le) hn)
      iapply (Inv_lev m K) $$ HI
    iexact Ha
  iintro ⟨HO, Ha, -, Hp⟩
  iapply Hk
  isplitl [HO]
  · isplitr; · iexact HI
    iexists (insert (csem k, ()) W); iexact HO
  isplitl [Ha]; · iexact Ha
  iapply (Entails.of_eq (rest_eq m c k)) $$ Hp

/-- A wait for one of a copy's cells. -/
theorem tr_waitDma (c : Dev nD) (b : Bool) (j : J) (sm : DmaSem sig) (hsm : csem (some (b, j)) = .dma sm) {sp sp' : Space} {s' : Shape} {e' : EltTy} (srcw : Memref sig .tc sp' s' e')
    {s : Shape} {e : EltTy} (dstw : Memref sig .tc sp s e)
    (hsrc hdst) (hN : dstw.view.dmaCredit = N) {n : ℕ} (ha : dutiesK c (some (b, j)) = {0}) (hn : ∀ i, n ≤ pos i → lvK (some (b, j)) < lvK (cellI i)) :
    Tr c iprop(Ow m K c n ∗ cred (tallyAt (kcell c (some (b, j))) () N) ∗ atPos ER (kcell c (some (b, j))) 0 ∅ 0)
      (Prog.lift (.waitDma2 sm srcw dstw hsrc hdst)) ⟨⟩
      iprop(Ow m K c n ∗ atPos ER (kcell c (some (b, j))) 1 ∅ 0 ∗ payK m c (some (b, j)) 0) := by
  have h := tr_wait m K c (some (b, j)) (w := .waitDma2 sm srcw dstw hsrc hdst) (k' := N) (n := n)
    (fun Kt => by rw [hsm, ← hN]; exact wpE_waitDma2_eq 𝒱₀ (c : Thread nD τ) none Set.univ Kt) (by rw [ha]; exact (Nat.one_mul _).symm) hn
  rw [ha, bigSep_singleton] at h
  exact h

/-- A wait for a local copy. -/
theorem tr_local (c : Dev nD) {sp sp' : Space} {s s' : Shape} {e e' : EltTy} (srcw : Memref sig .tc sp' s' e') (dstw : Memref sig .tc sp s e) (sm : DmaSem sig) (hsm : ∀ k, csem k ≠ .dma sm) (hsrc hdst)
    (M n : ℕ) (hM : dstw.view.dmaCredit = M) (D : sProp 𝕄) :
    Tr c iprop(Ow m K c n ∗ Transfers.Flight (EC (F := F)) (c : Thread nD τ) (.dma sm) () M D)
      (Prog.lift (.waitDma2 sm srcw dstw hsrc hdst)) ⟨⟩ iprop(Ow m K c n ∗ D ∗ semVal ((c : Thread nD τ), .dma sm) 0) := by
  unfold Ow
  have h : ∀ W, Tr c iprop(Inv m K ∗ owes (c : Thread nD τ) (O c n) W ∗ Transfers.Flight (EC (F := F)) (c : Thread nD τ) (.dma sm) () M D)
      (Prog.lift (.waitDma2 sm srcw dstw hsrc hdst)) ⟨⟩ iprop((Inv m K ∗ ∃ W, owes (c : Thread nD τ) (O c n) W) ∗ D ∗ semVal ((c : Thread nD τ), .dma sm) 0) := fun W => by
    refine ((wt_here c srcw dstw sm hsrc hdst M hM D (O c n) W).frame (Inv m K)).conseq ?_ ?_
    · iintro ⟨#HI, HO, HF⟩
      isplitl [HO HF]
      · isplitl [HF]; · iexact HF
        isplitl [HO]; · iexact HO
        iapply (mayWait_of c (.dma sm) 0 n (fun u => (by unfold lv; rw [cidx_none hsm])) (fun i _ => lev0 i))
        iapply (Inv_lev m K) $$ HI
      · iexact HI
    · iintro ⟨⟨HD, HV, HO⟩, #HI⟩
      isplitl [HO]
      · isplitr; · iexact HI
        iexists (insert (SemLoc.dma sm, ()) W); iexact HO
      isplitl [HD] <;> iassumption
  refine BIBase.Entails.trans ?_ (Tr.ex h)
  iintro ⟨⟨#HI, %W, HO⟩, HF⟩
  iexists W
  isplitr; · iexact HI
  isplitl [HO] <;> iassumption

/-- A cell all of whose rounds are over gives its counter back. -/
theorem close_cell (c : Dev nD) (k : C) (r : ℕ) (hr : ∀ r', r ≤ r' → (Rd m).duties (kcell c k) r' = ∅) :
    iprop(Inv m K ∗ atPos ER (kcell c k) r ∅ 0) ⊢ (|={Set.univ}=> semVal (kcell c k) 0 : sProp 𝕄) := by
  iintro ⟨#HI, Ha⟩
  iapply (Rounds.cell_close ER (Rd m) (Set.mem_univ (K (c, k))) (fun h => h) (R := r) hr)
  isplitr; · iapply (Inv_cell m K c k) $$ HI
  iexact Ha

end Protocol

end Cert.KernelIdeal.Ring
-- ==== Proof.Parts.lean ====
module

public import proofs.«01_k».proof.Proof.Ops

/-! Each printed part of the kernel's body is the sequence of its memory operations. -/

@[expose] public section

set_option synthInstance.maxSize 4096

noncomputable section

namespace Cert.KernelIdeal.Ring

open Idealize.ShloMosaic Idealize.ShloMosaic.TcCoe
open Idealize.SL Idealize.SL.Sem
open Cert.KernelIdeal.Gen

variable {F : FTy → Type} [FloatOps F]

set_option maxRecDepth 65536 in
/-- The part starts the first input copies and computes the device's place in the mesh. -/
theorem part1_eq  :
    k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16  = (do
      let d0 ← devId
      cpX 0 0
      cpD d0 0 0
      let v0 : BitVec 32 := Dev.word d0
      let v1 : BitVec 32 := Scalar.divsi v0 8#32
      let v2 : BitVec 32 := Scalar.remsi v1 2#32
      let v3 : BitVec 32 := Dev.word d0
      let v4 : BitVec 32 := Scalar.divsi v3 4#32
      let v5 : BitVec 32 := Scalar.remsi v4 2#32
      let v6 : BitVec 32 := Dev.word d0
      let v7 : BitVec 32 := Scalar.divsi v6 1#32
      let v8 : BitVec 32 := Scalar.remsi v7 4#32
      let v9 : BitVec 32 := Scalar.muli 2#32 v2
      let v10 : BitVec 32 := Scalar.addi v9 v5
      let v11 : BitVec 1 := Scalar.cmpi .slt v8 3#32
      let v12 : BitVec 1 := Scalar.cmpi .sgt v8 0#32
      pure ⟨d0, v2, v5, v8, v10, v11, v12⟩) := rfl

set_option maxRecDepth 65536 in
/-- The part starts the second input copies and gives the barrier signals. -/
theorem part2_eq (d0 : Dev nD) (v2 : BitVec 32) (v5 : BitVec 32) (v8 : BitVec 32) (v11 : BitVec 1) (v12 : BitVec 1) :
    k0_part2 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 = (do
      cpX 1 1
      cpD d0 1 1
      sigUp d0
      sigDn d0
      sigX d0
      sigY d0
      pure barS) := by
  simp only [sendZ, recvZ, waitSent, sigUp, sigDn, dite_bind]
  rfl

set_option maxRecDepth 65536 in
/-- The part waits for the barrier and does step 0 of the input pipeline. -/
theorem part3_eq (d0 : Dev nD) (v10 : BitVec 32) :
    k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 barS = (do
      barWait d0
      wtX 0 0
      wtD d0 0 0
      let v69 ← ldXs 0
      let v72 ← ldXb 0
      stXb 0 (k0_pay1 v69)
      let v75 ← ldDs 0
      let v78 ← ldDb 0
      stDb 0 (k0_pay2 v75)
      pure ⟨⟩) := rfl

set_option maxRecDepth 65536 in
/-- The part starts step 2's input copies, awaits step 1's and converts its block of the first argument. -/
theorem part4_eq (d0 : Dev nD) (v10 : BitVec 32) :
    k0_part4 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      cpX 2 0
      cpD d0 2 0
      wtX 1 1
      wtD d0 1 1
      let v103 ← ldXs 1
      let v106 ← ldXb 1
      stXb 1 (k0_pay3 v103)
      pure ⟨⟩) := rfl

set_option maxRecDepth 65536 in
/-- The part converts step 1's block of the second argument, starts step 3's copies and awaits the first of step 2's.
    -/
theorem part5_eq (d0 : Dev nD) (v10 : BitVec 32) :
    k0_part5 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      let v109 ← ldDs 1
      let v112 ← ldDb 1
      stDb 1 (k0_pay4 v109)
      cpX 3 1
      cpD d0 3 1
      wtX 2 0
      pure ⟨⟩) := rfl

set_option maxRecDepth 65536 in
/-- The part ends step 2 of the input pipeline and starts step 4's copies. -/
theorem part6_eq (d0 : Dev nD) (v10 : BitVec 32) :
    k0_part6 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      wtD d0 2 0
      let v137 ← ldXs 0
      let v140 ← ldXb 2
      stXb 2 (k0_pay5 v137)
      let v143 ← ldDs 0
      let v146 ← ldDb 2
      stDb 2 (k0_pay6 v143)
      cpX 4 0
      cpD d0 4 0
      pure ⟨⟩) := rfl

set_option maxRecDepth 65536 in
/-- The part does step 3 of the input pipeline. -/
theorem part7_eq (d0 : Dev nD) (v10 : BitVec 32) :
    k0_part7 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      wtX 3 1
      wtD d0 3 1
      let v171 ← ldXs 1
      let v174 ← ldXb 3
      stXb 3 (k0_pay7 v171)
      let v177 ← ldDs 1
      let v180 ← ldDb 3
      stDb 3 (k0_pay8 v177)
      pure ⟨⟩) := rfl

set_option maxRecDepth 65536 in
/-- The part starts step 5's input copies, does the first half of step 4 and converts its block of the second
    argument. -/
theorem part8_eq (d0 : Dev nD) (v10 : BitVec 32) :
    k0_part8 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      cpX 5 1
      cpD d0 5 1
      wtX 4 0
      wtD d0 4 0
      let v205 ← ldXs 0
      let v208 ← ldXb 4
      stXb 4 (k0_pay9 v205)
      let v211 ← ldDs 0
      pure (k0_pay10 v211)) := rfl

set_option maxRecDepth 65536 in
/-- The part stores step 4's block of the second argument, starts step 6's copies and awaits step 5's. -/
theorem part9_eq (d0 : Dev nD) (v10 : BitVec 32) (v213 : FVec F S256x2048 .bf16) :
    k0_part9 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 v213 = (do
      let v214 ← ldDb 4
      stDb 4 (k0_pay11 v213)
      cpX 6 0
      cpD d0 6 0
      wtX 5 1
      wtD d0 5 1
      pure ⟨⟩) := rfl

set_option maxRecDepth 65536 in
/-- The part converts step 5's blocks and starts step 7's copies. -/
theorem part10_eq (d0 : Dev nD) (v10 : BitVec 32) :
    k0_part10 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      let v239 ← ldXs 1
      let v242 ← ldXb 5
      stXb 5 (k0_pay12 v239)
      let v245 ← ldDs 1
      let v248 ← ldDb 5
      stDb 5 (k0_pay13 v245)
      cpX 7 1
      cpD d0 7 1
      pure ⟨⟩) := rfl

set_option maxRecDepth 65536 in
/-- The part does step 6 of the input pipeline and awaits the first of step 7's copies. -/
theorem part11_eq (d0 : Dev nD) (v10 : BitVec 32) :
    k0_part11 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      wtX 6 0
      wtD d0 6 0
      let v273 ← ldXs 0
      let v276 ← ldXb 6
      stXb 6 (k0_pay14 v273)
      let v279 ← ldDs 0
      let v282 ← ldDb 6
      stDb 6 (k0_pay15 v279)
      wtX 7 1
      pure ⟨⟩) := rfl

set_option maxRecDepth 65536 in
/-- The part ends the input pipeline, computes the last block of rows and the product for the first. -/
theorem part12_eq (d0 : Dev nD) :
    k0_part12 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 = (do
      wtD d0 7 1
      let v296 ← ldXs 1
      let v299 ← ldXb 7
      stXb 7 (k0_pay16 v296)
      let v302 ← ldDs 1
      let v305 ← ldDb 7
      stDb 7 (k0_pay17 v302)
      let v308 ← ldXc 3
      let v309 ← ldDy
      let v312 ← ldP 3
      stP 3 (k0_pay18 v308 v309)
      let v315 ← ldXc 0
      let v316 ← ldDy
      let v319 ← ldP 0
      pure (k0_pay19 v315 v316)) := rfl

set_option maxRecDepth 65536 in
/-- The part stores the first block of rows and sends the first two column blocks of step 0. -/
theorem part13_eq (d0 : Dev nD) (v2 : BitVec 32) (v5 : BitVec 32) (v8 : BitVec 32) (v11 : BitVec 1) (v12 : BitVec 1) (v321 : FVec F S512x2048 .bf16) :
    k0_part13 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v321 = (do
      stP 0 v321
      sendZ 0 0 0 d0
      sendZ 1 0 0 d0
      sendZ 0 0 1 d0
      sendZ 1 0 1 d0
      let v348 : BitVec 32 := Scalar.addi v8 3#32
      let v349 : BitVec 32 := Scalar.subi v348 0#32
      let v350 : BitVec 32 := Scalar.subi v8 3#32
      let v351 : BitVec 32 := Scalar.addi v350 0#32
      let v352 : BitVec 1 := Scalar.cmpi .sle v8 0#32
      let v353 : BitVec 1 := Scalar.andi v11 v352
      pure ⟨v349, v351, v353⟩) := by
  simp only [sendZ, recvZ, waitSent, sigUp, sigDn, dite_bind]
  rfl

set_option maxRecDepth 65536 in
/-- The part sends the other two of step 0, computes the third block of rows and the product for the second. -/
theorem part14_eq (d0 : Dev nD) (v2 : BitVec 32) (v5 : BitVec 32) (v8 : BitVec 32) (v11 : BitVec 1) (v12 : BitVec 1) (v349 : BitVec 32) (v351 : BitVec 32) (v353 : BitVec 1) :
    k0_part14 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v349 v351 v353 = (do
      sendZ 0 0 2 d0
      sendZ 1 0 2 d0
      sendZ 0 0 3 d0
      sendZ 1 0 3 d0
      let v374 ← ldXc 2
      let v375 ← ldDy
      let v378 ← ldP 2
      stP 2 (k0_pay20 v374 v375)
      let v381 ← ldXc 1
      let v382 ← ldDy
      pure (k0_pay21 v381 v382)) := by
  simp only [sendZ, recvZ, waitSent, sigUp, sigDn, dite_bind]
  rfl

set_option maxRecDepth 65536 in
/-- The part stores the second block of rows, receives the first column block of step 0 and starts to send it in step
    1. -/
theorem part15_eq (d0 : Dev nD) (v2 : BitVec 32) (v5 : BitVec 32) (v8 : BitVec 32) (v11 : BitVec 1) (v12 : BitVec 1) (v383 : FVec F S512x2048 .f32) :
    k0_part15 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v383 = (do
      let v385 ← ldP 1
      stP 1 (k0_pay22 v383)
      recvZ 0 0 0 d0
      recvZ 1 0 0 d0
      sendZ 0 1 0 d0
      let v392 : BitVec 32 := Scalar.subi 1#32 v2
      let v393 : BitVec 32 := Scalar.subi 1#32 v5
      let v406 : BitVec 32 := Scalar.subi v8 3#32
      let v407 : BitVec 32 := Scalar.addi v406 1#32
      pure ⟨v392, v393, v407⟩) := by
  simp only [sendZ, recvZ, waitSent, sigUp, sigDn, dite_bind]
  rfl

set_option maxRecDepth 65536 in
/-- The part goes on with the receipts of step 0 and the sends of step 1, up to the third column block. -/
theorem part16_eq (d0 : Dev nD) (v2 : BitVec 32) (v5 : BitVec 32) (v8 : BitVec 32) (v11 : BitVec 1) (v12 : BitVec 1) (v407 : BitVec 32) :
    k0_part16 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v407 = (do
      sendZ 1 1 0 d0
      recvZ 0 0 1 d0
      recvZ 1 0 1 d0
      sendZ 0 1 1 d0
      sendZ 1 1 1 d0
      recvZ 0 0 2 d0
      pure ⟨⟩) := by
  simp only [sendZ, recvZ, waitSent, sigUp, sigDn, dite_bind]
  rfl

set_option maxRecDepth 65536 in
/-- The part ends the receipts of step 0 and sends the last column block of step 1 in one direction. -/
theorem part17_eq (d0 : Dev nD) (v2 : BitVec 32) (v5 : BitVec 32) (v8 : BitVec 32) (v11 : BitVec 1) (v12 : BitVec 1) :
    k0_part17 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 = (do
      recvZ 1 0 2 d0
      sendZ 0 1 2 d0
      sendZ 1 1 2 d0
      recvZ 0 0 3 d0
      recvZ 1 0 3 d0
      sendZ 0 1 3 d0
      let v475 : BitVec 32 := Scalar.subi v8 3#32
      let v476 : BitVec 32 := Scalar.addi v475 1#32
      let v481 : BitVec 32 := Scalar.subi 3#32 v8
      pure ⟨v476, v481⟩) := by
  simp only [sendZ, recvZ, waitSent, sigUp, sigDn, dite_bind]
  rfl

set_option maxRecDepth 65536 in
/-- The part ends the sends of step 1 and begins the receipts of step 1 and the sends of step 2. -/
theorem part18_eq (d0 : Dev nD) (v2 : BitVec 32) (v5 : BitVec 32) (v8 : BitVec 32) (v11 : BitVec 1) (v12 : BitVec 1) (v476 : BitVec 32) (v481 : BitVec 32) :
    k0_part18 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v476 v481 = (do
      sendZ 1 1 3 d0
      recvZ 0 1 0 d0
      recvZ 1 1 0 d0
      sendZ 0 2 0 d0
      sendZ 1 2 0 d0
      recvZ 0 1 1 d0
      let v514 : BitVec 32 := Scalar.subi 2#32 v8
      pure v514) := by
  simp only [sendZ, recvZ, waitSent, sigUp, sigDn, dite_bind]
  rfl

set_option maxRecDepth 65536 in
/-- The part goes on with the receipts of step 1 and the sends of step 2, up to the third column block. -/
theorem part19_eq (d0 : Dev nD) (v2 : BitVec 32) (v5 : BitVec 32) (v8 : BitVec 32) (v11 : BitVec 1) (v12 : BitVec 1) (v514 : BitVec 32) :
    k0_part19 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v514 = (do
      recvZ 1 1 1 d0
      sendZ 0 2 1 d0
      sendZ 1 2 1 d0
      recvZ 0 1 2 d0
      recvZ 1 1 2 d0
      let v542 : BitVec 32 := Scalar.addi v8 3#32
      let v543 : BitVec 32 := Scalar.subi v542 2#32
      let v544 : BitVec 32 := Scalar.subi v8 3#32
      let v545 : BitVec 32 := Scalar.addi v544 2#32
      let v546 : BitVec 1 := Scalar.cmpi .sle v8 2#32
      let v547 : BitVec 1 := Scalar.andi v11 v546
      pure ⟨v543, v545, v547⟩) := by
  simp only [sendZ, recvZ, waitSent, sigUp, sigDn, dite_bind]
  rfl

set_option maxRecDepth 65536 in
/-- The part ends the receipts of step 1 and the sends of step 2. -/
theorem part20_eq (d0 : Dev nD) (v2 : BitVec 32) (v5 : BitVec 32) (v8 : BitVec 32) (v11 : BitVec 1) (v12 : BitVec 1) (v543 : BitVec 32) (v545 : BitVec 32) (v547 : BitVec 1) :
    k0_part20 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v543 v545 v547 = (do
      sendZ 0 2 2 d0
      sendZ 1 2 2 d0
      recvZ 0 1 3 d0
      recvZ 1 1 3 d0
      sendZ 0 2 3 d0
      sendZ 1 2 3 d0
      let v578 : BitVec 32 := Scalar.subi v8 1#32
      let v579 : BitVec 1 := Scalar.cmpi .sle v578 2#32
      let v580 : BitVec 1 := Scalar.andi v12 v579
      pure v580) := by
  simp only [sendZ, recvZ, waitSent, sigUp, sigDn, dite_bind]
  rfl

set_option maxRecDepth 65536 in
/-- The part receives the first column block of step 2 and sends its reduced tile along the first axis. -/
theorem part21_eq (d0 : Dev nD) (v2 : BitVec 32) (v5 : BitVec 32) (v8 : BitVec 32) (v11 : BitVec 1) (v392 : BitVec 32) (v393 : BitVec 32) (v580 : BitVec 1) :
    k0_part21 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v392 v393 v580 = (do
      recvZ 0 2 0 d0
      recvZ 1 2 0 d0
      xSend 0 0 d0
      pure ⟨⟩) := by
  simp only [sendZ, recvZ, waitSent, sigUp, sigDn, dite_bind]
  rfl

set_option maxRecDepth 65536 in
/-- The part sends that tile along the second axis, and receives the second column block of step 2 and sends its tile
    along the first. -/
theorem part22_eq (d0 : Dev nD) (v2 : BitVec 32) (v5 : BitVec 32) (v8 : BitVec 32) (v11 : BitVec 1) (v12 : BitVec 1) (v392 : BitVec 32) (v393 : BitVec 32) :
    k0_part22 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v392 v393 = (do
      xSend 1 0 d0
      recvZ 0 2 1 d0
      recvZ 1 2 1 d0
      xSend 0 1 d0
      let v637 : BitVec 32 := Scalar.muli v2 8#32
      let v638 : BitVec 32 := Scalar.addi 0#32 v637
      let v639 : BitVec 32 := Scalar.muli v393 4#32
      pure ⟨v638, v639⟩) := by
  simp only [sendZ, recvZ, waitSent, sigUp, sigDn, dite_bind]
  rfl

set_option maxRecDepth 65536 in
/-- The part sends that tile along the second axis, and receives the third column block of step 2 and sends its tile
    along the first. -/
theorem part23_eq (d0 : Dev nD) (v2 : BitVec 32) (v5 : BitVec 32) (v8 : BitVec 32) (v11 : BitVec 1) (v12 : BitVec 1) (v392 : BitVec 32) (v638 : BitVec 32) (v639 : BitVec 32) :
    k0_part23 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v392 v638 v639 = (do
      xSend 1 1 d0
      recvZ 0 2 2 d0
      recvZ 1 2 2 d0
      xSend 0 2 d0
      pure ⟨⟩) := by
  simp only [sendZ, recvZ, waitSent, sigUp, sigDn, dite_bind]
  rfl

set_option maxRecDepth 65536 in
/-- The part sends that tile along the second axis and receives the last column block of step 2. -/
theorem part24_eq (d0 : Dev nD) (v2 : BitVec 32) (v5 : BitVec 32) (v8 : BitVec 32) (v11 : BitVec 1) (v12 : BitVec 1) (v392 : BitVec 32) (v393 : BitVec 32) :
    k0_part24 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v11 v12 v392 v393 = (do
      xSend 1 2 d0
      recvZ 0 2 3 d0
      recvZ 1 2 3 d0
      pure ⟨⟩) := by
  simp only [sendZ, recvZ, waitSent, sigUp, sigDn, dite_bind]
  rfl

set_option maxRecDepth 65536 in
/-- The part sends the last column block's tile along both axes and stages the own tile of the first. -/
theorem part25_eq (d0 : Dev nD) (v2 : BitVec 32) (v8 : BitVec 32) (v10 : BitVec 32) (v393 : BitVec 32) :
    k0_part25 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 = (do
      xSend 0 3 d0
      xSend 1 3 d0
      let v724 ← ldOwn 0 d0
      let v726 ← ldSt 0
      stSt 0 (k0_pay47 v724)
      pure ⟨⟩) := rfl

set_option maxRecDepth 65536 in
/-- The part writes out the own tiles of the first two column blocks and stages the third's. -/
theorem part26_eq (d0 : Dev nD) (v8 : BitVec 32) (v10 : BitVec 32) :
    k0_part26 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v10 = (do
      cpOut 0 0 0 d0
      let v738 ← ldOwn 1 d0
      let v740 ← ldSt 1
      stSt 1 (k0_pay48 v738)
      cpOut 0 1 1 d0
      let v752 ← ldOwn 2 d0
      wtOut 0 0 0 d0
      let v761 ← ldSt 0
      stSt 0 (k0_pay49 v752)
      pure 2048#32) := rfl

set_option maxRecDepth 65536 in
/-- The part writes out the own tiles of the last two column blocks. -/
theorem part27_eq (d0 : Dev nD) (v8 : BitVec 32) (v10 : BitVec 32) (c2048_i32_650 : BitVec 32) :
    k0_part27 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v10 c2048_i32_650 = (do
      cpOut 0 2 0 d0
      let v773 ← ldOwn 3 d0
      wtOut 0 1 1 d0
      let v782 ← ldSt 1
      stSt 1 (k0_pay50 v773)
      cpOut 0 3 1 d0
      pure ⟨⟩) := rfl

set_option maxRecDepth 65536 in
/-- The part awaits the first column block's copies along the first axis. -/
theorem part28_eq (d0 : Dev nD) (v2 : BitVec 32) (v5 : BitVec 32) (v8 : BitVec 32) (v392 : BitVec 32) (v393 : BitVec 32) :
    k0_part28 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v392 v393 = (do
      xWaitS 0 0 d0
      xWaitR 0 0 d0
      pure ⟨⟩) := rfl

set_option maxRecDepth 65536 in
/-- The part forwards the tile received in the first column block and writes it out. -/
theorem part29_eq (d0 : Dev nD) (v10 : BitVec 32) :
    k0_part29 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      xFwd 0 d0
      let v822 ← ldE 0 0
      wtOut 0 2 0 d0
      let v833 ← ldSt 0
      stSt 0 (k0_pay51 v822)
      cpOut 1 0 0 d0
      let v824 : BitVec 32 := Scalar.xori v10 2#32
      pure v824) := rfl

set_option maxRecDepth 65536 in
/-- The part awaits the second column block's copies along the first axis and forwards the tile received. -/
theorem part30_eq (d0 : Dev nD) (v2 : BitVec 32) (v5 : BitVec 32) (v8 : BitVec 32) (v392 : BitVec 32) (v393 : BitVec 32) :
    k0_part30 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v392 v393 = (do
      xWaitS 0 1 d0
      xWaitR 0 1 d0
      xFwd 1 d0
      pure ⟨⟩) := rfl

set_option maxRecDepth 65536 in
/-- The part writes that tile out and awaits the sending of the third column block's. -/
theorem part31_eq (d0 : Dev nD) (v10 : BitVec 32) :
    k0_part31 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 = (do
      let v873 ← ldE 0 1
      wtOut 0 3 1 d0
      let v884 ← ldSt 1
      stSt 1 (k0_pay52 v873)
      cpOut 1 1 1 d0
      xWaitS 0 2 d0
      let v875 : BitVec 32 := Scalar.xori v10 2#32
      pure v875) := rfl

set_option maxRecDepth 65536 in
/-- The part awaits the third column block's tile along the first axis, forwards and widens it. -/
theorem part32_eq (d0 : Dev nD) (v2 : BitVec 32) (v5 : BitVec 32) (v8 : BitVec 32) (v10 : BitVec 32) (v392 : BitVec 32) (v393 : BitVec 32) (v824 : BitVec 32) :
    k0_part32 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v10 v392 v393 v824 = (do
      xWaitR 0 2 d0
      xFwd 2 d0
      let v924 ← ldE 0 2
      let v926 : BitVec 32 := Scalar.xori v10 2#32
      let v927 : BitVec 32 := Scalar.muli v824 2048#32
      pure ⟨k0_pay53 v924, v926, v927⟩) := rfl

set_option maxRecDepth 65536 in
/-- The part writes that tile out and awaits the sending of the last column block's. -/
theorem part33_eq (d0 : Dev nD) (v392 : BitVec 32) (v925 : FVec F S512x512 .bf16) (v926 : BitVec 32) (v927 : BitVec 32) :
    k0_part33 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v392 v925 v926 v927 = (do
      wtOut 1 0 0 d0
      let v935 ← ldSt 0
      stSt 0 (k0_pay54 v925)
      cpOut 1 2 0 d0
      xWaitS 0 3 d0
      let v950 : BitVec 32 := Scalar.muli v392 8#32
      let v951 : BitVec 32 := Scalar.addi 0#32 v950
      pure v951) := rfl

set_option maxRecDepth 65536 in
/-- The part awaits the last column block's tile along the first axis, forwards and widens it. -/
theorem part34_eq (d0 : Dev nD) (v2 : BitVec 32) (v5 : BitVec 32) (v8 : BitVec 32) (v10 : BitVec 32) (v393 : BitVec 32) (v875 : BitVec 32) (v951 : BitVec 32) :
    k0_part34 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v5 v8 v10 v393 v875 v951 = (do
      xWaitR 0 3 d0
      xFwd 3 d0
      let v975 ← ldE 0 3
      let v977 : BitVec 32 := Scalar.xori v10 2#32
      pure ⟨k0_pay55 v975, v977⟩) := rfl

set_option maxRecDepth 65536 in
/-- The part writes that tile out and awaits the sending of the first column block's along the second axis. -/
theorem part35_eq (d0 : Dev nD) (v2 : BitVec 32) (v8 : BitVec 32) (v393 : BitVec 32) (v976 : FVec F S512x512 .bf16) (v977 : BitVec 32) :
    k0_part35 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v393 v976 v977 = (do
      wtOut 1 1 1 d0
      let v986 ← ldSt 1
      stSt 1 (k0_pay56 v976)
      cpOut 1 3 1 d0
      xWaitS 1 0 d0
      pure ⟨⟩) := rfl

set_option maxRecDepth 65536 in
/-- The part awaits the first column block's tile along the second axis and writes it out. -/
theorem part36_eq (d0 : Dev nD) (v10 : BitVec 32) (v926 : BitVec 32) :
    k0_part36 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 v926 = (do
      xWaitR 1 0 d0
      let v1012 ← ldE 1 0
      wtOut 1 2 0 d0
      let v1023 ← ldSt 0
      stSt 0 (k0_pay57 v1012)
      cpOut 2 0 0 d0
      let v1014 : BitVec 32 := Scalar.xori v10 1#32
      pure v1014) := rfl

set_option maxRecDepth 65536 in
/-- The part awaits the second column block's copies along the second axis and widens the tile received. -/
theorem part37_eq (d0 : Dev nD) (v2 : BitVec 32) (v8 : BitVec 32) (v10 : BitVec 32) (v393 : BitVec 32) (v977 : BitVec 32) :
    k0_part37 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v977 = (do
      xWaitS 1 1 d0
      xWaitR 1 1 d0
      let v1049 ← ldE 1 1
      wtOut 1 3 1 d0
      let v1060 ← ldSt 1
      let v1051 : BitVec 32 := Scalar.xori v10 1#32
      pure ⟨v1051, k0_pay58 v1049⟩) := rfl

set_option maxRecDepth 65536 in
/-- The part writes that tile out and awaits and loads the third column block's along the second axis. -/
theorem part38_eq (d0 : Dev nD) (v2 : BitVec 32) (v8 : BitVec 32) (v393 : BitVec 32) (v1051 : BitVec 32) (v1059 : FVec F S512x512 .f32) :
    k0_part38 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v393 v1051 v1059 = (do
      stSt 1 (k0_pay59 v1059)
      cpOut 2 1 1 d0
      xWaitS 1 2 d0
      xWaitR 1 2 d0
      let v1086 ← ldE 1 2
      pure v1086) := rfl

set_option maxRecDepth 65536 in
/-- The part writes that tile out and awaits the sending of the last column block's along the second axis. -/
theorem part39_eq (d0 : Dev nD) (v10 : BitVec 32) (v1014 : BitVec 32) (v1086 : Vec F S1x512x512 .bf16) :
    k0_part39 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v10 v1014 v1086 = (do
      wtOut 2 0 0 d0
      let v1097 ← ldSt 0
      stSt 0 (k0_pay60 v1086)
      cpOut 2 2 0 d0
      xWaitS 1 3 d0
      let v1088 : BitVec 32 := Scalar.xori v10 1#32
      pure v1088) := rfl

set_option maxRecDepth 65536 in
/-- The part awaits the last column block's tile along the second axis and stages it. -/
theorem part40_eq (d0 : Dev nD) (v2 : BitVec 32) (v8 : BitVec 32) (v10 : BitVec 32) (v393 : BitVec 32) (v1051 : BitVec 32) :
    k0_part40 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v1051 = (do
      xWaitR 1 3 d0
      let v1123 ← ldE 1 3
      wtOut 2 1 1 d0
      let v1134 ← ldSt 1
      stSt 1 (k0_pay61 v1123)
      let v1125 : BitVec 32 := Scalar.xori v10 1#32
      pure v1125) := rfl

set_option maxRecDepth 65536 in
/-- The part writes that tile out and awaits and widens the first forwarded tile. -/
theorem part41_eq (d0 : Dev nD) (v2 : BitVec 32) (v8 : BitVec 32) (v10 : BitVec 32) (v393 : BitVec 32) (v1088 : BitVec 32) :
    k0_part41 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v1088 = (do
      cpOut 2 3 1 d0
      fWaitS 0
      fWaitR 0
      let v1162 ← ldE 2 0
      let v1164 : BitVec 32 := Scalar.xori v10 3#32
      let v1165 : BitVec 32 := Scalar.muli v1088 2048#32
      pure ⟨k0_pay62 v1162, v1164, v1165, 1024#32⟩) := rfl

set_option maxRecDepth 65536 in
/-- The part writes the first forwarded tile out and awaits the sending of the second. -/
theorem part42_eq (d0 : Dev nD) (v1163 : FVec F S512x512 .bf16) (v1164 : BitVec 32) (v1165 : BitVec 32) (c1024_i32_1096 : BitVec 32) :
    k0_part42 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v1163 v1164 v1165 c1024_i32_1096 = (do
      wtOut 2 2 0 d0
      let v1173 ← ldSt 0
      stSt 0 (k0_pay63 v1163)
      cpOut 3 0 0 d0
      fWaitS 1
      pure 8#32) := rfl

set_option maxRecDepth 65536 in
/-- The part awaits the second forwarded tile and stages it. -/
theorem part43_eq (d0 : Dev nD) (v2 : BitVec 32) (v8 : BitVec 32) (v10 : BitVec 32) (v393 : BitVec 32) (v1125 : BitVec 32) (c8_i32_1129 : BitVec 32) :
    k0_part43 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v1125 c8_i32_1129 = (do
      fWaitR 1
      let v1201 ← ldE 2 1
      wtOut 2 3 1 d0
      let v1212 ← ldSt 1
      stSt 1 (k0_pay64 v1201)
      let v1203 : BitVec 32 := Scalar.xori v10 3#32
      pure v1203) := rfl

set_option maxRecDepth 65536 in
/-- The part writes the second forwarded tile out and awaits and widens the third. -/
theorem part44_eq (d0 : Dev nD) (v2 : BitVec 32) (v8 : BitVec 32) (v10 : BitVec 32) (v393 : BitVec 32) (v1164 : BitVec 32) :
    k0_part44 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v1164 = (do
      cpOut 3 1 1 d0
      fWaitS 2
      fWaitR 2
      let v1240 ← ldE 2 2
      let v1242 : BitVec 32 := Scalar.xori v10 3#32
      let v1243 : BitVec 32 := Scalar.muli v1164 2048#32
      pure ⟨k0_pay65 v1240, v1242, v1243, 0#32⟩) := rfl

set_option maxRecDepth 65536 in
/-- The part writes the third forwarded tile out and awaits the sending of the last. -/
theorem part45_eq (d0 : Dev nD) (v1241 : FVec F S512x512 .bf16) (v1242 : BitVec 32) (v1243 : BitVec 32) (c0_i32_1188 : BitVec 32) :
    k0_part45 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v1241 v1242 v1243 c0_i32_1188 = (do
      wtOut 3 0 0 d0
      let v1251 ← ldSt 0
      stSt 0 (k0_pay66 v1241)
      cpOut 3 2 0 d0
      fWaitS 3
      pure 8#32) := rfl

set_option maxRecDepth 65536 in
/-- The part awaits the last forwarded tile and stages it. -/
theorem part46_eq (d0 : Dev nD) (v2 : BitVec 32) (v8 : BitVec 32) (v10 : BitVec 32) (v393 : BitVec 32) (v1203 : BitVec 32) (c8_i32_1221 : BitVec 32) :
    k0_part46 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v2 v8 v10 v393 v1203 c8_i32_1221 = (do
      fWaitR 3
      let v1279 ← ldE 2 3
      wtOut 3 1 1 d0
      let v1290 ← ldSt 1
      stSt 1 (k0_pay67 v1279)
      let v1281 : BitVec 32 := Scalar.xori v10 3#32
      pure v1281) := rfl

set_option maxRecDepth 65536 in
/-- The part writes the last forwarded tile out, ends the copies into the result and awaits the first sent tiles of
    step 0. -/
theorem part47_eq (d0 : Dev nD) (v8 : BitVec 32) (v11 : BitVec 1) (v12 : BitVec 1) (v1242 : BitVec 32) (v1281 : BitVec 32) :
    k0_part47 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v11 v12 v1242 v1281 = (do
      cpOut 3 3 1 d0
      wtOut 3 2 0 d0
      wtOut 3 3 1 d0
      waitSent 0 0 0 d0
      waitSent 1 0 0 d0
      let v1314 : BitVec 32 := Scalar.addi v8 3#32
      let v1315 : BitVec 32 := Scalar.subi v1314 0#32
      let v1316 : BitVec 32 := Scalar.subi v8 3#32
      let v1317 : BitVec 32 := Scalar.addi v1316 0#32
      pure ⟨v1315, v1317, 0#32⟩) := by
  simp only [sendZ, recvZ, waitSent, sigUp, sigDn, dite_bind]
  rfl

set_option maxRecDepth 65536 in
/-- The part awaits the other sent tiles of step 0. -/
theorem part48_eq (d0 : Dev nD) (v8 : BitVec 32) (v11 : BitVec 1) (v12 : BitVec 1) (v1315 : BitVec 32) (v1317 : BitVec 32) (c0_i32_1273 : BitVec 32) :
    k0_part48 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v11 v12 v1315 v1317 c0_i32_1273 = (do
      waitSent 0 0 1 d0
      waitSent 1 0 1 d0
      waitSent 0 0 2 d0
      waitSent 1 0 2 d0
      waitSent 0 0 3 d0
      waitSent 1 0 3 d0
      let v1354 : BitVec 32 := Scalar.addi v8 3#32
      let v1355 : BitVec 32 := Scalar.subi v1354 1#32
      let v1356 : BitVec 32 := Scalar.subi v8 3#32
      let v1357 : BitVec 32 := Scalar.addi v1356 1#32
      let v1358 : BitVec 1 := Scalar.cmpi .sle v8 1#32
      let v1359 : BitVec 1 := Scalar.andi v11 v1358
      let v1360 : BitVec 32 := Scalar.extui v1359
      pure ⟨v1355, v1357, v1360, 0#32⟩) := by
  simp only [sendZ, recvZ, waitSent, sigUp, sigDn, dite_bind]
  rfl

set_option maxRecDepth 65536 in
set_option maxHeartbeats 4000000 in
/-- The part awaits the sent tiles of step 1. -/
theorem part49_eq (d0 : Dev nD) (v8 : BitVec 32) (v11 : BitVec 1) (v12 : BitVec 1) (v1355 : BitVec 32) (v1357 : BitVec 32) (v1360 : BitVec 32) (c0_i32_1293 : BitVec 32) :
    k0_part49 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v11 v12 v1355 v1357 v1360 c0_i32_1293 = (do
      waitSent 0 1 0 d0
      waitSent 1 1 0 d0
      waitSent 0 1 1 d0
      waitSent 1 1 1 d0
      waitSent 0 1 2 d0
      waitSent 1 1 2 d0
      waitSent 0 1 3 d0
      waitSent 1 1 3 d0
      pure 3#32) := by
  simp only [sendZ, recvZ, waitSent, sigUp, sigDn, dite_bind]
  rfl

set_option maxRecDepth 65536 in
/-- The part awaits the sent tiles of step 2, but for the last column block. -/
theorem part50_eq (d0 : Dev nD) (v8 : BitVec 32) (v11 : BitVec 1) (v12 : BitVec 1) (c3_i32_1312 : BitVec 32) :
    k0_part50 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 d0 v8 v11 v12 c3_i32_1312 = (do
      waitSent 0 2 0 d0
      waitSent 1 2 0 d0
      waitSent 0 2 1 d0
      waitSent 1 2 1 d0
      waitSent 0 2 2 d0
      waitSent 1 2 2 d0
      let v1394 : BitVec 32 := Scalar.addi v8 c3_i32_1312
      let v1395 : BitVec 32 := Scalar.subi v1394 2#32
      let v1396 : BitVec 32 := Scalar.subi v8 3#32
      let v1397 : BitVec 32 := Scalar.addi v1396 2#32
      let v1425 : BitVec 1 := Scalar.cmpi .sle v8 2#32
      let v1426 : BitVec 1 := Scalar.andi v11 v1425
      let v1427 : BitVec 32 := Scalar.extui v1426
      pure ⟨v1395, v1397, v1427, 0#32⟩) := by
  simp only [sendZ, recvZ, waitSent, sigUp, sigDn, dite_bind]
  rfl

end Cert.KernelIdeal.Ring
-- ==== Proof.Body.lean ====
module

public import proofs.«01_k».proof.Proof.Parts

/-! The kernel's body as a program of steps: the input pipeline, the four products, the reduction along the third
    mesh axis, the exchanges along the first two, and the writing out. -/

@[expose] public section

set_option synthInstance.maxSize 4096

noncomputable section

namespace Cert.KernelIdeal.Ring

open Idealize.ShloMosaic Idealize.ShloMosaic.TcCoe
open Idealize.SL Idealize.SL.Sem
open Cert.KernelIdeal.Gen

variable {F : FTy → Type} [FloatOps F]

/-- Four steps in order. -/
def four (f : Fin 4 → P F PUnit) : P F PUnit := do f 0; f 1; f 2; f 3

/-- Start one step's copies of the input pipeline. -/
def inStart (k : Fin 8) (p : Fin 2) (c : Dev nD) : P F PUnit := do cpX k p; cpD c k p

/-- Await one step's copies and convert what they brought. -/
def inStep (k : Fin 8) (p : Fin 2) (c : Dev nD) : P F PUnit := do
  wtX k p
  wtD c k p
  let v ← ldXs p
  let _ ← ldXb k
  stXb k (k0_pay1 v)
  let w ← ldDs p
  let _ ← ldDb k
  stDb k (k0_pay1 w)

/-- Signal the neighbours and await their signals. -/
def barrier (c : Dev nD) : P F PUnit := do sigUp c; sigDn c; sigX c; sigY c; barWait c

/-- The input pipeline, with the barrier between its first copies and the first wait. -/
def input (c : Dev nD) : P F PUnit := do
  inStart 0 0 c; inStart 1 1 c
  barrier c
  inStep 0 0 c; inStart 2 0 c
  inStep 1 1 c; inStart 3 1 c
  inStep 2 0 c; inStart 4 0 c
  inStep 3 1 c; inStart 5 1 c
  inStep 4 0 c; inStart 6 0 c
  inStep 5 1 c; inStart 7 1 c
  inStep 6 0 c
  inStep 7 1 c

/-- One block of rows of the partial product. -/
def gemm (r : Fin 4) : P F PUnit := do
  let a ← ldXc r
  let b ← ldDy
  let _ ← ldP r
  stP r (k0_pay18 a b)

def sends (s : Fin 3) (h : Fin 4) (c : Dev nD) : P F PUnit := do sendZ 0 s h c; sendZ 1 s h c
def recvs (s : Fin 3) (h : Fin 4) (c : Dev nD) : P F PUnit := do recvZ 0 s h c; recvZ 1 s h c

/-- One block of columns of the last step: receive, then hand the reduced tile to both peers. -/
def lastStep (h : Fin 4) (c : Dev nD) : P F PUnit := do recvs 2 h c; xSend 0 h c; xSend 1 h c

/-- Write a value out through a staging slot. -/
def emit (j h : Fin 4) (p : Fin 2) (c : Dev nD) (v : FVec F S1x512x512 .f32) : P F PUnit := do
  let _ ← ldSt p
  stSt p v
  cpOut j h p c

/-- Write out the own reduced tiles. -/
def outOwn (c : Dev nD) : P F PUnit := do
  let a ← ldOwn 0 c
  emit 0 0 0 c (k0_pay47 a)
  let a ← ldOwn 1 c
  emit 0 1 1 c (k0_pay47 a)
  let a ← ldOwn 2 c
  wtOut 0 0 0 c
  emit 0 2 0 c (k0_pay47 a)
  let a ← ldOwn 3 c
  wtOut 0 1 1 c
  emit 0 3 1 c (k0_pay47 a)

/-- Write out a tile received in exchange `e`, once the copy that used its staging slot before has ended. -/
def outE (e : Fin 3) (j h : Fin 4) (p : Fin 2) (j' h' : Fin 4) (c : Dev nD) : P F PUnit := do
  let a ← ldE e h
  wtOut j' h' p c
  emit j h p c (k0_pay51 a)

def outX (h : Fin 4) (p : Fin 2) (j' h' : Fin 4) (c : Dev nD) : P F PUnit := do
  xWaitS 0 h c; xWaitR 0 h c; xFwd h c; outE 0 1 h p j' h' c
def outY (h : Fin 4) (p : Fin 2) (j' h' : Fin 4) (c : Dev nD) : P F PUnit := do
  xWaitS 1 h c; xWaitR 1 h c; outE 1 2 h p j' h' c
def outZ (h : Fin 4) (p : Fin 2) (j' h' : Fin 4) (c : Dev nD) : P F PUnit := do
  fWaitS h; fWaitR h; outE 2 3 h p j' h' c

def waits (s : Fin 3) (h : Fin 4) (c : Dev nD) : P F PUnit := do waitSent 0 s h c; waitSent 1 s h c

/-- The program of device `c`. -/
def prog (c : Dev nD) : P F PUnit := do
  input c
  gemm 3; gemm 0
  four (fun h => sends 0 h c)
  gemm 2; gemm 1
  four (fun h => do recvs 0 h c; sends 1 h c)
  four (fun h => do recvs 1 h c; sends 2 h c)
  four (fun h => lastStep h c)
  outOwn c
  outX 0 0 0 2 c; outX 1 1 0 3 c; outX 2 0 1 0 c; outX 3 1 1 1 c
  outY 0 0 1 2 c; outY 1 1 1 3 c; outY 2 0 2 0 c; outY 3 1 2 1 c
  outZ 0 0 2 2 c; outZ 1 1 2 3 c; outZ 2 0 3 0 c; outZ 3 1 3 1 c
  wtOut 3 2 0 c; wtOut 3 3 1 c
  four (fun h => waits 0 h c)
  four (fun h => waits 1 h c)
  four (fun h => waits 2 h c)

/-- The printed payloads are four functions: a conversion, a product, and two widenings. -/
theorem pays :
    k0_pay2 (F := F) = k0_pay1 ∧
    k0_pay3 (F := F) = k0_pay1 ∧
    k0_pay4 (F := F) = k0_pay1 ∧
    k0_pay5 (F := F) = k0_pay1 ∧
    k0_pay6 (F := F) = k0_pay1 ∧
    k0_pay7 (F := F) = k0_pay1 ∧
    k0_pay8 (F := F) = k0_pay1 ∧
    k0_pay9 (F := F) = k0_pay1 ∧
    k0_pay12 (F := F) = k0_pay1 ∧
    k0_pay13 (F := F) = k0_pay1 ∧
    k0_pay14 (F := F) = k0_pay1 ∧
    k0_pay15 (F := F) = k0_pay1 ∧
    k0_pay16 (F := F) = k0_pay1 ∧
    k0_pay17 (F := F) = k0_pay1 ∧
    (∀ v, k0_pay11 (F := F) (k0_pay10 v) = k0_pay1 v) ∧
    k0_pay19 (F := F) = k0_pay18 ∧
    k0_pay20 (F := F) = k0_pay18 ∧
    (∀ a b, k0_pay22 (F := F) (k0_pay21 a b) = k0_pay18 a b) ∧
    k0_pay48 (F := F) = k0_pay47 ∧
    k0_pay49 (F := F) = k0_pay47 ∧
    k0_pay50 (F := F) = k0_pay47 ∧
    k0_pay52 (F := F) = k0_pay51 ∧
    k0_pay57 (F := F) = k0_pay51 ∧
    k0_pay60 (F := F) = k0_pay51 ∧
    k0_pay61 (F := F) = k0_pay51 ∧
    k0_pay64 (F := F) = k0_pay51 ∧
    k0_pay67 (F := F) = k0_pay51 ∧
    (∀ v, k0_pay54 (F := F) (k0_pay53 v) = k0_pay51 v) ∧
    (∀ v, k0_pay56 (F := F) (k0_pay55 v) = k0_pay51 v) ∧
    (∀ v, k0_pay59 (F := F) (k0_pay58 v) = k0_pay51 v) ∧
    (∀ v, k0_pay63 (F := F) (k0_pay62 v) = k0_pay51 v) ∧
    (∀ v, k0_pay66 (F := F) (k0_pay65 v) = k0_pay51 v) := by
  refine ⟨rfl, rfl, rfl, rfl, rfl, rfl, rfl, rfl, rfl, rfl, rfl, rfl, rfl, rfl, fun _ => rfl, rfl, rfl, fun _ _ => rfl, rfl, rfl, rfl, rfl, rfl, rfl, rfl, rfl, rfl, fun _ => rfl, fun _ => rfl, fun _ => rfl, fun _ => rfl, fun _ => rfl⟩

/-- The last two waits spelt out. -/
theorem last_waits (c : Dev nD) :
    (waitSent (F := F) 0 2 3 c = if h : k0_cond73 c = 1#1 then
        Prog.lift (.waitDma2 (zsS 0 2 3).sem (zSlot 0 2 3)
          (Pb.slice (Rect.unit (s := S2048x2048) (k0_off89 c) S512x512.size (k0_off89_inb c h)) (fun _ => rfl))
          (((Memref.isWhole_whole cc0_scratch3).wordExact_slice rfl _ wordsbf16_S3x4x512x512_S1x1x512x512_2_3_0_0).reshape _ _)
          ((Memref.isWhole_whole cc0_scratch2).wordExact_slice rfl _ (k0_off89_wordsbf16 c h)))
      else pure ⟨⟩) ∧
    (waitSent (F := F) 1 2 3 c = if h : k0_cond74 c = 1#1 then
        Prog.lift (.waitDma2 (zsS 1 2 3).sem (zSlot 1 2 3)
          (Pb.slice (Rect.unit (s := S2048x2048) (k0_off90 c) S512x512.size (k0_off90_inb c h)) (fun _ => rfl))
          (((Memref.isWhole_whole cc0_scratch4).wordExact_slice rfl _ wordsbf16_S3x4x512x512_S1x1x512x512_2_3_0_0).reshape _ _)
          ((Memref.isWhole_whole cc0_scratch2).wordExact_slice rfl _ (k0_off90_wordsbf16 c h)))
      else pure ⟨⟩) := ⟨rfl, rfl⟩

set_option maxRecDepth 65536 in
set_option maxHeartbeats 4000000 in
/-- The printed body reads the device it is on and then runs that device's program. -/
theorem body_eq (t : Fin cfg0.N) : bodyAt0 (F := F) t = (devId >>= fun c => prog c) := by
  simp only [bodyAt0, cc0_body, k0_part51, part1_eq, part2_eq, part3_eq, part4_eq, part5_eq, part6_eq, part7_eq,
    part8_eq, part9_eq, part10_eq, part11_eq, part12_eq, part13_eq, part14_eq, part15_eq, part16_eq, part17_eq,
    part18_eq, part19_eq, part20_eq, part21_eq, part22_eq, part23_eq, part24_eq, part25_eq, part26_eq, part27_eq,
    part28_eq, part29_eq, part30_eq, part31_eq, part32_eq, part33_eq, part34_eq, part35_eq, part36_eq, part37_eq,
    part38_eq, part39_eq, part40_eq, part41_eq, part42_eq, part43_eq, part44_eq, part45_eq, part46_eq, part47_eq,
    part48_eq, part49_eq, part50_eq, bind_assoc, pure_bind, pays,
    prog, input, inStart, inStep, barrier, gemm, sends, recvs, lastStep, emit, outOwn, outE, outX, outY, outZ, waits, four, last_waits, dite_bind, bind_pure]
  repeat with_reducible (refine bind_congr fun _ => ?_)
  split <;> rfl

end Cert.KernelIdeal.Ring
-- ==== Proof.Column.lean ====
module

public import proofs.«01_k».proof.Proof.Sched
public import proofs.«01_k».proof.Proof.Body

/-! One block of columns over time: the reduction along the third axis, step by step. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Column

variable (m : (ℓ : Loc nD τ sig) → Buf (Elt F) ℓ) (K : Dev nD × C → ℕ) (c : Dev nD)

/-! ## Four steps in order -/

/-- Something for each of four is the four in order. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Four like steps, each with its own resources, each moving the device on by `k` places. -/
theorem tr_four (f : Fin 4 → P F PUnit) (n k : ℕ) (A B : Fin 4 → sProp 𝕄)
    (h : ∀ i : Fin 4, Tr c iprop(Ow m K c (n + k * i.val) ∗ A i) (f i) ⟨⟩ iprop(Ow m K c (n + k * i.val + k) ∗ B i)) :
    Tr c iprop(Ow m K c n ∗ bigSep Finset.univ A) (four f) ⟨⟩ iprop(Ow m K c (n + 4 * k) ∗ bigSep Finset.univ B) := by
  rw [bigSep_four, bigSep_four]
  unfold four
  have h0 : Tr c iprop(Ow m K c n ∗ A 0) (f 0) ⟨⟩ iprop(Ow m K c (n + k) ∗ B 0) := h 0
  have h1 : Tr c iprop(Ow m K c (n + k) ∗ A 1) (f 1) ⟨⟩ iprop(Ow m K c (n + 2 * k) ∗ B 1) := by
    have := h 1
    rwa [show n + k * (1 : Fin 4).val = n + k by show n + k * 1 = _; omega, show n + k + k = n + 2 * k by omega] at this
  have h2 : Tr c iprop(Ow m K c (n + 2 * k) ∗ A 2) (f 2) ⟨⟩ iprop(Ow m K c (n + 3 * k) ∗ B 2) := by
    have := h 2
    rwa [show n + k * (2 : Fin 4).val = n + 2 * k by show n + k * 2 = _; omega, show n + 2 * k + k = n + 3 * k by omega] at this
  have h3 : Tr c iprop(Ow m K c (n + 3 * k) ∗ A 3) (f 3) ⟨⟩ iprop(Ow m K c (n + 4 * k) ∗ B 3) := by
    have := h 3
    rwa [show n + k * (3 : Fin 4).val = n + 3 * k by show n + k * 3 = _; omega, show n + 3 * k + k = n + 4 * k by omega] at this
  refine ((h0.frame iprop(A 1 ∗ A 2 ∗ A 3)).conseq ?_ .rfl).bind (((h1.frame iprop(B 0 ∗ A 2 ∗ A 3)).conseq ?_ .rfl).bind
    (((h2.frame iprop(B 0 ∗ B 1 ∗ A 3)).conseq ?_ .rfl).bind ((h3.frame iprop(B 0 ∗ B 1 ∗ B 2)).conseq ?_ ?_)))
  · iintro ⟨HO, H0, H1, H2, H3⟩
    isplitl [HO H0]; · isplitl [HO] <;> iassumption
    isplitl [H1]; · iexact H1
    isplitl [H2] <;> iassumption
  · iintro ⟨⟨HO, H0⟩, H1, H2, H3⟩
    isplitl [HO H1]; · isplitl [HO] <;> iassumption
    isplitl [H0]; · iexact H0
    isplitl [H2] <;> iassumption
  · iintro ⟨⟨HO, H1⟩, H0, H2, H3⟩
    isplitl [HO H2]; · isplitl [HO] <;> iassumption
    isplitl [H0]; · iexact H0
    isplitl [H1] <;> iassumption
  · iintro ⟨⟨HO, H2⟩, H0, H1, H3⟩
    isplitl [HO H3]; · isplitl [HO] <;> iassumption
    isplitl [H0]; · iexact H0
    isplitl [H1] <;> iassumption
  · iintro ⟨⟨HO, H3⟩, H0, H1, H2⟩
    isplitl [HO]; · iexact HO
    isplitl [H0]; · iexact H0
    isplitl [H1]; · iexact H1
    isplitl [H2] <;> iassumption

/-- One member changes, the others stay. -/
theorem bigSep_change {T : Type} [DecidableEq T] {S : Finset T} {i : T} (hi : i ∈ S) {Φ Ψ : T → sProp 𝕄} (h : ∀ x, x ≠ i → Φ x = Ψ x) :
    bigSep S Φ = iprop(Φ i ∗ bigSep (S.erase i) Φ) ∧ bigSep S Ψ = iprop(Ψ i ∗ bigSep (S.erase i) Φ) := by
  refine ⟨bigSep_erase hi, ?_⟩
  rw [bigSep_erase hi, bigSep_congr (s := S.erase i) fun x hx => h x (Finset.ne_of_mem_erase hx)]
  rfl

/-! ## A column over time -/

abbrev jz (h : Fin 4) (x : Fin 2 × Fin 3) : J := .inl (x.1, x.2, h)

/-- A tile at a time: here with what has been added to it, or lent. -/
def tile (h : Fin 4) (p : ℕ) (r : Fin 4) : sProp 𝕄 :=
  if gn c r p = true then iprop(emp) else ownsTc c (pT r h) fullShare (cont m c h r (fl 0 c r p) (fl 1 c r p))

/-- What a device keeps for sending one copy: before, with the rights to send it; -/
def sk0 (j : J) : sProp 𝕄 :=
  iprop((if act j c = true then iprop(dutyTok ER (sendC c j) 0 0 ∗ dutyTok ER (recvC (dst j c) j) 0 0 ∗ ownsX (dst j c) (slot j)) else iprop(emp)) ∗ atPos ER (sendC c j) 0 ∅ 0)
/-- on its way; -/
def sk1 (j : J) : sProp 𝕄 := iprop((if act j c = true then cred (tallyAt (sendC c j) () N) else iprop(emp)) ∗ atPos ER (sendC c j) 0 ∅ 0)
/-- gone. -/
def sk2 (j : J) : sProp 𝕄 := atPos ER (sendC c j) (if act j c = true then 1 else 0) ∅ 0
/-- What it keeps for receiving one: before; -/
def rk0 (j : J) : sProp 𝕄 := iprop((if actR j c = true then cred (tallyAt (recvC c j) () N) else iprop(emp)) ∗ atPos ER (recvC c j) 0 ∅ 0)
/-- received. -/
def rk1 (j : J) : sProp 𝕄 := iprop(atPos ER (recvC c j) (if actR j c = true then 1 else 0) ∅ 0 ∗ (if actR j c = true then ownsX c (slot j) else iprop(emp)))

def sk (h : Fin 4) (p : ℕ) (x : Fin 2 × Fin 3) : sProp 𝕄 :=
  if p ≤ 4 * x.2.val + x.1.val then sk0 c (jz h x) else if p ≤ 12 + 2 * x.2.val + x.1.val then sk1 c (jz h x) else sk2 c (jz h x)
def rk (h : Fin 4) (p : ℕ) (x : Fin 2 × Fin 3) : sProp 𝕄 :=
  if p ≤ 4 * x.2.val + 2 + x.1.val then rk0 c (jz h x) else rk1 c (jz h x)

/-- Column block `h` at time `p`, its tiles those of the row blocks in `R`. -/
def col (R : Finset (Fin 4)) (p : ℕ) (h : Fin 4) : sProp 𝕄 :=
  iprop(bigSep Finset.univ (sk c h p) ∗ bigSep Finset.univ (rk c h p) ∗ bigSep R (tile m c h p))

/-- At a time that neither sends a copy nor takes its tile back, what the device keeps for sending it does not change.
    -/
theorem sk_same (h : Fin 4) (p : ℕ) (x : Fin 2 × Fin 3) (h1 : p ≠ 4 * x.2.val + x.1.val) (h2 : p ≠ 12 + 2 * x.2.val + x.1.val) : sk (F := F) c h p x = sk c h (p + 1) x := by
  unfold sk
  rw [if_congr (show p ≤ 4 * x.2.val + x.1.val ↔ p + 1 ≤ 4 * x.2.val + x.1.val by omega) rfl
    (if_congr (show p ≤ 12 + 2 * x.2.val + x.1.val ↔ p + 1 ≤ 12 + 2 * x.2.val + x.1.val by omega) rfl rfl)]
/-- At a time that does not receive a copy, what the device keeps for receiving it does not change. -/
theorem rk_same (h : Fin 4) (p : ℕ) (x : Fin 2 × Fin 3) (h1 : p ≠ 4 * x.2.val + 2 + x.1.val) : rk (F := F) c h p x = rk c h (p + 1) x := by
  unfold rk
  rw [if_congr (show p ≤ 4 * x.2.val + 2 + x.1.val ↔ p + 1 ≤ 4 * x.2.val + 2 + x.1.val by omega) rfl rfl]
/-- A tile whose record does not change at a time is the same after it. -/
theorem tile_same (h : Fin 4) (p : ℕ) (r : Fin 4) (hs : same c r p) : tile m c h p r = tile m c h (p + 1) r := by
  unfold tile; rw [hs.1, hs.2.1, hs.2.2]

/-- Two different copies of a column are not sent at one time. -/
theorem ne_time (x y : Fin 2 × Fin 3) (h : x ≠ y) (e : 4 * x.2.val + x.1.val = 4 * y.2.val + y.1.val) : False := by
  apply h
  obtain ⟨d, s⟩ := x; obtain ⟨d', s'⟩ := y
  have h1 := d.isLt; have h2 := d'.isLt
  ext <;> dsimp only at * <;> omega
/-- Two different copies of a column do not come back at one time. -/
theorem ne_timeB (x y : Fin 2 × Fin 3) (h : x ≠ y) (e : 2 * x.2.val + x.1.val = 2 * y.2.val + y.1.val) : False := by
  apply h
  obtain ⟨d, s⟩ := x; obtain ⟨d', s'⟩ := y
  have h1 := d.isLt; have h2 := d'.isLt
  ext <;> dsimp only at * <;> omega

/-- A tile that is not lent is owned, with the sum its record says. -/
theorem tile_here (h : Fin 4) (p : ℕ) (r : Fin 4) (u w : Bool) (h0 : gn c r p = false) (h1 : fl 0 c r p = u) (h2 : fl 1 c r p = w) :
    tile m c h p r = ownsTc c (pT r h) fullShare (cont m c h r u w) := by
  unfold tile; rw [h0, h1, h2]; exact if_neg Bool.false_ne_true
/-- A tile that is lent is not held. -/
theorem tile_gone (h : Fin 4) (p : ℕ) (r : Fin 4) (h0 : gn c r p = true) : tile m c h p r = iprop(emp) := by
  unfold tile; rw [h0]; exact if_pos rfl

/-! ## Sending -/

/-- At its sending time a copy is still to be made. -/
theorem sk_before (h : Fin 4) (x : Fin 2 × Fin 3) : sk (F := F) c h (4 * x.2.val + x.1.val) x = sk0 c (jz h x) := if_pos le_rfl
/-- Just after its sending time it is on its way. -/
theorem sk_after (h : Fin 4) (x : Fin 2 × Fin 3) : sk (F := F) c h (4 * x.2.val + x.1.val + 1) x = sk1 c (jz h x) := by
  unfold sk; rw [if_neg (by omega)]; exact if_pos (by have := x.1.isLt; have := x.2.isLt; omega)
/-- At the time its tile comes back it is on its way. -/
theorem sk_beforeB (h : Fin 4) (x : Fin 2 × Fin 3) : sk (F := F) c h (12 + 2 * x.2.val + x.1.val) x = sk1 c (jz h x) := by
  unfold sk; rw [if_neg (by have := x.1.isLt; have := x.2.isLt; omega)]; exact if_pos le_rfl
/-- Just after that time it is gone. -/
theorem sk_afterB (h : Fin 4) (x : Fin 2 × Fin 3) : sk (F := F) c h (12 + 2 * x.2.val + x.1.val + 1) x = sk2 c (jz h x) := by
  unfold sk; rw [if_neg (by have := x.1.isLt; have := x.2.isLt; omega)]; exact if_neg (by omega)
/-- At its receiving time a copy is still to be received. -/
theorem rk_before (h : Fin 4) (x : Fin 2 × Fin 3) : rk (F := F) c h (4 * x.2.val + 2 + x.1.val) x = rk0 c (jz h x) := if_pos le_rfl
/-- Just after its receiving time it is received. -/
theorem rk_after (h : Fin 4) (x : Fin 2 × Fin 3) : rk (F := F) c h (4 * x.2.val + 2 + x.1.val + 1) x = rk1 c (jz h x) := if_neg (by omega)

/-- The copy of a direction's running tile, its offset in closed form. -/
theorem send_core (d : Fin 2) (s : Fin 3) (h : Fin 4) (t : Dev nD) (o : Fin 2 → ℕ) (ho : o = ![512 * (rowS d s c).val, 512 * h.val]) (hb)
    (ht : t = dst (.inl (d, s, h)) c) (ha : act (.inl (d, s, h)) c = true) {hsc : (zSlot d s h : Memref sig (Dev.tc t : Thread nD τ).2.kind .vmem S512x512 .bf16).view.ref.isScScratch = false} {hsrc hdst}
    {hsem : DmaTarget.Typed .vmem (.dma (zrS d s h).sem) (.remote (Dev.tc t : Thread nD τ) (zSlot d s h : Memref sig .tc .vmem S512x512 .bf16) (.dma (zsS d s h).sem) hsc)} :
    Tr c iprop(Ow m K c (4 + 8 * s.val + 2 * h.val + d.val) ∗ ownsTc c (pT (rowS d s c) h) fullShare (Sent m (.inl (d, s, h)) c)
        ∗ ownsX (dst (.inl (d, s, h)) c) (slot (.inl (d, s, h))) ∗ dutyTok ER (sendC c (.inl (d, s, h))) 0 0 ∗ dutyTok ER (recvC (dst (.inl (d, s, h)) c) (.inl (d, s, h))) 0 0)
      (Prog.lift (.enqueueDma (pTile o hb) (.remote (Dev.tc t : Thread nD τ) (zSlot d s h) (.dma (zsS d s h).sem) hsc) (.dma (zrS d s h).sem) hsrc hdst hsem)) ⟨⟩
      iprop(Ow m K c (4 + 8 * s.val + 2 * h.val + d.val + 1) ∗ cred (tallyAt (sendC c (.inl (d, s, h))) () N)) := by
  subst ho
  exact tr_send m K c t (.inl (d, s, h)) (pTile ![512 * (rowS d s c).val, 512 * h.val] hb) fullShare ht ha rfl

/-- Sending a tile along the third axis takes its column block from the sending time to the next, with one thing less
    owed. -/
theorem tr_sendZ (d : Fin 2) (s : Fin 3) (h : Fin 4) (R : Finset (Fin 4)) (hR : act (.inl (d, s, 0)) c = true → rowS d s c ∈ R) :
    Tr c iprop(Ow m K c (4 + 8 * s.val + 2 * h.val + d.val) ∗ col m c R (4 * s.val + d.val) h) (sendZ d s h c) ⟨⟩
      iprop(Ow m K c (4 + 8 * s.val + 2 * h.val + d.val + 1) ∗ col m c R (4 * s.val + d.val + 1) h) := by
  have hd := d.isLt; have hs := s.isLt
  obtain ⟨e1, e2⟩ := bigSep_change (Finset.mem_univ (d, s)) (Φ := sk (F := F) c h (4 * s.val + d.val)) (Ψ := sk c h (4 * s.val + d.val + 1))
    fun x hx => sk_same c h _ x (fun e => ne_time (d, s) x (Ne.symm hx) e) (by have := x.1.isLt; have := x.2.isLt; omega)
  have e3 : bigSep Finset.univ (rk (F := F) c h (4 * s.val + d.val)) = bigSep Finset.univ (rk c h (4 * s.val + d.val + 1)) :=
    bigSep_congr fun x _ => rk_same c h _ x (by have := x.1.isLt; omega)
  rw [sk_before c h (d, s)] at e1
  rw [sk_after c h (d, s)] at e2
  unfold col
  rw [e1, e2, ← e3]
  unfold sendZ
  by_cases ha : act (.inl (d, s, h)) c = true
  · have hr : rowS d s c ∈ R := hR ha
    obtain ⟨t0, t1, t2, t3⟩ := send_this d s c ha
    obtain ⟨e4, e5⟩ := bigSep_change hr (Φ := tile m c h (4 * s.val + d.val)) (Ψ := tile m c h (4 * s.val + d.val + 1))
      fun r hr' => tile_same m c h _ r (send_other d s c r fun _ => hr')
    rw [tile_here m c h _ _ _ _ t0 t2 t3, ← Vf_cont] at e4
    rw [tile_gone m c h _ _ t1] at e5
    rw [e4, e5, dif_pos ((cS_iff d s h c).2 ha)]
    have core := fun hb hsc hsrc hdst hsem => send_core m K c d s h (⟨eS d s h c, eS_lt d s h c ((cS_iff d s h c).2 ha)⟩ : Dev nD) (oS d s h c) (oS_eq d s h c ha) hb
      (Fin.ext (eS_eq d s h c ha)) ha (hsc := hsc) (hsrc := hsrc) (hdst := hdst) (hsem := hsem)
    refine Tr.bind (Tr.conseq ((core _ _ _ _ _).frame iprop(atPos ER (sendC c (.inl (d, s, h))) 0 ∅ 0
      ∗ bigSep (Finset.univ.erase (d, s)) (sk c h (4 * s.val + d.val)) ∗ bigSep Finset.univ (rk c h (4 * s.val + d.val)) ∗ bigSep (R.erase (rowS d s c)) (tile m c h (4 * s.val + d.val)))) ?_ ?_) Tr.ret
    · unfold sk0; rw [if_pos ha]
      iintro ⟨HO, ⟨⟨⟨Ht1, Ht2, Hs⟩, Ha⟩, HS⟩, HR, HT, HTs⟩
      isplitl [HO HT Hs Ht1 Ht2]
      · isplitl [HO]; · iexact HO
        isplitl [HT]; · iexact HT
        isplitl [Hs]; · iexact Hs
        isplitl [Ht1] <;> iassumption
      isplitl [Ha]; · iexact Ha
      isplitl [HS]; · iexact HS
      isplitl [HR] <;> iassumption
    · unfold sk1; rw [if_pos ha]
      iintro ⟨⟨HO, Hc⟩, Ha, HS, HR, HTs⟩
      isplitl [HO]; · iexact HO
      isplitl [Hc Ha HS]
      · isplitl [Hc Ha]
        · isplitl [Hc] <;> iassumption
        iexact HS
      isplitl [HR]; · iexact HR
      isplitr; · iempintro
      iexact HTs
  · have e6 : bigSep R (tile m c h (4 * s.val + d.val)) = bigSep R (tile m c h (4 * s.val + d.val + 1)) :=
      bigSep_congr fun r _ => tile_same m c h _ r (send_other d s c r fun h' => absurd h' ha)
    rw [← e6, dif_neg fun k => ha ((cS_iff d s h c).1 k)]
    refine (Tr.ret).conseq ?_ .rfl
    have hk : Ow m K c (4 + 8 * s.val + 2 * h.val + d.val) ⊢ Ow m K c (4 + 8 * s.val + 2 * h.val + d.val + 1) := Ow_skip m K c (.inr (.inl (d, s, h))) (if_neg ha)
    unfold sk0 sk1
    rw [if_neg ha, if_neg ha]
    iintro ⟨HO, H⟩
    isplitl [HO]; · iapply hk $$ HO
    iexact H

/-! ## Receiving -/

/-- Adding the tile a direction brings to a tile gives the tile with that direction's sum in it. -/
theorem cont_add (d : Fin 2) (r h : Fin 4) (u w : Bool) (hd : d = 0 → u = false ∧ w = false) (hd' : d = 1 → w = false) :
    addV (cont m c h r u w) (unz (Vf m d ((nx d).symm c) r h)) = cont m c h r (if d = 0 then true else u) (if d = 1 then true else w) := by
  obtain rfl | rfl : d = 0 ∨ d = 1 := by clear hd hd'; revert d; decide
  · obtain ⟨rfl, rfl⟩ := hd rfl
    rfl
  · obtain rfl := hd' rfl
    cases u <;> rfl

/-- Awaiting a tile and adding it, on a device that receives one, its offset given in closed form. -/
theorem recv_core (d : Fin 2) (s : Fin 3) (h : Fin 4) (n : ℕ) (hn : 12 + 8 * s.val + 2 * h.val ≤ n) (o : Fin 2 → ℕ) (r : Fin 4) (ho : o = ![512 * r.val, 512 * h.val]) (hb)
    (ha : actR (.inl (d, s, h)) c = true) (hsrc hdst hl1 hl2 hx hm) (X : Vec F S512x512 .bf16) :
    Tr c iprop(Ow m K c n ∗ cred (tallyAt (recvC c (.inl (d, s, h))) () N) ∗ atPos ER (recvC c (.inl (d, s, h))) 0 ∅ 0 ∗ ownsTc c (pT r h) fullShare X)
      (do
        Prog.lift (.waitDma2 (zrS d s h).sem (pTile ![0, 512 * h.val] (inbTop h)) (zSlot d s h) hsrc hdst)
        let a : Vec F S512x512 .bf16 ← Prog.lift (.load Pb (Rect.unit (s := S2048x2048) o S512x512.size hb).toLoadRect hl1)
        let b : Vec F S1x1x512x512 .bf16 ← Prog.lift (.load (Rb d) (Rect.unit (s := S3x4x512x512) ![s.val, h.val, 0, 0] S1x1x512x512.size (inbZ s h)).toLoadRect hl2)
        let _ : Vec F S512x512 .bf16 ← Prog.lift (.load Pb (Rect.unit (s := S2048x2048) o S512x512.size hb).toLoadRect hl1)
        Prog.lift (.store Pb (Rect.unit (s := S2048x2048) o S512x512.size hb) (addV a b) Finset.univ hx hm)
        pure ⟨⟩ : P F PUnit) ⟨⟩
      iprop(Ow m K c n ∗ atPos ER (recvC c (.inl (d, s, h))) 1 ∅ 0 ∗ ownsX c (slot (.inl (d, s, h))) ∗ ownsTc c (pT r h) fullShare (addV X (unz (In m (.inl (d, s, h)) c)))) := by
  subst ho
  have hdut : dutiesK c (some (true, .inl (d, s, h))) = {0} := by unfold dutiesK; exact if_pos ha
  refine Tr.bind (((tr_waitDma m K c true (.inl (d, s, h)) (zrS d s h).sem rfl (pTile ![0, 512 * h.val] (inbTop h)) (zSlot d s h) hsrc hdst (slot_credit (.inl (d, s, h))) hdut
    (fun i hi => lev_z d s h i (hn.trans hi))).frame (ownsTc c (pT r h) fullShare X)).conseq ?_ .rfl) ?_
  · iintro ⟨HO, Hc, Ha, HT⟩
    isplitl [HO Hc Ha]
    · isplitl [HO]; · iexact HO
      isplitl [Hc] <;> iassumption
    iexact HT
  have hpay : payK m c (some (true, .inl (d, s, h))) 0 = ownsTc c (zSlot d s h) fullShare (In m (.inl (d, s, h)) c) := rfl
  rw [hpay]
  have hl := ld_slice (F := F) c Pb (pR (r, h)) (fun _ => rfl) hl1 fullShare X
  have hlb := ld_sq (F := F) c (Rb d) (Rect.unit (s := S3x4x512x512) ![s.val, h.val, 0, 0] S1x1x512x512.size (inbZ s h)) (fun _ => rfl) squeezes_S1x1x512x512_S512x512 hl2 fullShare (In m (.inl (d, s, h)) c)
  have hst := st_slice (F := F) c Pb (pR (r, h)) (fun _ => rfl) (addV X (unz (In m (.inl (d, s, h)) c))) hx hm X
  refine Tr.bind ((hl.frame iprop((Ow m K c n ∗ atPos ER (recvC c (.inl (d, s, h))) 1 ∅ 0) ∗ ownsTc c (zSlot d s h) fullShare (In m (.inl (d, s, h)) c))).conseq ?_ .rfl) ?_
  · iintro ⟨⟨HO, Ha, HS⟩, HT⟩
    isplitl [HT]; · iexact HT
    isplitl [HO Ha]; · isplitl [HO] <;> iassumption
    iexact HS
  refine Tr.bind ((hlb.frame iprop((Ow m K c n ∗ atPos ER (recvC c (.inl (d, s, h))) 1 ∅ 0) ∗ ownsTc c (pT r h) fullShare X)).conseq ?_ .rfl) ?_
  · iintro ⟨HT, HO, HS⟩
    isplitl [HS]; · iexact HS
    isplitl [HO] <;> iassumption
  refine Tr.bind ((hl.frame iprop((Ow m K c n ∗ atPos ER (recvC c (.inl (d, s, h))) 1 ∅ 0) ∗ ownsTc c (zSlot d s h) fullShare (In m (.inl (d, s, h)) c))).conseq ?_ .rfl) ?_
  · iintro ⟨HS, HO, HT⟩
    isplitl [HT]; · iexact HT
    isplitl [HO] <;> iassumption
  refine Tr.bind ((hst.frame iprop((Ow m K c n ∗ atPos ER (recvC c (.inl (d, s, h))) 1 ∅ 0) ∗ ownsTc c (zSlot d s h) fullShare (In m (.inl (d, s, h)) c))).conseq .rfl ?_) Tr.ret
  iintro ⟨HT, ⟨HO, Ha⟩, HS⟩
  isplitl [HO]; · iexact HO
  isplitl [Ha]; · iexact Ha
  isplitl [HS]
  · iexists (In m (.inl (d, s, h)) c); iexact HS
  iexact HT

/-- Receiving a tile along the third axis takes its column block from the receiving time to the next. -/
theorem tr_recvZ (d : Fin 2) (s : Fin 3) (h : Fin 4) (n : ℕ) (hn : 12 + 8 * s.val + 2 * h.val ≤ n) (R : Finset (Fin 4)) (hR : actR (.inl (d, s, 0)) c = true → rowR d s c ∈ R) :
    Tr c iprop(Ow m K c n ∗ col m c R (4 * s.val + 2 + d.val) h) (recvZ d s h c) ⟨⟩ iprop(Ow m K c n ∗ col m c R (4 * s.val + 2 + d.val + 1) h) := by
  have hd := d.isLt; have hs := s.isLt
  obtain ⟨e1, e2⟩ := bigSep_change (Finset.mem_univ (d, s)) (Φ := rk (F := F) c h (4 * s.val + 2 + d.val)) (Ψ := rk c h (4 * s.val + 2 + d.val + 1))
    fun x hx => rk_same c h _ x (fun e => ne_time (d, s) x (Ne.symm hx) (by dsimp only; omega))
  have e3 : bigSep Finset.univ (sk (F := F) c h (4 * s.val + 2 + d.val)) = bigSep Finset.univ (sk c h (4 * s.val + 2 + d.val + 1)) :=
    bigSep_congr fun x _ => sk_same c h _ x (by have := x.1.isLt; omega) (by have := x.1.isLt; have := x.2.isLt; omega)
  rw [rk_before c h (d, s)] at e1
  rw [rk_after c h (d, s)] at e2
  unfold col
  rw [e1, e2, ← e3]
  unfold recvZ
  by_cases ha : actR (.inl (d, s, h)) c = true
  · have hr : rowR d s c ∈ R := hR ha
    obtain ⟨t0, t1, t2, t3, t4, t5⟩ := recv_this d s c ha
    obtain ⟨e4, e5⟩ := bigSep_change hr (Φ := tile m c h (4 * s.val + 2 + d.val)) (Ψ := tile m c h (4 * s.val + 2 + d.val + 1))
      fun r hr' => tile_same m c h _ r (recv_other d s c r fun _ => hr')
    have hnew : cont m c h (rowR d s c) (fl 0 c (rowR d s c) (4 * s.val + 2 + d.val + 1)) (fl 1 c (rowR d s c) (4 * s.val + 2 + d.val + 1))
        = addV (cont m c h (rowR d s c) (fl 0 c (rowR d s c) (4 * s.val + 2 + d.val)) (fl 1 c (rowR d s c) (4 * s.val + 2 + d.val))) (unz (In m (.inl (d, s, h)) c)) := by
      have hin : In m (.inl (d, s, h)) c = Vf m d ((nx d).symm c) (rowR d s c) h := by
        rw [rowR_eq d s h c ha]; rfl
      rw [hin, cont_add]
      · obtain rfl | rfl : d = 0 ∨ d = 1 := by clear * -; revert d; decide
        · rw [t3]; congr 1; exact t4.symm
        · rw [t3]; congr 1; exact t4.symm
      · rintro rfl; exact ⟨t2, t5 rfl⟩
      · rintro rfl; exact t2
    rw [tile_here m c h _ _ _ _ t0 rfl rfl] at e4
    rw [tile_here m c h _ _ _ _ t1 rfl rfl, hnew] at e5
    rw [e4, e5, dif_pos ((cR_iff d s h c).2 ha)]
    refine ((recv_core m K c d s h n hn (oR d s h c) (rowR d s c) (oR_eq d s h c ha) _ ha _ _ _ _ _ _
      (cont m c h (rowR d s c) (fl 0 c (rowR d s c) (4 * s.val + 2 + d.val)) (fl 1 c (rowR d s c) (4 * s.val + 2 + d.val)))).frame
      iprop(bigSep Finset.univ (sk c h (4 * s.val + 2 + d.val)) ∗ bigSep (Finset.univ.erase (d, s)) (rk c h (4 * s.val + 2 + d.val)) ∗ bigSep (R.erase (rowR d s c)) (tile m c h (4 * s.val + 2 + d.val)))).conseq ?_ ?_
    · unfold rk0; rw [if_pos ha]
      iintro ⟨HO, HS, ⟨⟨Hc, Ha⟩, HR⟩, HT, HTs⟩
      isplitl [HO HT Hc Ha]
      · isplitl [HO]; · iexact HO
        isplitl [Hc]; · iexact Hc
        isplitl [Ha] <;> iassumption
      isplitl [HS]; · iexact HS
      isplitl [HR] <;> iassumption
    · unfold rk1; rw [if_pos ha, if_pos ha]
      iintro ⟨⟨HO, Ha, Hx, HT⟩, HS, HR, HTs⟩
      isplitl [HO]; · iexact HO
      isplitl [HS]; · iexact HS
      isplitl [Ha Hx HR]
      · isplitl [Ha Hx]
        · isplitl [Ha] <;> iassumption
        iexact HR
      isplitl [HT] <;> iassumption
  · have e6 : bigSep R (tile m c h (4 * s.val + 2 + d.val)) = bigSep R (tile m c h (4 * s.val + 2 + d.val + 1)) :=
      bigSep_congr fun r _ => tile_same m c h _ r (recv_other d s c r fun h' => absurd h' ha)
    rw [← e6, dif_neg fun k => ha ((cR_iff d s h c).1 k)]
    refine (Tr.ret).conseq ?_ .rfl
    unfold rk0 rk1
    rw [if_neg ha, if_neg ha, if_neg ha]
    iintro ⟨HO, HS, ⟨⟨-, Ha⟩, HR⟩, HT⟩
    isplitl [HO]; · iexact HO
    isplitl [HS]; · iexact HS
    isplitl [Ha HR]
    · isplitl [Ha]
      · isplitl [Ha]; · iexact Ha
        iempintro
      iexact HR
    iexact HT

/-! ## Tiles that come back -/

/-- Awaiting a sent tile's return, on a device that sent one, its offset given in closed form. -/
theorem back_core (d : Fin 2) (s : Fin 3) (h : Fin 4) (n : ℕ) (o : Fin 2 → ℕ) (ho : o = ![512 * (rowS d s c).val, 512 * h.val]) (hb)
    (ha : act (.inl (d, s, h)) c = true) (hsrc hdst) :
    Tr c iprop(Ow m K c n ∗ cred (tallyAt (sendC c (.inl (d, s, h))) () N) ∗ atPos ER (sendC c (.inl (d, s, h))) 0 ∅ 0)
      (Prog.lift (.waitDma2 (zsS d s h).sem (zSlot d s h) (pTile o hb) hsrc hdst)) ⟨⟩
      iprop(Ow m K c n ∗ atPos ER (sendC c (.inl (d, s, h))) 1 ∅ 0 ∗ ownsTc c (pT (rowS d s c) h) fullShare (Vf m d c (rowS d s c) h)) := by
  subst ho
  have hdut : dutiesK c (some (false, .inl (d, s, h))) = {0} := by unfold dutiesK; exact if_pos ha
  exact tr_waitDma m K c false (.inl (d, s, h)) (zsS d s h).sem rfl (zSlot d s h) (pTile ![512 * (rowS d s c).val, 512 * h.val] hb) hsrc hdst rfl hdut (fun i _ => lev0 i)

/-- Awaiting a sent tile's return takes its column block from that time to the next. -/
theorem tr_back (d : Fin 2) (s : Fin 3) (h : Fin 4) (n : ℕ) (R : Finset (Fin 4)) (hR : act (.inl (d, s, 0)) c = true → rowS d s c ∈ R) :
    Tr c iprop(Ow m K c n ∗ col m c R (12 + 2 * s.val + d.val) h) (waitSent d s h c) ⟨⟩ iprop(Ow m K c n ∗ col m c R (12 + 2 * s.val + d.val + 1) h) := by
  have hd := d.isLt; have hs := s.isLt
  obtain ⟨e1, e2⟩ := bigSep_change (Finset.mem_univ (d, s)) (Φ := sk (F := F) c h (12 + 2 * s.val + d.val)) (Ψ := sk c h (12 + 2 * s.val + d.val + 1))
    fun x hx => sk_same c h _ x (by have := x.1.isLt; have := x.2.isLt; omega) (fun e => ne_timeB (d, s) x (Ne.symm hx) (by dsimp only; omega))
  have e3 : bigSep Finset.univ (rk (F := F) c h (12 + 2 * s.val + d.val)) = bigSep Finset.univ (rk c h (12 + 2 * s.val + d.val + 1)) :=
    bigSep_congr fun x _ => rk_same c h _ x (by have := x.1.isLt; have := x.2.isLt; omega)
  rw [sk_beforeB c h (d, s)] at e1
  rw [sk_afterB c h (d, s)] at e2
  unfold col
  rw [e1, e2, ← e3]
  unfold waitSent
  by_cases ha : act (.inl (d, s, h)) c = true
  · have hr : rowS d s c ∈ R := hR ha
    obtain ⟨t0, t1, t2, t3, -⟩ := back_this d s c ha
    obtain ⟨e4, e5⟩ := bigSep_change hr (Φ := tile m c h (12 + 2 * s.val + d.val)) (Ψ := tile m c h (12 + 2 * s.val + d.val + 1))
      fun r hr' => tile_same m c h _ r (back_other d s c r fun _ => hr')
    rw [tile_gone m c h _ _ t0] at e4
    rw [tile_here m c h _ _ _ _ t1 t2 t3, ← Vf_cont] at e5
    rw [e4, e5, dif_pos ((cW_iff d s h c).2 ha)]
    refine Tr.bind (((back_core m K c d s h n (oW d s h c) (oW_eq d s h c ha) _ ha _ _).frame
      iprop(bigSep (Finset.univ.erase (d, s)) (sk c h (12 + 2 * s.val + d.val)) ∗ bigSep Finset.univ (rk c h (12 + 2 * s.val + d.val)) ∗ bigSep (R.erase (rowS d s c)) (tile m c h (12 + 2 * s.val + d.val)))).conseq ?_ ?_) Tr.ret
    · unfold sk1; rw [if_pos ha]
      iintro ⟨HO, ⟨⟨Hc, Ha⟩, HS⟩, HR, -, HTs⟩
      isplitl [HO Hc Ha]
      · isplitl [HO]; · iexact HO
        isplitl [Hc] <;> iassumption
      isplitl [HS]; · iexact HS
      isplitl [HR] <;> iassumption
    · unfold sk2; rw [if_pos ha]
      iintro ⟨⟨HO, Ha, HT⟩, HS, HR, HTs⟩
      isplitl [HO]; · iexact HO
      isplitl [Ha HS]
      · isplitl [Ha] <;> iassumption
      isplitl [HR]; · iexact HR
      isplitl [HT] <;> iassumption
  · have e6 : bigSep R (tile m c h (12 + 2 * s.val + d.val)) = bigSep R (tile m c h (12 + 2 * s.val + d.val + 1)) :=
      bigSep_congr fun r _ => tile_same m c h _ r (back_other d s c r fun h' => absurd h' ha)
    rw [← e6, dif_neg fun k => ha ((cW_iff d s h c).1 k)]
    refine (Tr.ret).conseq ?_ .rfl
    unfold sk1 sk2
    rw [if_neg ha, if_neg ha]
    iintro ⟨HO, ⟨⟨-, Ha⟩, HS⟩, HR, HT⟩
    isplitl [HO]; · iexact HO
    isplitl [Ha HS]
    · isplitl [Ha] <;> iassumption
    isplitl [HR] <;> iassumption

/-! ## A step of a column -/

/-- The two sends of one step take a column block two times on, with two things less owed. -/
theorem tr_sends (s : Fin 3) (h : Fin 4) (R : Finset (Fin 4)) (hR : ∀ d, act (.inl (d, s, 0)) c = true → rowS d s c ∈ R) :
    Tr c iprop(Ow m K c (4 + 8 * s.val + 2 * h.val) ∗ col m c R (4 * s.val) h) (sends s h c) ⟨⟩ iprop(Ow m K c (4 + 8 * s.val + 2 * h.val + 2) ∗ col m c R (4 * s.val + 2) h) :=
  Tr.bind (tr_sendZ m K c 0 s h R (hR 0)) (tr_sendZ m K c 1 s h R (hR 1))

/-- The two receipts of one step take a column block two times on. -/
theorem tr_recvs (s : Fin 3) (h : Fin 4) (n : ℕ) (hn : 12 + 8 * s.val + 2 * h.val ≤ n) :
    Tr c iprop(Ow m K c n ∗ col m c Finset.univ (4 * s.val + 2) h) (recvs s h c) ⟨⟩ iprop(Ow m K c n ∗ col m c Finset.univ (4 * s.val + 4) h) :=
  Tr.bind (tr_recvZ m K c 0 s h n hn _ fun _ => Finset.mem_univ _) (tr_recvZ m K c 1 s h n hn _ fun _ => Finset.mem_univ _)

/-- The two waits for one step's sent tiles take a column block two times on. -/
theorem tr_waits (s : Fin 3) (h : Fin 4) (n : ℕ) :
    Tr c iprop(Ow m K c n ∗ col m c (Finset.univ.erase (zc c)) (12 + 2 * s.val) h) (waits s h c) ⟨⟩ iprop(Ow m K c n ∗ col m c (Finset.univ.erase (zc c)) (12 + 2 * s.val + 2) h) :=
  Tr.bind (tr_back m K c 0 s h n _ fun ha => Finset.mem_erase.mpr ⟨(back_this 0 s c ha).2.2.2.2, Finset.mem_univ _⟩)
    (tr_back m K c 1 s h n _ fun ha => Finset.mem_erase.mpr ⟨(back_this 1 s c ha).2.2.2.2, Finset.mem_univ _⟩)

/-! ## Tiles put in and taken out -/

/-- A computed tile that nothing was added to joins its column block. -/
theorem col_put (R : Finset (Fin 4)) (p : ℕ) (h r : Fin 4) (hr : r ∉ R) (h0 : gn c r p = false ∧ fl 0 c r p = false ∧ fl 1 c r p = false) :
    iprop(col m c R p h ∗ ownsTc c (pT r h) fullShare (Pt m c r h)) ⊢ col m c (insert r R) p h := by
  unfold col
  have e : bigSep (insert r R) (tile m c h p) = iprop(tile m c h p r ∗ bigSep R (tile m c h p)) := bigSep_insert hr
  rw [e, tile_here m c h p r false false h0.1 h0.2.1 h0.2.2]
  iintro ⟨⟨HS, HR, HT⟩, H⟩
  isplitl [HS]; · iexact HS
  isplitl [HR]; · iexact HR
  isplitl [H]; · iexact H
  iexact HT

/-- Once the last step's receipts are done, the device's own tile of a column block holds the reduced tile. -/
theorem col_own (h : Fin 4) :
    col m c Finset.univ 12 h ⊢ iprop(col m c (Finset.univ.erase (zc c)) 12 h ∗ ownsTc c (pT (zc c) h) fullShare (Own m c h)) := by
  unfold col
  have e : bigSep Finset.univ (tile m c h 12) = iprop(tile m c h 12 (zc c) ∗ bigSep (Finset.univ.erase (zc c)) (tile m c h 12)) := bigSep_erase (Finset.mem_univ _)
  obtain ⟨h0, h1, h2⟩ := own_final c
  rw [e, tile_here m c h 12 (zc c) _ _ h0 h1 h2]
  iintro ⟨HS, HR, H, HT⟩
  isplitl [HS HR HT]
  · isplitl [HS]; · iexact HS
    isplitl [HR] <;> iassumption
  iexact H

end Column

end Cert.KernelIdeal.Ring
-- ==== Proof.Input.lean ====
module

public import proofs.«01_k».proof.Proof.Column

/-! The barrier, the input pipeline and the products. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Input

variable (m : (ℓ : Loc nD τ sig) → Buf (Elt F) ℓ) (K : Dev nD × C → ℕ) (c : Dev nD)

/-! ## The barrier -/

/-- What a device gives away with one of its signals. -/
def giv (b : Fin 4) : sProp 𝕄 := iprop(dutyTok ER (barC (bto b c)) 0 b ∗ lends b (bto b c) c)

/-- A barrier signal that the device gives pays its duty and lends the slots that go with it. -/
theorem sig_core (b : Fin 4) (n : ℕ) (hn : n = pos (.inl b)) (t : Dev nD) (ht : t = bto b c) (hb : bact b c = true) :
    Tr c iprop(Ow m K c n ∗ giv c b) (semSignalWord t barS.sem 1#32) ⟨⟩ (Ow m K c (n + 1)) := by
  subst ht; subst hn
  exact tr_signal m K c b hb

/-- A barrier signal that the device does not give owes nothing. -/
theorem sig_none (b : Fin 4) (n : ℕ) (hn : n = pos (.inl b)) (hb : ¬ bact b c = true) :
    Tr c iprop(Ow m K c n ∗ giv c b) (pure ⟨⟩ : P F PUnit) ⟨⟩ (Ow m K c (n + 1)) := by
  subst hn
  refine Tr.ret.conseq ?_ .rfl
  have hk := Ow_skip m K c (.inl b) (if_neg hb)
  iintro ⟨HO, -⟩
  iapply hk $$ HO

/-- The signal towards larger `z`, given or not, is the first thing owed. -/
theorem tr_sigUp : Tr c iprop(Ow m K c 0 ∗ giv c 0) (sigUp c) ⟨⟩ (Ow m K c 1) := by
  unfold sigUp
  by_cases hb : bact 0 c = true
  · rw [dif_pos ((sigUp_iff c).2 hb)]
    exact Tr.bind (sig_core m K c 0 0 rfl _ (Fin.ext (dev1_eq' c hb)) hb) Tr.ret
  · rw [dif_neg fun h => hb ((sigUp_iff c).1 h)]
    exact sig_none m K c 0 0 rfl hb
/-- The signal towards smaller `z`, given or not, is the second. -/
theorem tr_sigDn : Tr c iprop(Ow m K c 1 ∗ giv c 1) (sigDn c) ⟨⟩ (Ow m K c 2) := by
  unfold sigDn
  by_cases hb : bact 1 c = true
  · rw [dif_pos ((sigDn_iff c).2 hb)]
    exact Tr.bind (sig_core m K c 1 1 rfl _ (Fin.ext (dev2_eq' c hb)) hb) Tr.ret
  · rw [dif_neg fun h => hb ((sigDn_iff c).1 h)]
    exact sig_none m K c 1 1 rfl hb
/-- The signal along the first axis is the third. -/
theorem tr_sigX : Tr c iprop(Ow m K c 2 ∗ giv c 2) (sigX c) ⟨⟩ (Ow m K c 3) := sig_core m K c 2 2 rfl _ (Fin.ext (dev3_eq' c)) rfl
/-- The signal along the second axis is the fourth. -/
theorem tr_sigY : Tr c iprop(Ow m K c 3 ∗ giv c 3) (sigY c) ⟨⟩ (Ow m K c 4) := sig_core m K c 3 3 rfl _ (Fin.ext (dev4_eq' c)) rfl

/-- The number of signals awaited is not negative as a signed word. -/
theorem amt_int : ∀ c, (k0_amt1 c).toInt = (((k0_amt1 c).toNat : ℕ) : ℤ) := by decide +kernel

/-- Awaiting the signals ends the barrier's round and brings what each of them hands over. -/
theorem tr_barWait :
    Tr c iprop(Ow m K c 4 ∗ cred (tallyAt (barC c) () (k0_amt1 c).toNat) ∗ atPos ER (barC c) 0 ∅ 0) (barWait c) ⟨⟩
      iprop(Ow m K c 4 ∗ atPos ER (barC c) 1 ∅ 0 ∗ bigSep (dutiesK c none) fun b => payK m c none b) := by
  unfold barWait semWaitWord
  rw [amt_int]
  exact tr_wait m K c none (w := .semWait barS.sem ((k0_amt1 c).toNat : ℕ)) (k' := (k0_amt1 c).toNat) (n := 4)
    (fun Kt => wpE_semWait_eq 𝒱₀ (c : Thread nD τ) none Set.univ Kt)
    (by unfold dutiesK amountK; dsimp only; rw [mul_one, Finset.card_filter, amt_eq]) lev_bar

/-- The barrier pays the four signals and brings what the neighbours hand over. -/
theorem tr_barrier :
    Tr c iprop(Ow m K c 0 ∗ bigSep Finset.univ (giv c) ∗ cred (tallyAt (barC c) () (k0_amt1 c).toNat) ∗ atPos ER (barC c) 0 ∅ 0) (barrier c) ⟨⟩
      iprop(Ow m K c 4 ∗ atPos ER (barC c) 1 ∅ 0 ∗ bigSep (dutiesK c none) fun b => payK m c none b) := by
  rw [bigSep_four]
  unfold barrier Tr
  iintro ⟨HO, ⟨H0, H1, H2, H3⟩, Hc, Ha⟩
  iapply (tr_sigUp m K c).seq $$ [HO H0]
  · isplitl [HO] <;> iassumption
  iintro HO
  iapply (tr_sigDn m K c).seq $$ [HO H1]
  · isplitl [HO] <;> iassumption
  iintro HO
  iapply (tr_sigX m K c).seq $$ [HO H2]
  · isplitl [HO] <;> iassumption
  iintro HO
  iapply (tr_sigY m K c).seq $$ [HO H3]
  · isplitl [HO] <;> iassumption
  iintro HO
  iapply (tr_barWait m K c)
  isplitl [HO]; · iexact HO
  isplitl [Hc] <;> iassumption

/-- Something at one of four places, under a condition, is that thing under the condition. -/
theorem bigSep_at (i : Fin 4) (p : Prop) [Decidable p] (X : sProp 𝕄) :
    (bigSep Finset.univ fun b : Fin 4 => (if i = b ∧ p then X else iprop(emp) : sProp 𝕄)) = if p then X else iprop(emp) := by
  rw [bigSep_univ_split i]
  have e : (bigSep (Finset.univ.erase i) fun b : Fin 4 => (if i = b ∧ p then X else iprop(emp) : sProp 𝕄)) = (BI.emp : sProp 𝕄) :=
    (bigSep_congr fun b hb => if_neg fun h => Finset.ne_of_mem_erase hb h.1.symm).trans (bigSep_emp_const _)
  rw [e, equiv_iff.mp BI.sep_emp]
  exact if_congr ⟨fun h => h.2, fun h => ⟨rfl, h⟩⟩ rfl rfl

/-- The slots a device hands over are those it receives in. -/
theorem lend_out : (bigSep Finset.univ fun j : J => (ownsX c (slot j) : sProp 𝕄))
    ⊢ iprop((bigSep Finset.univ fun b : Fin 4 => lends b (bto b c) c) ∗ bigSep Finset.univ fun j : J => if actR j c = true then iprop(emp) else ownsX c (slot j)) := by
  unfold lends
  rw [bigSep_univ_comm]
  refine BIBase.Entails.trans (Entails.of_eq ?_) (Entails.of_eq (bigSep_sep Finset.univ _ _))
  refine bigSep_congr fun j _ => ?_
  have e : (bigSep Finset.univ fun b : Fin 4 => (if brr j = b ∧ act j (bto b c) = true then ownsX c (slot j) else iprop(emp) : sProp 𝕄))
      = if act j (bto (brr j) c) = true then ownsX c (slot j) else iprop(emp) := by
    rw [← bigSep_at (brr j)]
    refine bigSep_congr fun b _ => if_congr ⟨fun h => ⟨h.1, ?_⟩, fun h => ⟨h.1, ?_⟩⟩ rfl rfl
    · obtain ⟨rfl, h⟩ := h; exact h
    · obtain ⟨rfl, h⟩ := h; exact h
  rw [e]
  unfold actR
  rw [dst_symm]
  by_cases h : act j (bto (brr j) c) = true
  · rw [if_pos h, if_pos h]
    exact (equiv_iff.mp BI.sep_emp).symm
  · rw [if_neg h, if_neg h]
    exact (equiv_iff.mp BI.emp_sep).symm

/-- What the barrier brings: the slots this device copies into. -/
theorem lend_in : (bigSep (dutiesK c none) fun b => payK m c none b) ⊢ (bigSep Finset.univ fun j : J => if act j c = true then ownsX (dst j c) (slot j) else iprop(emp) : sProp 𝕄) := by
  unfold dutiesK; dsimp only
  rw [bigSep_filter]
  have e : ∀ b : Fin 4, (if bact b ((bto b).symm c) = true then payK m c none b else (BI.emp : sProp 𝕄))
      = bigSep Finset.univ fun j : J => if brr j = b ∧ act j c = true then ownsX (dst j c) (slot j) else iprop(emp) := fun b => by
    have e1 : payK m c none b = bigSep Finset.univ fun j : J => if brr j = b ∧ act j c = true then ownsX (dst j c) (slot j) else iprop(emp) := by
      unfold payK lends; dsimp only
      refine bigSep_congr fun j _ => ?_
      by_cases h : brr j = b ∧ act j c = true
      · rw [if_pos h, if_pos h]
        obtain ⟨rfl, -⟩ := h
        rw [bto_symm]
      · rw [if_neg h, if_neg h]
    by_cases h : bact b ((bto b).symm c) = true
    · rw [if_pos h, e1]
    · rw [if_neg h]
      refine ((bigSep_congr fun j _ => if_neg fun hj => h ?_).trans (bigSep_emp_const _)).symm
      obtain ⟨rfl, hj⟩ := hj
      refine bact_of_act j _ ?_
      rw [Equiv.apply_symm_apply]; exact hj
  rw [bigSep_congr fun b _ => e b, bigSep_univ_comm]
  exact Entails.of_eq (bigSep_congr fun j _ => bigSep_at (brr j) _ _)

/-! ## The input pipeline -/

/-- The credit of one block's copy. -/
abbrev Mi : ℕ := (xsSlot 0).view.dmaCredit
/-- A copy of the input pipeline credits its semaphore by a positive amount. -/
theorem Mi_pos : 0 < Mi := View.dmaCredit_pos _ (by decide)

abbrev aT (k : Fin 8) : Memref sig .tc .hbm S256x2048 .f32 := A1.slice (aR (k, qc c)) (fun _ => rfl)

/-- One step's blocks of the arguments; -/
def inSrc (k : Fin 8) : sProp 𝕄 := iprop(ownsTc c (aX k) fullShare (xIn m c k) ∗ ownsTc c (aT c k) fullShare (dIn m c k))
/-- a pair of slots not in use; -/
def inIdle (p : Fin 2) : sProp 𝕄 :=
  iprop(ownsX c (xsSlot p) ∗ semVal ((c : Thread nD τ), .dma (inS 0 p).sem) 0 ∗ ownsX c (dsSlot p) ∗ semVal ((c : Thread nD τ), .dma (inS 1 p).sem) 0)
/-- a pair of slots being filled; -/
def inBusy (k : Fin 8) (p : Fin 2) : sProp 𝕄 :=
  iprop(Transfers.Flight (EC (F := F)) (c : Thread nD τ) (.dma (inS 0 p).sem) () Mi iprop(ownsTc c (xsSlot p) fullShare (xIn m c k) ∗ ownsTc c (aX k) fullShare (xIn m c k))
    ∗ Transfers.Flight (EC (F := F)) (c : Thread nD τ) (.dma (inS 1 p).sem) () Mi iprop(ownsTc c (dsSlot p) fullShare (dIn m c k) ∗ ownsTc c (aT c k) fullShare (dIn m c k)))
/-- the blocks of the converted arguments before; -/
def inBlank (k : Fin 8) : sProp 𝕄 := iprop(ownsX c (Xb.slice (rowR8 k) (fun _ => rfl)) ∗ ownsX c (Db.slice (rowR8 k) (fun _ => rfl)))
/-- and after. -/
def inDone (k : Fin 8) : sProp 𝕄 :=
  iprop(ownsTc c (Xb.slice (rowR8 k) (fun _ => rfl)) fullShare (xBlk m c k) ∗ ownsTc c (Db.slice (rowR8 k) (fun _ => rfl)) fullShare (dBlk m c k))

/-- Starting a copy of the first argument's block lends the block and the slot to it. -/
theorem cpX_core (k : Fin 8) (p : Fin 2) :
    Tr c iprop(ownsTc c (aX k) fullShare (xIn m c k) ∗ ownsX c (xsSlot p) ∗ semVal ((c : Thread nD τ), .dma (inS 0 p).sem) 0) (cpX k p) ⟨⟩
      (Transfers.Flight (EC (F := F)) (c : Thread nD τ) (.dma (inS 0 p).sem) () Mi iprop(ownsTc c (xsSlot p) fullShare (xIn m c k) ∗ ownsTc c (aX k) fullShare (xIn m c k))) := by
  unfold Tr
  iintro ⟨Hs, ⟨%Y, Hd⟩, Hv⟩
  iapply (show Tr c _ _ _ _ from cp_here c (aX k) (xsSlot p) (inS 0 p).sem _ _ _ Mi rfl Mi_pos fullShare (xIn m c k) Y)
  isplitl [Hs]; · iexact Hs
  isplitl [Hd] <;> iassumption

/-- Starting a copy of the second argument's block does so too, its offset given in closed form. -/
theorem cpD_core (k : Fin 8) (p : Fin 2) (o : Fin 2 → ℕ) (ho : o = ![256 * k.val, 2048 * (qc c).val]) (hb) (hsrc hdst hsem) :
    Tr c iprop(ownsTc c (aT c k) fullShare (dIn m c k) ∗ ownsX c (dsSlot p) ∗ semVal ((c : Thread nD τ), .dma (inS 1 p).sem) 0)
      (Prog.lift (.enqueueDma (A1.slice (Rect.unit (s := S2048x8192) o S256x2048.size hb) (fun _ => rfl)) (.here (dsSlot p)) (.dma (inS 1 p).sem) hsrc hdst hsem)) ⟨⟩
      (Transfers.Flight (EC (F := F)) (c : Thread nD τ) (.dma (inS 1 p).sem) () Mi iprop(ownsTc c (dsSlot p) fullShare (dIn m c k) ∗ ownsTc c (aT c k) fullShare (dIn m c k))) := by
  subst ho
  unfold Tr
  iintro ⟨Hs, ⟨%Y, Hd⟩, Hv⟩
  iapply (show Tr c _ _ _ _ from cp_here c (aT c k) (dsSlot p) (inS 1 p).sem _ _ _ Mi rfl Mi_pos fullShare (dIn m c k) Y)
  isplitl [Hs]; · iexact Hs
  isplitl [Hd] <;> iassumption

/-- Starting one step's copies makes an idle slot busy. -/
theorem tr_inStart (k : Fin 8) (p : Fin 2) : Tr c iprop(inSrc m c k ∗ inIdle c p) (inStart k p c) ⟨⟩ (inBusy m c k p) := by
  unfold inStart inSrc inIdle inBusy
  refine Tr.bind (((cpX_core m c k p).frame iprop(ownsTc c (aT c k) fullShare (dIn m c k) ∗ ownsX c (dsSlot p) ∗ semVal ((c : Thread nD τ), .dma (inS 1 p).sem) 0)).conseq ?_ .rfl)
    (((cpD_core m c k p _ (oD_eq k c) _ _ _ _).frame (Transfers.Flight (EC (F := F)) (c : Thread nD τ) (.dma (inS 0 p).sem) () Mi iprop(ownsTc c (xsSlot p) fullShare (xIn m c k) ∗ ownsTc c (aX k) fullShare (xIn m c k)))).conseq ?_ ?_)
  · iintro ⟨⟨H1, H2⟩, H3, H4, H5, H6⟩
    isplitl [H1 H3 H4]
    · isplitl [H1]; · iexact H1
      isplitl [H3] <;> iassumption
    isplitl [H2]; · iexact H2
    isplitl [H5] <;> iassumption
  · exact sep_comm.1
  · exact sep_comm.1

/-- Awaiting a copy of the first argument's block brings what the copy held. -/
theorem wtX_core (k : Fin 8) (p : Fin 2) (n : ℕ) (D : sProp 𝕄) :
    Tr c iprop(Ow m K c n ∗ Transfers.Flight (EC (F := F)) (c : Thread nD τ) (.dma (inS 0 p).sem) () Mi D) (wtX k p) ⟨⟩
      iprop(Ow m K c n ∗ D ∗ semVal ((c : Thread nD τ), .dma (inS 0 p).sem) 0) :=
  tr_local m K c (aX k) (xsSlot p) (inS 0 p).sem (fun k' => csem_in k' 0 p) _ _ Mi n rfl D
/-- Awaiting a copy of the second argument's block brings what the copy held. -/
theorem wtD_core (k : Fin 8) (p : Fin 2) (n : ℕ) (D : sProp 𝕄) :
    Tr c iprop(Ow m K c n ∗ Transfers.Flight (EC (F := F)) (c : Thread nD τ) (.dma (inS 1 p).sem) () Mi D) (wtD c k p) ⟨⟩
      iprop(Ow m K c n ∗ D ∗ semVal ((c : Thread nD τ), .dma (inS 1 p).sem) 0) :=
  tr_local m K c (aD c k) (dsSlot p) (inS 1 p).sem (fun k' => csem_in k' 1 p) _ _ Mi n rfl D

/-- Loading the first argument's slot gives the block copied there. -/
theorem ldXs_core (k : Fin 8) (p : Fin 2) : Tr c (ownsTc c (xsSlot p) fullShare (xIn m c k)) (ldXs p) (unsq squeezes_S1x256x2048_S256x2048 (xIn m c k)) (ownsTc c (xsSlot p) fullShare (xIn m c k)) :=
  ld_sq c Xs (inR p) (fun _ => rfl) _ _ fullShare _
/-- Loading the second argument's slot gives the block copied there. -/
theorem ldDs_core (k : Fin 8) (p : Fin 2) : Tr c (ownsTc c (dsSlot p) fullShare (dIn m c k)) (ldDs p) (unsq squeezes_S1x256x2048_S256x2048 (dIn m c k)) (ownsTc c (dsSlot p) fullShare (dIn m c k)) :=
  ld_sq c Ds (inR p) (fun _ => rfl) _ _ fullShare _

/-- A load and a store of one block. -/
theorem ldstXb (k : Fin 8) (v : FVec F S256x2048 .bf16) :
    Tr c (ownsX c (Xb.slice (rowR8 k) (fun _ => rfl))) (do let _ ← ldXb k; stXb k v : P F PUnit) ⟨⟩ (ownsTc c (Xb.slice (rowR8 k) (fun _ => rfl)) fullShare v) :=
  Tr.ex fun X => Tr.bind (ld_slice c Xb (rowR8 k) (fun _ => rfl) _ fullShare X) (st_slice c Xb (rowR8 k) (fun _ => rfl) v _ _ X)
/-- Storing a block of the converted second argument leaves that block there, whatever was there before. -/
theorem ldstDb (k : Fin 8) (v : FVec F S256x2048 .bf16) :
    Tr c (ownsX c (Db.slice (rowR8 k) (fun _ => rfl))) (do let _ ← ldDb k; stDb k v : P F PUnit) ⟨⟩ (ownsTc c (Db.slice (rowR8 k) (fun _ => rfl)) fullShare v) :=
  Tr.ex fun X => Tr.bind (ld_slice c Db (rowR8 k) (fun _ => rfl) _ fullShare X) (st_slice c Db (rowR8 k) (fun _ => rfl) v _ _ X)

/-- One step of the input pipeline frees its slot and leaves its blocks converted. -/
theorem tr_inStep (k : Fin 8) (p : Fin 2) (n : ℕ) :
    Tr c iprop(Ow m K c n ∗ inBusy m c k p ∗ inBlank c k) (inStep k p c) ⟨⟩ iprop(Ow m K c n ∗ inSrc m c k ∗ inIdle c p ∗ inDone m c k) := by
  have e : inStep (F := F) k p c = (do
      wtX k p; wtD c k p
      let v ← ldXs p
      (do let _ ← ldXb k; stXb k (k0_pay1 v))
      let w ← ldDs p
      (do let _ ← ldDb k; stDb k (k0_pay1 w))) := rfl
  rw [e]
  unfold inSrc inIdle inBusy inBlank inDone
  refine BIBase.Entails.trans (Q := iprop((Ow m K c n ∗ Transfers.Flight (EC (F := F)) (c : Thread nD τ) (.dma (inS 0 p).sem) () Mi iprop(ownsTc c (xsSlot p) fullShare (xIn m c k) ∗ ownsTc c (aX k) fullShare (xIn m c k)))
    ∗ Transfers.Flight (EC (F := F)) (c : Thread nD τ) (.dma (inS 1 p).sem) () Mi iprop(ownsTc c (dsSlot p) fullShare (dIn m c k) ∗ ownsTc c (aT c k) fullShare (dIn m c k))
    ∗ ownsX c (Xb.slice (rowR8 k) (fun _ => rfl)) ∗ ownsX c (Db.slice (rowR8 k) (fun _ => rfl)))) ?_ ?_
  · iintro ⟨H1, ⟨H2, H3⟩, H4, H5⟩
    isplitl [H1 H2]; · isplitl [H1] <;> iassumption
    isplitl [H3]; · iexact H3
    isplitl [H4] <;> iassumption
  iintro ⟨H, H3, H4, H5⟩
  iapply (wtX_core m K c k p n _).seq $$ H
  iintro ⟨HO, ⟨Hx, Hax⟩, Hv⟩
  iapply (wtD_core m K c k p n _).seq $$ [HO H3]
  · isplitl [HO] <;> iassumption
  iintro ⟨HO, ⟨Hd, Had⟩, Hw⟩
  iapply (ldXs_core m c k p).seq $$ Hx
  iintro Hx
  iapply (ldstXb c k _).seq $$ H4
  iintro H4
  iapply (ldDs_core m c k p).seq $$ Hd
  iintro Hd
  iapply ((ldstDb c k (dBlk m c k)).frame iprop(Ow m K c n ∗ (ownsTc c (aX k) fullShare (xIn m c k) ∗ ownsTc c (aT c k) fullShare (dIn m c k))
    ∗ (ownsX c (xsSlot p) ∗ semVal ((c : Thread nD τ), .dma (inS 0 p).sem) 0 ∗ ownsX c (dsSlot p) ∗ semVal ((c : Thread nD τ), .dma (inS 1 p).sem) 0)
    ∗ ownsTc c (Xb.slice (rowR8 k) (fun _ => rfl)) fullShare (xBlk m c k))).conseq .rfl ?_
  · iintro ⟨H5, HO, Hs, Hi, H4⟩
    isplitl [HO]; · iexact HO
    isplitl [Hs]; · iexact Hs
    isplitl [Hi]; · iexact Hi
    isplitl [H4] <;> iassumption
  isplitl [H5]; · iexact H5
  isplitl [HO]; · iexact HO
  isplitl [Hax Had]; · isplitl [Hax] <;> iassumption
  isplitl [Hx Hv Hd Hw]
  · isplitl [Hx]; · iexists (xIn m c k); iexact Hx
    isplitl [Hv]; · iexact Hv
    isplitl [Hd]; · iexists (dIn m c k); iexact Hd
    iexact Hw
  iexact H4

/-- Something for each of eight is the eight in order. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- One step, then the start of the step after next in the slots it frees. -/
theorem tr_inTurn (k k' : Fin 8) (p : Fin 2) (n : ℕ) :
    Tr c iprop(Ow m K c n ∗ inBusy m c k p ∗ inBlank c k ∗ inSrc m c k') (do inStep k p c; inStart k' p c : P F PUnit) ⟨⟩
      iprop(Ow m K c n ∗ inBusy m c k' p ∗ inSrc m c k ∗ inDone m c k) := by
  refine Tr.bind (((tr_inStep m K c k p n).frame (inSrc m c k')).conseq ?_ .rfl) (((tr_inStart m c k' p).frame iprop(Ow m K c n ∗ inSrc m c k ∗ inDone m c k)).conseq ?_ ?_)
  · iintro ⟨HO, H1, H2, H3⟩
    isplitl [HO H1 H2]
    · isplitl [HO]; · iexact HO
      isplitl [H1] <;> iassumption
    iexact H3
  · iintro ⟨⟨HO, H1, H2, H3⟩, H4⟩
    isplitl [H2 H4]; · isplitl [H4] <;> iassumption
    isplitl [HO]; · iexact HO
    isplitl [H1] <;> iassumption
  · iintro ⟨H1, HO, H2⟩
    isplitl [HO]; · iexact HO
    isplitl [H1] <;> iassumption

/-- What the barrier takes and brings. -/
def barIn : sProp 𝕄 := iprop(bigSep Finset.univ (giv c) ∗ cred (tallyAt (barC c) () (k0_amt1 c).toNat) ∗ atPos ER (barC c) 0 ∅ 0)
def barOut : sProp 𝕄 := iprop(atPos ER (barC c) 1 ∅ 0 ∗ bigSep (dutiesK c none) fun b => payK m c none b)

/-- The input pipeline and the barrier in it convert both arguments and bring what the neighbours hand over. -/
theorem tr_input :
    Tr c iprop(Ow m K c 0 ∗ barIn c ∗ bigSep Finset.univ (inSrc m c) ∗ inIdle c 0 ∗ inIdle c 1 ∗ bigSep Finset.univ (inBlank c)) (input c) ⟨⟩
      iprop(Ow m K c 4 ∗ barOut m c ∗ bigSep Finset.univ (inSrc m c) ∗ inIdle c 0 ∗ inIdle c 1 ∗ bigSep Finset.univ (inDone m c)) := by
  have e : input (F := F) c = (do
      inStart 0 0 c; inStart 1 1 c
      barrier c
      (do inStep 0 0 c; inStart 2 0 c)
      (do inStep 1 1 c; inStart 3 1 c)
      (do inStep 2 0 c; inStart 4 0 c)
      (do inStep 3 1 c; inStart 5 1 c)
      (do inStep 4 0 c; inStart 6 0 c)
      (do inStep 5 1 c; inStart 7 1 c)
      inStep 6 0 c
      inStep 7 1 c) := by
    unfold input; simp only [Prog.bind_assoc]
  rw [e, bigSep_eight, bigSep_eight, bigSep_eight]
  unfold barIn barOut Tr
  iintro ⟨HO, HB, ⟨S0, S1, S2, S3, S4, S5, S6, S7⟩, I0, I1, ⟨B0, B1, B2, B3, B4, B5, B6, B7⟩⟩
  iapply (tr_inStart m c 0 0).seq $$ [S0 I0]
  · isplitl [S0] <;> iassumption
  iintro I0
  iapply (tr_inStart m c 1 1).seq $$ [S1 I1]
  · isplitl [S1] <;> iassumption
  iintro I1
  iapply (tr_barrier m K c).seq $$ [HO HB]
  · isplitl [HO] <;> iassumption
  iintro ⟨HO, HB⟩
  iapply (tr_inTurn m K c 0 2 0 4).seq $$ [HO I0 B0 S2]
  · isplitl [HO]; · iexact HO
    isplitl [I0]; · iexact I0
    isplitl [B0] <;> iassumption
  iintro ⟨HO, I0, S0, B0⟩
  iapply (tr_inTurn m K c 1 3 1 4).seq $$ [HO I1 B1 S3]
  · isplitl [HO]; · iexact HO
    isplitl [I1]; · iexact I1
    isplitl [B1] <;> iassumption
  iintro ⟨HO, I1, S1, B1⟩
  iapply (tr_inTurn m K c 2 4 0 4).seq $$ [HO I0 B2 S4]
  · isplitl [HO]; · iexact HO
    isplitl [I0]; · iexact I0
    isplitl [B2] <;> iassumption
  iintro ⟨HO, I0, S2, B2⟩
  iapply (tr_inTurn m K c 3 5 1 4).seq $$ [HO I1 B3 S5]
  · isplitl [HO]; · iexact HO
    isplitl [I1]; · iexact I1
    isplitl [B3] <;> iassumption
  iintro ⟨HO, I1, S3, B3⟩
  iapply (tr_inTurn m K c 4 6 0 4).seq $$ [HO I0 B4 S6]
  · isplitl [HO]; · iexact HO
    isplitl [I0]; · iexact I0
    isplitl [B4] <;> iassumption
  iintro ⟨HO, I0, S4, B4⟩
  iapply (tr_inTurn m K c 5 7 1 4).seq $$ [HO I1 B5 S7]
  · isplitl [HO]; · iexact HO
    isplitl [I1]; · iexact I1
    isplitl [B5] <;> iassumption
  iintro ⟨HO, I1, S5, B5⟩
  iapply (tr_inStep m K c 6 0 4).seq $$ [HO I0 B6]
  · isplitl [HO]; · iexact HO
    isplitl [I0] <;> iassumption
  iintro ⟨HO, S6, I0, B6⟩
  iapply ((tr_inStep m K c 7 1 4).frame iprop((atPos ER (barC c) 1 ∅ 0 ∗ bigSep (dutiesK c none) fun b => payK m c none b) ∗ (inSrc m c 0 ∗ inSrc m c 1 ∗ inSrc m c 2 ∗ inSrc m c 3 ∗ inSrc m c 4 ∗ inSrc m c 5 ∗ inSrc m c 6) ∗ inIdle c 0
    ∗ (inDone m c 0 ∗ inDone m c 1 ∗ inDone m c 2 ∗ inDone m c 3 ∗ inDone m c 4 ∗ inDone m c 5 ∗ inDone m c 6))).conseq .rfl ?_
  · iintro ⟨⟨HO, S7, I1, B7⟩, HB, ⟨S0, S1, S2, S3, S4, S5, S6⟩, I0, ⟨B0, B1, B2, B3, B4, B5, B6⟩⟩
    isplitl [HO]; · iexact HO
    isplitl [HB]; · iexact HB
    isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6] <;> iassumption
    isplitl [I0]; · iexact I0
    isplitl [I1]; · iexact I1
    isplitl [B0]; · iexact B0
    isplitl [B1]; · iexact B1
    isplitl [B2]; · iexact B2
    isplitl [B3]; · iexact B3
    isplitl [B4]; · iexact B4
    isplitl [B5]; · iexact B5
    isplitl [B6] <;> iassumption
  isplitl [HO I1 B7]
  · isplitl [HO]; · iexact HO
    isplitl [I1] <;> iassumption
  isplitl [HB]; · iexact HB
  isplitl [S0 S1 S2 S3 S4 S5 S6]
  · isplitl [S0]; · iexact S0
    isplitl [S1]; · iexact S1
    isplitl [S2]; · iexact S2
    isplitl [S3]; · iexact S3
    isplitl [S4]; · iexact S4
    isplitl [S5] <;> iassumption
  isplitl [I0]; · iexact I0
  isplitl [B0]; · iexact B0
  isplitl [B1]; · iexact B1
  isplitl [B2]; · iexact B2
  isplitl [B3]; · iexact B3
  isplitl [B4]; · iexact B4
  isplitl [B5] <;> iassumption

/-! ## The products -/

/-- A block of rows of the partial product. -/
abbrev rowP (r : Fin 4) : Rect S2048x2048 := Rect.unit (s := S2048x2048) ![512 * r.val, 0] S512x2048.size (inbRow r)
/-- Different blocks of 512 rows have no place in common. -/
theorem rowP_disj : ∀ t t', t ≠ t' → Disjoint (rowP t).set (rowP t').set := grid_disj _ _ _ (by decide +kernel)
/-- The blocks of 512 rows cover the buffer. -/
theorem rowP_cov : (Finset.univ : Finset (Fin 4)).biUnion (fun t => (rowP t).set) = Finset.univ :=
  grid_cov _ rowP_disj (512 * 2048) (by decide +kernel) (by decide +kernel)
/-- Different tiles of a block of rows have no place in common. -/
theorem partR_disj : ∀ t t', t ≠ t' → Disjoint (partR t).set (partR t').set := grid_disj _ _ _ (by decide +kernel)
/-- The tiles of a block of rows cover it. -/
theorem partR_cov : (Finset.univ : Finset (Fin 4)).biUnion (fun t => (partR t).set) = Finset.univ :=
  grid_cov _ partR_disj (512 * 512) (by decide +kernel) (by decide +kernel)

/-- A block of columns of a block of rows is a tile. -/
theorem part_emb (r h : Fin 4) (j : S512x512.Idx) : (rowP r).emb ((partR h).emb j) = (pR (r, h)).emb j := by
  funext a
  apply Fin.ext
  show (![512 * r.val, 0] : Fin 2 → ℕ) a + 1 * ((![0, 512 * h.val] : Fin 2 → ℕ) a + 1 * (j a).val) = (![512 * r.val, 512 * h.val] : Fin 2 → ℕ) a + 1 * (j a).val
  fin_cases a
  · show 512 * r.val + 1 * (0 + 1 * _) = 512 * r.val + 1 * _; omega
  · show 0 + 1 * (512 * h.val + 1 * _) = 512 * h.val + 1 * _; omega

/-- A tile of a block of rows is the tile of the whole buffer at that row block and column block. -/
theorem owns_part (r h : Fin 4) (q : PosShare TreeShare) (X : Vec F S512x512 .bf16) :
    (ownsTc c ((Pb.slice (rowP r) (fun _ => rfl)).slice (partR h) (fun _ => rfl)) q X : sProp 𝕄) = ownsTc c (pT r h) q X := by
  unfold ownsTc owns
  have he : ((Pb.slice (rowP r) (fun _ => rfl)).slice (partR h) (fun _ => rfl)).view.emb = (pT r h).view.emb :=
    Function.Embedding.ext fun j => part_emb r h j
  have hs : ((Pb.slice (rowP r) (fun _ => rfl)).slice (partR h) (fun _ => rfl)).view.set = (pT r h).view.set := congrArg (Finset.map · Finset.univ) he
  have hr : ∀ f : (pT r h).view.ty.Contents (Elt F), ((Pb.slice (rowP r) (fun _ => rfl)).slice (partR h) (fun _ => rfl)).view.read (Elt F) f = (pT r h).view.read (Elt F) f := fun f =>
    funext fun j => congrArg f (part_emb r h j)
  show iprop(∃ f : (pT r h).view.ty.Contents (Elt F), ⌜((Pb.slice (rowP r) (fun _ => rfl)).slice (partR h) (fun _ => rfl)).view.read (Elt F) f = X⌝
    ∗ ((pT r h).view.loc (c : Thread nD τ) ↦[((Pb.slice (rowP r) (fun _ => rfl)).slice (partR h) (fun _ => rfl)).view.set]{q} f)) = _
  simp only [hr, hs]

/-- A block of rows of the product, as its tiles. -/
theorem row_tiles (r : Fin 4) : ownsTc c (Pb.slice (rowP r) (fun _ => rfl)) fullShare (prodRow m c r) ⊢ (bigSep Finset.univ fun h => ownsTc c (pT r h) fullShare (Pt m c r h) : sProp 𝕄) := by
  refine BIBase.Entails.trans (owns_rects (c : Thread nD τ) (Pb.slice (rowP r) (fun _ => rfl)) fullShare partR (fun _ _ => rfl) partR_disj partR_cov (prodRow m c r)) (Entails.of_eq ?_)
  exact bigSep_congr fun h _ => owns_part c r h fullShare (Pt m c r h)

/-- Tiles, whatever they hold, as a block of rows. -/
theorem tiles_row (r : Fin 4) : (bigSep Finset.univ fun h => ownsX c (pT r h)) ⊢ (ownsX c (Pb.slice (rowP r) (fun _ => rfl)) : sProp 𝕄) := by
  refine BIBase.Entails.trans (Entails.of_eq ?_) (grid_join c (Pb.slice (rowP r) (fun _ => rfl)) partR (fun _ _ => rfl) partR_disj partR_cov)
  refine bigSep_congr fun h _ => ?_
  unfold ownsX
  simp only [owns_part]
  rfl

/-- One product fills its block of rows with the tiles of the partial product. -/
theorem tr_gemm (r : Fin 4) :
    Tr c iprop(ownsTc c Xb fullShare (XB m c) ∗ ownsTc c Db fullShare (DB m c) ∗ ownsX c (Pb.slice (rowP r) (fun _ => rfl))) (gemm r) ⟨⟩
      iprop(ownsTc c Xb fullShare (XB m c) ∗ ownsTc c Db fullShare (DB m c) ∗ bigSep Finset.univ fun h => ownsTc c (pT r h) fullShare (Pt m c r h)) := by
  unfold gemm Tr
  iintro ⟨HX, HD, ⟨%Y, HP⟩⟩
  iapply (show Tr c _ (ldXc r) _ _ from ld_sub c Xb (Rect.unit (s := S2048x2048) ![0, 512 * r.val] S2048x512.size (inbCol r)) _ fullShare (XB m c)).seq $$ HX
  iintro HX
  iapply (show Tr c _ ldDy _ _ from ld_sub c Db (Rect.unit (s := S2048x2048) ![0, 0] S2048x2048.size inb_S2048x2048_S2048x2048_0_0) _ fullShare (DB m c)).seq $$ HD
  iintro HD
  iapply (show Tr c _ (ldP r) _ _ from ld_slice c Pb (rowP r) (fun _ => rfl) _ fullShare Y).seq $$ HP
  iintro HP
  have hst : Tr c (ownsTc c (Pb.slice (rowP r) (fun _ => rfl)) fullShare Y) (stP r (prodRow m c r)) ⟨⟩ (ownsTc c (Pb.slice (rowP r) (fun _ => rfl)) fullShare (prodRow m c r)) :=
    st_slice c Pb (rowP r) (fun _ => rfl) (prodRow m c r) _ _ Y
  have hrow := row_tiles m c r
  iapply (hst.frame iprop(ownsTc c Xb fullShare (XB m c) ∗ ownsTc c Db fullShare (DB m c))).conseq .rfl ?_
  · iintro ⟨HP, HX, HD⟩
    isplitl [HX]; · iexact HX
    isplitl [HD]; · iexact HD
    iapply hrow $$ HP
  isplitl [HP]; · iexact HP
  isplitl [HX] <;> iassumption

end Input

end Cert.KernelIdeal.Ring
-- ==== Proof.Output.lean ====
module

public import proofs.«01_k».proof.Proof.Column

/-! The exchanges between columns and the writing out of the result. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Output

variable (m : (ℓ : Loc nD τ sig) → Buf (Elt F) ℓ) (K : Dev nD × C → ℕ) (c : Dev nD)

/-! ## The exchanges -/

/-- A copy of an exchange. -/
abbrev xj (e : Fin 3) (h : Fin 4) : J := .inr (e, h)

/-- Sending a reduced tile to a peer pays its duties and lends a share of the tile, the offset given in closed form.
    -/
theorem xsend_core (e : Fin 3) (h : Fin 4) (n : ℕ) (hn : n = pos (.inr (xj e h))) (q : PosShare TreeShare)
    (hB : srcBack m (xj e h) c = ownsTc c (pT (zc c) h) q (Sent m (xj e h) c)) (o : Fin 2 → ℕ) (ho : o = ![512 * (zc c).val, 512 * h.val]) (hb) (t : Dev nD) (ht : t = dst (xj e h) c)
    {hsc : (xSlot e h : Memref sig (Dev.tc t : Thread nD τ).2.kind .vmem S512x512 .bf16).view.ref.isScScratch = false} {hsrc hdst}
    {hsem : DmaTarget.Typed .vmem (.dma (xrS e h).sem) (.remote (Dev.tc t : Thread nD τ) (xSlot e h : Memref sig .tc .vmem S512x512 .bf16) (.dma (xsS e h).sem) hsc)} :
    Tr c iprop(Ow m K c n ∗ ownsTc c (pT (zc c) h) q (Sent m (xj e h) c) ∗ sk0 c (xj e h))
      (Prog.lift (.enqueueDma (pTile o hb) (.remote (Dev.tc t : Thread nD τ) (xSlot e h) (.dma (xsS e h).sem) hsc) (.dma (xrS e h).sem) hsrc hdst hsem)) ⟨⟩
      iprop(Ow m K c (n + 1) ∗ sk1 c (xj e h)) := by
  subst ho; subst hn
  unfold sk0 sk1
  rw [if_pos (show act (xj e h) c = true from rfl), if_pos (show act (xj e h) c = true from rfl)]
  have core : Tr c iprop(Ow m K c (pos (.inr (xj e h))) ∗ ownsTc c (pT (zc c) h) q (Sent m (xj e h) c) ∗ ownsX (dst (xj e h) c) (slot (xj e h)) ∗ dutyTok ER (sendC c (xj e h)) 0 0
        ∗ dutyTok ER (recvC (dst (xj e h) c) (xj e h)) 0 0)
      (Prog.lift (.enqueueDma (pTile ![512 * (zc c).val, 512 * h.val] hb) (.remote (Dev.tc t : Thread nD τ) (xSlot e h) (.dma (xsS e h).sem) hsc) (.dma (xrS e h).sem) hsrc hdst hsem)) ⟨⟩
      iprop(Ow m K c (pos (.inr (xj e h)) + 1) ∗ cred (tallyAt (sendC c (xj e h)) () N)) :=
    tr_send m K c t (xj e h) (pTile ![512 * (zc c).val, 512 * h.val] hb) q ht rfl hB
  refine (core.frame (atPos ER (sendC c (xj e h)) 0 ∅ 0)).conseq ?_ sep_assoc.1
  iintro ⟨HO, Hs, ⟨⟨H1, H2, H3⟩, Ha⟩⟩
  isplitl [HO Hs H1 H2 H3]
  · isplitl [HO]; · iexact HO
    isplitl [Hs]; · iexact Hs
    isplitl [H3]; · iexact H3
    isplitl [H1] <;> iassumption
  iexact Ha

/-- Sending a reduced tile along the first axis puts that copy on its way. -/
theorem tr_xSend0 (h : Fin 4) (n : ℕ) (hn : n = 28 + 2 * h.val) :
    Tr c iprop(Ow m K c n ∗ ownsTc c (pT (zc c) h) fullShare.right.left (Own m c h) ∗ sk0 c (xj 0 h)) (xSend 0 h c) ⟨⟩ iprop(Ow m K c (n + 1) ∗ sk1 c (xj 0 h)) :=
  xsend_core m K c 0 h n hn fullShare.right.left rfl _ (oOwn_eq h c) _ _ (Fin.ext (eX_eq 0 h c))
/-- Sending a reduced tile along the second axis puts that copy on its way. -/
theorem tr_xSend1 (h : Fin 4) (n : ℕ) (hn : n = 28 + 2 * h.val + 1) :
    Tr c iprop(Ow m K c n ∗ ownsTc c (pT (zc c) h) fullShare.right.right (Own m c h) ∗ sk0 c (xj 1 h)) (xSend 1 h c) ⟨⟩ iprop(Ow m K c (n + 1) ∗ sk1 c (xj 1 h)) :=
  xsend_core m K c 1 h n hn fullShare.right.right rfl _ (oOwn_eq h c) _ _ (Fin.ext (eX_eq 1 h c))

/-- Forwarding the tile the first-axis peer sent pays the copy's duties, its target given in closed form. -/
theorem fwd_core (h : Fin 4) (t : Dev nD) (ht : t = dst (xj 2 h) c)
    {hsc : (xSlot 2 h : Memref sig (Dev.tc t : Thread nD τ).2.kind .vmem S512x512 .bf16).view.ref.isScScratch = false} {hsrc hdst}
    {hsem : DmaTarget.Typed .vmem (.dma (xrS 2 h).sem) (.remote (Dev.tc t : Thread nD τ) (xSlot 2 h : Memref sig .tc .vmem S512x512 .bf16) (.dma (xsS 2 h).sem) hsc)} :
    Tr c iprop(Ow m K c (36 + h.val) ∗ ownsTc c (xSlot 0 h) fullShare.right (Own m (px c) h) ∗ sk0 c (xj 2 h))
      (Prog.lift (.enqueueDma (xSlot 0 h) (.remote (Dev.tc t : Thread nD τ) (xSlot 2 h) (.dma (xsS 2 h).sem) hsc) (.dma (xrS 2 h).sem) hsrc hdst hsem)) ⟨⟩
      iprop(Ow m K c (36 + h.val + 1) ∗ sk1 c (xj 2 h)) := by
  unfold sk0 sk1
  rw [if_pos (show act (xj 2 h) c = true from rfl), if_pos (show act (xj 2 h) c = true from rfl)]
  have core : Tr c iprop(Ow m K c (36 + h.val) ∗ ownsTc c (xSlot 0 h) fullShare.right (Own m (px c) h) ∗ ownsX (dst (xj 2 h) c) (slot (xj 2 h)) ∗ dutyTok ER (sendC c (xj 2 h)) 0 0
        ∗ dutyTok ER (recvC (dst (xj 2 h) c) (xj 2 h)) 0 0)
      (Prog.lift (.enqueueDma (xSlot 0 h) (.remote (Dev.tc t : Thread nD τ) (xSlot 2 h) (.dma (xsS 2 h).sem) hsc) (.dma (xrS 2 h).sem) hsrc hdst hsem)) ⟨⟩
      iprop(Ow m K c (36 + h.val + 1) ∗ cred (tallyAt (sendC c (xj 2 h)) () N)) :=
    tr_send m K c t (xj 2 h) (xSlot 0 h) fullShare.right ht rfl rfl
  refine (core.frame (atPos ER (sendC c (xj 2 h)) 0 ∅ 0)).conseq ?_ sep_assoc.1
  iintro ⟨HO, Hs, ⟨⟨H1, H2, H3⟩, Ha⟩⟩
  isplitl [HO Hs H1 H2 H3]
  · isplitl [HO]; · iexact HO
    isplitl [Hs]; · iexact Hs
    isplitl [H3]; · iexact H3
    isplitl [H1] <;> iassumption
  iexact Ha

/-- Forwarding the tile the first-axis peer sent puts that copy on its way. -/
theorem tr_xFwd (h : Fin 4) :
    Tr c iprop(Ow m K c (36 + h.val) ∗ ownsTc c (xSlot 0 h) fullShare.right (Own m (px c) h) ∗ sk0 c (xj 2 h)) (xFwd h c) ⟨⟩ iprop(Ow m K c (36 + h.val + 1) ∗ sk1 c (xj 2 h)) :=
  fwd_core m K c h _ (Fin.ext (eX_eq 2 h c))

/-- Awaiting the sending of a reduced tile brings back the share that was lent. -/
theorem xs_core (e : Fin 3) (h : Fin 4) (n : ℕ) {sp sp' : Space} {s' : Shape} {e' : EltTy} (srcw : Memref sig .tc sp' s' e') {s : Shape} {el : EltTy} (dstw : Memref sig .tc sp s el) (hsrc hdst)
    (hN : dstw.view.dmaCredit = N) :
    Tr c iprop(Ow m K c n ∗ sk1 c (xj e h)) (Prog.lift (.waitDma2 (xsS e h).sem srcw dstw hsrc hdst)) ⟨⟩ iprop(Ow m K c n ∗ sk2 c (xj e h) ∗ srcBack m (xj e h) c) := by
  have hdut : dutiesK c (some (false, xj e h)) = {0} := by unfold dutiesK; exact if_pos rfl
  unfold sk1 sk2
  rw [if_pos (show act (xj e h) c = true from rfl), if_pos (show act (xj e h) c = true from rfl)]
  exact tr_waitDma m K c false (xj e h) (xsS e h).sem rfl srcw dstw hsrc hdst hN hdut fun i _ => lev0 i

/-- Having received. -/
def rkD (j : J) : sProp 𝕄 := atPos ER (recvC c j) 1 ∅ 0

/-- Awaiting a reduced tile brings its slot, holding the tile. -/
theorem xr_core (e : Fin 3) (h : Fin 4) (n : ℕ) (hn : (if e = 0 then 36 else 40) ≤ n) {sp' : Space} {s' : Shape} {e' : EltTy} (srcw : Memref sig .tc sp' s' e') (hsrc hdst) :
    Tr c iprop(Ow m K c n ∗ rk0 c (xj e h)) (Prog.lift (.waitDma2 (xrS e h).sem srcw (xSlot e h) hsrc hdst)) ⟨⟩
      iprop(Ow m K c n ∗ rkD c (xj e h) ∗ ownsTc c (xSlot e h) fullShare (In m (xj e h) c)) := by
  have hdut : dutiesK c (some (true, xj e h)) = {0} := by unfold dutiesK; exact if_pos rfl
  unfold rk0 rkD
  rw [if_pos (show actR (xj e h) c = true from rfl)]
  exact tr_waitDma m K c true (xj e h) (xrS e h).sem rfl srcw (xSlot e h) hsrc hdst (slot_credit (xj e h)) hdut fun i hi => lev_x e h i (hn.trans hi)

/-- Awaiting the sending of a reduced tile, as the kernel does after its first two exchanges. -/
theorem tr_xWaitS (e : Fin 3) (h : Fin 4) (n : ℕ) : Tr c iprop(Ow m K c n ∗ sk1 c (xj e h)) (xWaitS e h c) ⟨⟩ iprop(Ow m K c n ∗ sk2 c (xj e h) ∗ srcBack m (xj e h) c) :=
  xs_core m K c e h n _ _ _ _ rfl
/-- Awaiting a reduced tile, as the kernel does in its first two exchanges. -/
theorem tr_xWaitR (e : Fin 3) (h : Fin 4) (n : ℕ) (hn : (if e = 0 then 36 else 40) ≤ n) :
    Tr c iprop(Ow m K c n ∗ rk0 c (xj e h)) (xWaitR e h c) ⟨⟩ iprop(Ow m K c n ∗ rkD c (xj e h) ∗ ownsTc c (xSlot e h) fullShare (In m (xj e h) c)) :=
  xr_core m K c e h n hn _ _ _
/-- Awaiting the sending of a forwarded tile. -/
theorem tr_fWaitS (h : Fin 4) (n : ℕ) : Tr c iprop(Ow m K c n ∗ sk1 c (xj 2 h)) (fWaitS h) ⟨⟩ iprop(Ow m K c n ∗ sk2 c (xj 2 h) ∗ srcBack m (xj 2 h) c) :=
  xs_core m K c 2 h n _ _ _ _ (slot_credit (xj 0 h))
/-- Awaiting a forwarded tile. -/
theorem tr_fWaitR (h : Fin 4) (n : ℕ) (hn : 40 ≤ n) :
    Tr c iprop(Ow m K c n ∗ rk0 c (xj 2 h)) (fWaitR h) ⟨⟩ iprop(Ow m K c n ∗ rkD c (xj 2 h) ∗ ownsTc c (xSlot 2 h) fullShare (In m (xj 2 h) c)) :=
  xr_core m K c 2 h n hn _ _ _

/-- What a device keeps of its own tile while copies read it. -/
def kept (h : Fin 4) : sProp 𝕄 := ownsTc c (pT (zc c) h) fullShare.left (Own m c h)

/-- The last receipts of a column block, then its reduced tile's two copies. -/
theorem tr_lastStep (h : Fin 4) (n : ℕ) (hn : n = 28 + 2 * h.val) :
    Tr c iprop(Ow m K c n ∗ col m c Finset.univ 10 h ∗ sk0 c (xj 0 h) ∗ sk0 c (xj 1 h)) (lastStep h c) ⟨⟩
      iprop(Ow m K c (n + 2) ∗ col m c (Finset.univ.erase (zc c)) 12 h ∗ kept m c h ∗ sk1 c (xj 0 h) ∗ sk1 c (xj 1 h)) := by
  have hr : Tr c iprop(Ow m K c n ∗ col m c Finset.univ 10 h) (recvs 2 h c) ⟨⟩ iprop(Ow m K c n ∗ col m c Finset.univ 12 h) := tr_recvs m K c 2 h n (by show 12 + 8 * 2 + 2 * h.val ≤ n; omega)
  have ho := col_own m c h
  have hs1 := owns_split (F := F) c (pT (zc c) h) fullShare (Own m c h)
  have hs2 := owns_split (F := F) c (pT (zc c) h) fullShare.right (Own m c h)
  unfold lastStep kept Tr
  iintro ⟨HO, HC, H0, H1⟩
  iapply hr.seq $$ [HO HC]
  · isplitl [HO] <;> iassumption
  iintro ⟨HO, HC⟩
  ihave HC := ho $$ HC
  icases HC with ⟨HC, HT⟩
  ihave HT := hs1 $$ HT
  icases HT with ⟨HL, HT⟩
  ihave HT := hs2 $$ HT
  icases HT with ⟨HA, HB⟩
  iapply (tr_xSend0 m K c h n hn).seq $$ [HO HA H0]
  · isplitl [HO]; · iexact HO
    isplitl [HA] <;> iassumption
  iintro ⟨HO, H0⟩
  iapply ((tr_xSend1 m K c h (n + 1) (by omega)).frame iprop(col m c (Finset.univ.erase (zc c)) 12 h ∗ ownsTc c (pT (zc c) h) fullShare.left (Own m c h) ∗ sk1 c (xj 0 h))).conseq .rfl ?_
  · iintro ⟨⟨HO, H1⟩, HC, HL, H0⟩
    isplitl [HO]; · iexact HO
    isplitl [HC]; · iexact HC
    isplitl [HL]; · iexact HL
    isplitl [H0] <;> iassumption
  isplitl [HO HB H1]
  · isplitl [HO]; · iexact HO
    isplitl [HB] <;> iassumption
  isplitl [HC]; · iexact HC
  isplitl [HL] <;> iassumption

/-! ## The result, a tile at a time -/

abbrev Mo : ℕ := (stSlot 0).view.dmaCredit
/-- A copy out of the staging buffer credits its semaphore by a positive amount. -/
theorem Mo_pos : 0 < Mo := View.dmaCredit_pos _ (by decide)

/-- A tile of the result. -/
abbrev oT (j h : Fin 4) : Memref sig .tc .hbm S512x512 .f32 := AO.slice (oR' (qj j c, h)) (fun _ => rfl)

def outBlank (j h : Fin 4) : sProp 𝕄 := ownsX c (oT c j h)
def outDone (j h : Fin 4) : sProp 𝕄 := ownsTc c (oT c j h) fullShare (outT m c (qj j c, h))
/-- A staging slot not in use, -/
def stIdle (p : Fin 2) : sProp 𝕄 := iprop(ownsX c (stSlot p) ∗ semVal ((c : Thread nD τ), .dma (sgS p).sem) 0)
/-- and one being written out. -/
def stBusy (j h : Fin 4) (p : Fin 2) : sProp 𝕄 :=
  Transfers.Flight (EC (F := F)) (c : Thread nD τ) (.dma (sgS p).sem) () Mo iprop(ownsTc c (oT c j h) fullShare (outT m c (qj j c, h)) ∗ ownsTc c (stSlot p) fullShare (outT m c (qj j c, h)))

/-- Starting a copy into the result lends it the staging slot and the tile's place, the offset given in closed form.
    -/
theorem cpOut_core (j h : Fin 4) (p : Fin 2) (o : Fin 2 → ℕ) (ho : o = ![0, 2048 * (qj j c).val + 512 * h.val]) (hb) (hsrc hdst hsem) :
    Tr c iprop(ownsTc c (stSlot p) fullShare (outT m c (qj j c, h)) ∗ outBlank c j h ∗ semVal ((c : Thread nD τ), .dma (sgS p).sem) 0)
      (Prog.lift (.enqueueDma (stSlot p) (.here (oTile o hb)) (.dma (sgS p).sem) hsrc hdst hsem)) ⟨⟩ (stBusy m c j h p) := by
  subst ho
  unfold stBusy outBlank Tr
  iintro ⟨Hs, ⟨%Y, Hd⟩, Hv⟩
  iapply (show Tr c _ _ _ _ from cp_here c (stSlot p) (oT c j h) (sgS p).sem _ _ _ Mo rfl Mo_pos fullShare (outT m c (qj j c, h)) Y)
  isplitl [Hs]; · iexact Hs
  isplitl [Hd] <;> iassumption

/-- Awaiting a copy into the result leaves its tile written and its slot idle, the offset given in closed form. -/
theorem wtOut_core (j h : Fin 4) (p : Fin 2) (n : ℕ) (o : Fin 2 → ℕ) (ho : o = ![0, 2048 * (qj j c).val + 512 * h.val]) (hb) (hsrc hdst) :
    Tr c iprop(Ow m K c n ∗ stBusy m c j h p) (Prog.lift (.waitDma2 (sgS p).sem (stSlot p) (oTile o hb) hsrc hdst)) ⟨⟩ iprop(Ow m K c n ∗ outDone m c j h ∗ stIdle c p) := by
  subst ho
  unfold stBusy outDone stIdle
  refine (tr_local m K c (stSlot p) (oT c j h) (sgS p).sem (fun k => csem_sg k p) hsrc hdst Mo n rfl _).conseq .rfl ?_
  iintro ⟨HO, ⟨H1, H2⟩, Hv⟩
  isplitl [HO]; · iexact HO
  isplitl [H1]; · iexact H1
  isplitl [H2]
  · iexists (outT m c (qj j c, h)); iexact H2
  iexact Hv

/-- Awaiting a copy into the result leaves its tile written and its slot idle. -/
theorem tr_wtOut (j h : Fin 4) (p : Fin 2) (n : ℕ) : Tr c iprop(Ow m K c n ∗ stBusy m c j h p) (wtOut j h p c) ⟨⟩ iprop(Ow m K c n ∗ outDone m c j h ∗ stIdle c p) :=
  wtOut_core m K c j h p n _ (oOut_eq j h c) _ _ _

/-- Writing a value out through an idle slot makes the slot busy with that tile. -/
theorem tr_emit (j h : Fin 4) (p : Fin 2) (v : FVec F S1x512x512 .f32) (hv : sq squeezes_S1x512x512_S512x512 v = outT m c (qj j c, h)) :
    Tr c iprop(outBlank c j h ∗ stIdle c p) (emit j h p c v) ⟨⟩ (stBusy m c j h p) := by
  unfold emit stIdle Tr
  iintro ⟨Hb, ⟨%Y, Hs⟩, Hv⟩
  iapply (show Tr c _ (ldSt p) _ _ from ld_sq c St (stR p) (fun _ => rfl) squeezes_S1x512x512_S512x512 _ fullShare Y).seq $$ Hs
  iintro Hs
  iapply (show Tr c _ (stSt p v) _ _ from st_sq c St (stR p) (fun _ => rfl) squeezes_S1x512x512_S512x512 v _ _ Y).seq $$ Hs
  rw [hv]
  iintro Hs
  iapply (show Tr c _ (cpOut j h p c) _ _ from cpOut_core m c j h p _ (oOut_eq j h c) _ _ _ _)
  isplitl [Hs]; · iexact Hs
  isplitl [Hb] <;> iassumption

/-- What an exchange brings. -/
def src4 : Fin 4 → Dev nD := ![c, px c, py c, px (py c)]
/-- The tile of the result from each of the four columns is the widened reduced tile of the device there. -/
theorem outT_eq (j h : Fin 4) : outT m c (qj j c, h) = sq squeezes_S1x512x512_S512x512 (k0_pay47 (Own m (src4 c j) h)) := by
  unfold outT src4; dsimp only; rw [devOf_qj]

/-- The widening of a received tile is that of the tile. -/
theorem pay51_eq (X : Vec F S512x512 .bf16) : k0_pay51 (unsq squeezes_S1x512x512_S512x512 X) = k0_pay47 (F := F) X := by
  have e : shapeCast S512x512 (unsq squeezes_S1x512x512_S512x512 X) shapeCasts_S1x512x512_S512x512 = X := sq_unsq squeezes_S1x512x512_S512x512 X
  unfold k0_pay51 k0_pay47
  dsimp only
  rw [e]

/-- Writing out a received tile waits for the slot's earlier copy and makes the slot busy with the new one. -/
theorem tr_outE (e : Fin 3) (j h : Fin 4) (p : Fin 2) (j' h' : Fin 4) (n : ℕ) (q : PosShare TreeShare) (X : Vec F S512x512 .bf16) (hX : X = Own m (src4 c j) h) :
    Tr c iprop(Ow m K c n ∗ ownsTc c (xSlot e h) q X ∗ stBusy m c j' h' p ∗ outBlank c j h) (outE e j h p j' h' c) ⟨⟩
      iprop(Ow m K c n ∗ ownsTc c (xSlot e h) q X ∗ stBusy m c j h p ∗ outDone m c j' h') := by
  have hv : sq squeezes_S1x512x512_S512x512 (k0_pay51 (unsq squeezes_S1x512x512_S512x512 X)) = outT m c (qj j c, h) := by
    rw [pay51_eq, outT_eq, hX]
  unfold outE Tr
  iintro ⟨HO, Hx, Hb, Hn⟩
  iapply (show Tr c _ (ldE e h) _ _ from ld_sq c (Eb e) (xR h) (fun _ => rfl) squeezes_S1x512x512_S512x512 _ q X).seq $$ Hx
  iintro Hx
  iapply (tr_wtOut m K c j' h' p n).seq $$ [HO Hb]
  · isplitl [HO] <;> iassumption
  iintro ⟨HO, Hd, Hi⟩
  iapply ((tr_emit m c j h p _ hv).frame iprop(Ow m K c n ∗ ownsTc c (xSlot e h) q X ∗ outDone m c j' h')).conseq .rfl ?_
  · iintro ⟨Hb, HO, Hx, Hd⟩
    isplitl [HO]; · iexact HO
    isplitl [Hx]; · iexact Hx
    isplitl [Hb] <;> iassumption
  isplitl [Hn Hi]; · isplitl [Hn] <;> iassumption
  isplitl [HO]; · iexact HO
  isplitl [Hx] <;> iassumption

/-- The copies along the first axis: before their tile is written out, -/
def xa (h : Fin 4) : sProp 𝕄 := iprop(sk1 c (xj 0 h) ∗ rk0 c (xj 0 h) ∗ sk0 c (xj 2 h))
/-- between that and the forwarded copy's end, -/
def xb (h : Fin 4) : sProp 𝕄 :=
  iprop(sk2 c (xj 0 h) ∗ srcBack m (xj 0 h) c ∗ rkD c (xj 0 h) ∗ ownsTc c (xSlot 0 h) fullShare.left (Own m (px c) h) ∗ sk1 c (xj 2 h))
/-- and after, with the tile that came through two peers. -/
def xc (h : Fin 4) : sProp 𝕄 := iprop(sk2 c (xj 0 h) ∗ srcBack m (xj 0 h) c ∗ rk1 c (xj 0 h) ∗ sk2 c (xj 2 h) ∗ rk1 c (xj 2 h))
/-- The copies along the second axis before and after. -/
def ya (h : Fin 4) : sProp 𝕄 := iprop(sk1 c (xj 1 h) ∗ rk0 c (xj 1 h))
def yb (h : Fin 4) : sProp 𝕄 := iprop(sk2 c (xj 1 h) ∗ srcBack m (xj 1 h) c ∗ rk1 c (xj 1 h))

/-- A receiving cell whose round is over, with its slot, is a copy received. -/
theorem rk1_intro (e : Fin 3) (h : Fin 4) (X : Vec F S512x512 .bf16) : iprop(rkD c (xj e h) ∗ ownsTc c (xSlot e h) fullShare X) ⊢ (rk1 c (xj e h) : sProp 𝕄) := by
  unfold rkD rk1
  rw [if_pos (show actR (xj e h) c = true from rfl), if_pos (show actR (xj e h) c = true from rfl)]
  iintro ⟨Ha, H⟩
  isplitl [Ha]; · iexact Ha
  iexists X; iexact H

/-- One column block of the first exchange: await its copies, forward the tile and write it out. -/
theorem tr_outX (h : Fin 4) (p : Fin 2) (j' h' : Fin 4) :
    Tr c iprop(Ow m K c (36 + h.val) ∗ xa c h ∗ stBusy m c j' h' p ∗ outBlank c 1 h) (outX h p j' h' c) ⟨⟩
      iprop(Ow m K c (36 + h.val + 1) ∗ xb m c h ∗ stBusy m c 1 h p ∗ outDone m c j' h') := by
  have hs := owns_split (F := F) c (xSlot 0 h) fullShare (Own m (px c) h)
  have hr : Tr c iprop(Ow m K c (36 + h.val) ∗ rk0 c (xj 0 h)) (xWaitR 0 h c) ⟨⟩ iprop(Ow m K c (36 + h.val) ∗ rkD c (xj 0 h) ∗ ownsTc c (xSlot 0 h) fullShare (Own m (px c) h)) :=
    tr_xWaitR m K c 0 h (36 + h.val) (by rw [if_pos rfl]; omega)
  unfold outX xa xb Tr
  iintro ⟨HO, ⟨H1, H2, H3⟩, Hb, Hn⟩
  iapply (tr_xWaitS m K c 0 h (36 + h.val)).seq $$ [HO H1]
  · isplitl [HO] <;> iassumption
  iintro ⟨HO, H1, HB⟩
  iapply hr.seq $$ [HO H2]
  · isplitl [HO] <;> iassumption
  iintro ⟨HO, H2, Hx⟩
  ihave Hx := hs $$ Hx
  icases Hx with ⟨Hl, Hr⟩
  iapply (tr_xFwd m K c h).seq $$ [HO Hr H3]
  · isplitl [HO]; · iexact HO
    isplitl [Hr] <;> iassumption
  iintro ⟨HO, H3⟩
  iapply ((tr_outE m K c 0 1 h p j' h' (36 + h.val + 1) fullShare.left (Own m (px c) h) rfl).frame iprop(sk2 c (xj 0 h) ∗ srcBack m (xj 0 h) c ∗ rkD c (xj 0 h) ∗ sk1 c (xj 2 h))).conseq .rfl ?_
  · iintro ⟨⟨HO, Hl, Hb, Hn⟩, H1, HB, H2, H3⟩
    isplitl [HO]; · iexact HO
    isplitl [H1 HB H2 Hl H3]
    · isplitl [H1]; · iexact H1
      isplitl [HB]; · iexact HB
      isplitl [H2]; · iexact H2
      isplitl [Hl] <;> iassumption
    isplitl [Hb] <;> iassumption
  isplitl [HO Hl Hb Hn]
  · isplitl [HO]; · iexact HO
    isplitl [Hl]; · iexact Hl
    isplitl [Hb] <;> iassumption
  isplitl [H1]; · iexact H1
  isplitl [HB]; · iexact HB
  isplitl [H2] <;> iassumption

/-- One column block of the second exchange: await its copies and write the tile out. -/
theorem tr_outY (h : Fin 4) (p : Fin 2) (j' h' : Fin 4) :
    Tr c iprop(Ow m K c 40 ∗ ya c h ∗ stBusy m c j' h' p ∗ outBlank c 2 h) (outY h p j' h' c) ⟨⟩
      iprop(Ow m K c 40 ∗ yb m c h ∗ stBusy m c 2 h p ∗ outDone m c j' h') := by
  have hr : Tr c iprop(Ow m K c 40 ∗ rk0 c (xj 1 h)) (xWaitR 1 h c) ⟨⟩ iprop(Ow m K c 40 ∗ rkD c (xj 1 h) ∗ ownsTc c (xSlot 1 h) fullShare (Own m (py c) h)) :=
    tr_xWaitR m K c 1 h 40 (by decide)
  have hk := rk1_intro (F := F) c 1 h (Own m (py c) h)
  unfold outY ya yb Tr
  iintro ⟨HO, ⟨H1, H2⟩, Hb, Hn⟩
  iapply (tr_xWaitS m K c 1 h 40).seq $$ [HO H1]
  · isplitl [HO] <;> iassumption
  iintro ⟨HO, H1, HB⟩
  iapply hr.seq $$ [HO H2]
  · isplitl [HO] <;> iassumption
  iintro ⟨HO, H2, Hx⟩
  iapply ((tr_outE m K c 1 2 h p j' h' 40 fullShare (Own m (py c) h) rfl).frame iprop(sk2 c (xj 1 h) ∗ srcBack m (xj 1 h) c ∗ rkD c (xj 1 h))).conseq .rfl ?_
  · iintro ⟨⟨HO, Hl, Hb, Hn⟩, H1, HB, H2⟩
    isplitl [HO]; · iexact HO
    isplitl [H1 HB H2 Hl]
    · isplitl [H1]; · iexact H1
      isplitl [HB]; · iexact HB
      iapply hk
      isplitl [H2] <;> iassumption
    isplitl [Hb] <;> iassumption
  isplitl [HO Hx Hb Hn]
  · isplitl [HO]; · iexact HO
    isplitl [Hx]; · iexact Hx
    isplitl [Hb] <;> iassumption
  isplitl [H1]; · iexact H1
  isplitl [HB] <;> iassumption

/-- One column block of the forwarded tiles: await their copies and write the tile out. -/
theorem tr_outZ (h : Fin 4) (p : Fin 2) (j' h' : Fin 4) :
    Tr c iprop(Ow m K c 40 ∗ (xb m c h ∗ rk0 c (xj 2 h)) ∗ stBusy m c j' h' p ∗ outBlank c 3 h) (outZ h p j' h' c) ⟨⟩
      iprop(Ow m K c 40 ∗ xc m c h ∗ stBusy m c 3 h p ∗ outDone m c j' h') := by
  have hs : Tr c iprop(Ow m K c 40 ∗ sk1 c (xj 2 h)) (fWaitS h) ⟨⟩ iprop(Ow m K c 40 ∗ sk2 c (xj 2 h) ∗ ownsTc c (xSlot 0 h) fullShare.right (Own m (px c) h)) := tr_fWaitS m K c h 40
  have hr : Tr c iprop(Ow m K c 40 ∗ rk0 c (xj 2 h)) (fWaitR h) ⟨⟩ iprop(Ow m K c 40 ∗ rkD c (xj 2 h) ∗ ownsTc c (xSlot 2 h) fullShare (Own m (px (py c)) h)) :=
    tr_fWaitR m K c h 40 le_rfl
  have hj := owns_join (F := F) c (xSlot 0 h) fullShare (Own m (px c) h)
  have hk0 := rk1_intro (F := F) c 0 h (Own m (px c) h)
  have hk := rk1_intro (F := F) c 2 h (Own m (px (py c)) h)
  unfold outZ xb xc Tr
  iintro ⟨HO, ⟨⟨H1, HB, H2, Hl, H3⟩, H4⟩, Hb, Hn⟩
  iapply hs.seq $$ [HO H3]
  · isplitl [HO] <;> iassumption
  iintro ⟨HO, H3, Hr⟩
  ihave Hf := hj $$ [Hl Hr]
  · isplitl [Hl] <;> iassumption
  ihave H2 := hk0 $$ [H2 Hf]
  · isplitl [H2] <;> iassumption
  iapply hr.seq $$ [HO H4]
  · isplitl [HO] <;> iassumption
  iintro ⟨HO, H4, Hx⟩
  iapply ((tr_outE m K c 2 3 h p j' h' 40 fullShare (Own m (px (py c)) h) rfl).frame iprop(sk2 c (xj 0 h) ∗ srcBack m (xj 0 h) c ∗ rk1 c (xj 0 h) ∗ sk2 c (xj 2 h) ∗ rkD c (xj 2 h))).conseq .rfl ?_
  · iintro ⟨⟨HO, Hx, Hb, Hn⟩, H1, HB, H2, H3, H4⟩
    isplitl [HO]; · iexact HO
    isplitl [H1 HB H2 H3 H4 Hx]
    · isplitl [H1]; · iexact H1
      isplitl [HB]; · iexact HB
      isplitl [H2]; · iexact H2
      isplitl [H3]; · iexact H3
      iapply hk
      isplitl [H4] <;> iassumption
    isplitl [Hb] <;> iassumption
  isplitl [HO Hx Hb Hn]
  · isplitl [HO]; · iexact HO
    isplitl [Hx]; · iexact Hx
    isplitl [Hb] <;> iassumption
  isplitl [H1]; · iexact H1
  isplitl [HB]; · iexact HB
  isplitl [H2]; · iexact H2
  isplitl [H3] <;> iassumption

/-- Loading the device's own tile gives the reduced tile, the offset given in closed form. -/
theorem own_core (h : Fin 4) (o : Fin 2 → ℕ) (ho : o = ![512 * (zc c).val, 512 * h.val]) (hb) (hl) :
    Tr c (kept m c h) (Prog.lift (.load Pb (Rect.unit (s := S2048x2048) o S512x512.size hb).toLoadRect hl)) (Own m c h) (kept m c h) := by
  subst ho
  exact ld_slice (F := F) c Pb (pR (zc c, h)) (fun _ => rfl) hl fullShare.left (Own m c h)
/-- Loading the device's own tile gives the reduced tile. -/
theorem tr_ldOwn (h : Fin 4) : Tr c (kept m c h) (ldOwn h c) (Own m c h) (kept m c h) := own_core m c h _ (oLd_eq h c) _ _

/-- The first two lanes are filled with own tiles, then each written out and filled again. -/
theorem tr_outOwn (n : ℕ) :
    Tr c iprop(Ow m K c n ∗ bigSep Finset.univ (kept m c) ∗ stIdle c 0 ∗ stIdle c 1 ∗ bigSep Finset.univ (outBlank c 0)) (outOwn c) ⟨⟩
      iprop(Ow m K c n ∗ bigSep Finset.univ (kept m c) ∗ stBusy m c 0 2 0 ∗ stBusy m c 0 3 1 ∗ outDone m c 0 0 ∗ outDone m c 0 1) := by
  have hv : ∀ h, sq squeezes_S1x512x512_S512x512 (k0_pay47 (Own m c h)) = outT m c (qj 0 c, h) := fun h => (outT_eq m c 0 h).symm
  rw [bigSep_four, bigSep_four]
  unfold outOwn Tr
  iintro ⟨HO, ⟨K0, K1, K2, K3⟩, I0, I1, ⟨B0, B1, B2, B3⟩⟩
  iapply (tr_ldOwn m c 0).seq $$ K0
  iintro K0
  iapply (tr_emit m c 0 0 0 _ (hv 0)).seq $$ [B0 I0]
  · isplitl [B0] <;> iassumption
  iintro I0
  iapply (tr_ldOwn m c 1).seq $$ K1
  iintro K1
  iapply (tr_emit m c 0 1 1 _ (hv 1)).seq $$ [B1 I1]
  · isplitl [B1] <;> iassumption
  iintro I1
  iapply (tr_ldOwn m c 2).seq $$ K2
  iintro K2
  iapply (tr_wtOut m K c 0 0 0 n).seq $$ [HO I0]
  · isplitl [HO] <;> iassumption
  iintro ⟨HO, D0, I0⟩
  iapply (tr_emit m c 0 2 0 _ (hv 2)).seq $$ [B2 I0]
  · isplitl [B2] <;> iassumption
  iintro I0
  iapply (tr_ldOwn m c 3).seq $$ K3
  iintro K3
  iapply (tr_wtOut m K c 0 1 1 n).seq $$ [HO I1]
  · isplitl [HO] <;> iassumption
  iintro ⟨HO, D1, I1⟩
  iapply ((tr_emit m c 0 3 1 _ (hv 3)).frame iprop(Ow m K c n ∗ (kept m c 0 ∗ kept m c 1 ∗ kept m c 2 ∗ kept m c 3) ∗ stBusy m c 0 2 0 ∗ outDone m c 0 0 ∗ outDone m c 0 1)).conseq .rfl ?_
  · iintro ⟨I1, HO, HK, I0, D⟩
    isplitl [HO]; · iexact HO
    isplitl [HK]; · iexact HK
    isplitl [I0]; · iexact I0
    isplitl [I1] <;> iassumption
  isplitl [B3 I1]; · isplitl [B3] <;> iassumption
  isplitl [HO]; · iexact HO
  isplitl [K0 K1 K2 K3]
  · isplitl [K0]; · iexact K0
    isplitl [K1]; · iexact K1
    isplitl [K2] <;> iassumption
  isplitl [I0]; · iexact I0
  isplitl [D0] <;> iassumption

/-- Four exchanged tiles of one kind: two written out in the lanes of the kind before, two in their own. -/
theorem tr_kind (f : Fin 4 → P F PUnit) (n k : ℕ) (A B : Fin 4 → sProp 𝕄) (j j' : Fin 4)
    (h0 : Tr c iprop(Ow m K c n ∗ A 0 ∗ stBusy m c j' 2 0 ∗ outBlank c j 0) (f 0) ⟨⟩ iprop(Ow m K c (n + k) ∗ B 0 ∗ stBusy m c j 0 0 ∗ outDone m c j' 2))
    (h1 : Tr c iprop(Ow m K c (n + k) ∗ A 1 ∗ stBusy m c j' 3 1 ∗ outBlank c j 1) (f 1) ⟨⟩ iprop(Ow m K c (n + 2 * k) ∗ B 1 ∗ stBusy m c j 1 1 ∗ outDone m c j' 3))
    (h2 : Tr c iprop(Ow m K c (n + 2 * k) ∗ A 2 ∗ stBusy m c j 0 0 ∗ outBlank c j 2) (f 2) ⟨⟩ iprop(Ow m K c (n + 3 * k) ∗ B 2 ∗ stBusy m c j 2 0 ∗ outDone m c j 0))
    (h3 : Tr c iprop(Ow m K c (n + 3 * k) ∗ A 3 ∗ stBusy m c j 1 1 ∗ outBlank c j 3) (f 3) ⟨⟩ iprop(Ow m K c (n + 4 * k) ∗ B 3 ∗ stBusy m c j 3 1 ∗ outDone m c j 1)) :
    Tr c iprop(Ow m K c n ∗ bigSep Finset.univ A ∗ (stBusy m c j' 2 0 ∗ stBusy m c j' 3 1) ∗ bigSep Finset.univ (outBlank c j)) (four f) ⟨⟩
      iprop(Ow m K c (n + 4 * k) ∗ bigSep Finset.univ B ∗ (stBusy m c j 2 0 ∗ stBusy m c j 3 1) ∗ (outDone m c j' 2 ∗ outDone m c j' 3) ∗ outDone m c j 0 ∗ outDone m c j 1) := by
  rw [bigSep_four, bigSep_four, bigSep_four]
  unfold four Tr
  iintro ⟨HO, ⟨A0, A1, A2, A3⟩, ⟨I0, I1⟩, ⟨B0, B1, B2, B3⟩⟩
  iapply h0.seq $$ [HO A0 I0 B0]
  · isplitl [HO]; · iexact HO
    isplitl [A0]; · iexact A0
    isplitl [I0] <;> iassumption
  iintro ⟨HO, A0, I0, B0⟩
  iapply h1.seq $$ [HO A1 I1 B1]
  · isplitl [HO]; · iexact HO
    isplitl [A1]; · iexact A1
    isplitl [I1] <;> iassumption
  iintro ⟨HO, A1, I1, B1⟩
  iapply h2.seq $$ [HO A2 I0 B2]
  · isplitl [HO]; · iexact HO
    isplitl [A2]; · iexact A2
    isplitl [I0] <;> iassumption
  iintro ⟨HO, A2, I0, B2⟩
  iapply (h3.frame iprop((B 0 ∗ B 1 ∗ B 2) ∗ stBusy m c j 2 0 ∗ outDone m c j' 2 ∗ outDone m c j' 3 ∗ outDone m c j 0)).conseq .rfl ?_
  · iintro ⟨⟨HO, A3, I1, B3⟩, ⟨A0, A1, A2⟩, I0, B0, B1, B2⟩
    isplitl [HO]; · iexact HO
    isplitl [A0 A1 A2 A3]
    · isplitl [A0]; · iexact A0
      isplitl [A1]; · iexact A1
      isplitl [A2] <;> iassumption
    isplitl [I0 I1]; · isplitl [I0] <;> iassumption
    isplitl [B0 B1]; · isplitl [B0] <;> iassumption
    isplitl [B2] <;> iassumption
  isplitl [HO A3 I1 B3]
  · isplitl [HO]; · iexact HO
    isplitl [A3]; · iexact A3
    isplitl [I1] <;> iassumption
  isplitl [A0 A1 A2]
  · isplitl [A0]; · iexact A0
    isplitl [A1] <;> iassumption
  isplitl [I0]; · iexact I0
  isplitl [B0]; · iexact B0
  isplitl [B1] <;> iassumption

def pX (c : Dev nD) : Fin 4 → P F PUnit := ![outX 0 0 0 2 c, outX 1 1 0 3 c, outX 2 0 1 0 c, outX 3 1 1 1 c]
def pY (c : Dev nD) : Fin 4 → P F PUnit := ![outY 0 0 1 2 c, outY 1 1 1 3 c, outY 2 0 2 0 c, outY 3 1 2 1 c]
def pZ (c : Dev nD) : Fin 4 → P F PUnit := ![outZ 0 0 2 2 c, outZ 1 1 2 3 c, outZ 2 0 3 0 c, outZ 3 1 3 1 c]

/-- The first exchange, over the four column blocks. -/
theorem tr_pX :
    Tr c iprop(Ow m K c 36 ∗ bigSep Finset.univ (xa c) ∗ (stBusy m c 0 2 0 ∗ stBusy m c 0 3 1) ∗ bigSep Finset.univ (outBlank c 1)) (four (pX c)) ⟨⟩
      iprop(Ow m K c 40 ∗ bigSep Finset.univ (xb m c) ∗ (stBusy m c 1 2 0 ∗ stBusy m c 1 3 1) ∗ (outDone m c 0 2 ∗ outDone m c 0 3) ∗ outDone m c 1 0 ∗ outDone m c 1 1) :=
  tr_kind m K c (pX c) 36 1 (xa c) (xb m c) 1 0 (tr_outX m K c 0 0 0 2) (tr_outX m K c 1 1 0 3) (tr_outX m K c 2 0 1 0) (tr_outX m K c 3 1 1 1)
/-- The second exchange, over the four column blocks. -/
theorem tr_pY :
    Tr c iprop(Ow m K c 40 ∗ bigSep Finset.univ (ya c) ∗ (stBusy m c 1 2 0 ∗ stBusy m c 1 3 1) ∗ bigSep Finset.univ (outBlank c 2)) (four (pY c)) ⟨⟩
      iprop(Ow m K c 40 ∗ bigSep Finset.univ (yb m c) ∗ (stBusy m c 2 2 0 ∗ stBusy m c 2 3 1) ∗ (outDone m c 1 2 ∗ outDone m c 1 3) ∗ outDone m c 2 0 ∗ outDone m c 2 1) :=
  tr_kind m K c (pY c) 40 0 (ya c) (yb m c) 2 1 (tr_outY m K c 0 0 1 2) (tr_outY m K c 1 1 1 3) (tr_outY m K c 2 0 2 0) (tr_outY m K c 3 1 2 1)
/-- The forwarded tiles, over the four column blocks. -/
theorem tr_pZ :
    Tr c iprop(Ow m K c 40 ∗ (bigSep Finset.univ fun h => iprop(xb m c h ∗ rk0 c (xj 2 h))) ∗ (stBusy m c 2 2 0 ∗ stBusy m c 2 3 1) ∗ bigSep Finset.univ (outBlank c 3)) (four (pZ c)) ⟨⟩
      iprop(Ow m K c 40 ∗ bigSep Finset.univ (xc m c) ∗ (stBusy m c 3 2 0 ∗ stBusy m c 3 3 1) ∗ (outDone m c 2 2 ∗ outDone m c 2 3) ∗ outDone m c 3 0 ∗ outDone m c 3 1) :=
  tr_kind m K c (pZ c) 40 0 (fun h => iprop(xb m c h ∗ rk0 c (xj 2 h))) (xc m c) 3 2 (tr_outZ m K c 0 0 2 2) (tr_outZ m K c 1 1 2 3) (tr_outZ m K c 2 0 3 0) (tr_outZ m K c 3 1 3 1)

/-- All tiles of the result. -/
def outs (c : Dev nD) : P F PUnit := do
  outOwn c; four (pX c); four (pY c); four (pZ c); wtOut 3 2 0 c; wtOut 3 3 1 c

/-- Before the result is written, -/
def outPre : sProp 𝕄 :=
  iprop((bigSep Finset.univ (kept m c) ∗ bigSep Finset.univ (xa c) ∗ bigSep Finset.univ (ya c) ∗ bigSep Finset.univ fun h => rk0 c (xj 2 h))
    ∗ (stIdle c 0 ∗ stIdle c 1) ∗ bigSep Finset.univ fun j => bigSep Finset.univ (outBlank c j))
/-- and after. -/
def outPost : sProp 𝕄 :=
  iprop((bigSep Finset.univ (kept m c) ∗ bigSep Finset.univ (xc m c) ∗ bigSep Finset.univ (yb m c))
    ∗ (stIdle c 0 ∗ stIdle c 1) ∗ bigSep Finset.univ fun j => bigSep Finset.univ (outDone m c j))

/-- Everything between the reduction and the last waits: the result is written, and the exchanges are over. -/
theorem tr_outs : Tr c iprop(Ow m K c 36 ∗ outPre m c) (outs c) ⟨⟩ iprop(Ow m K c 40 ∗ outPost m c) := by
  unfold outPre outPost outs Tr
  rw [bigSep_four (fun j => bigSep Finset.univ (outBlank c j)), bigSep_four (fun j => bigSep Finset.univ (outDone m c j))]
  iintro ⟨HO, ⟨HK, HX, HY, HZ⟩, ⟨I0, I1⟩, ⟨B0, B1, B2, B3⟩⟩
  iapply (tr_outOwn m K c 36).seq $$ [HO HK I0 I1 B0]
  · isplitl [HO]; · iexact HO
    isplitl [HK]; · iexact HK
    isplitl [I0]; · iexact I0
    isplitl [I1] <;> iassumption
  iintro ⟨HO, HK, I0, I1, D00, D01⟩
  iapply (tr_pX m K c).seq $$ [HO HX I0 I1 B1]
  · isplitl [HO]; · iexact HO
    isplitl [HX]; · iexact HX
    isplitl [I0 I1]; · isplitl [I0] <;> iassumption
    iexact B1
  iintro ⟨HO, HX, HI, ⟨D02, D03⟩, D10, D11⟩
  iapply (tr_pY m K c).seq $$ [HO HY HI B2]
  · isplitl [HO]; · iexact HO
    isplitl [HY]; · iexact HY
    isplitl [HI] <;> iassumption
  iintro ⟨HO, HY, HI, ⟨D12, D13⟩, D20, D21⟩
  iapply (tr_pZ m K c).seq $$ [HO HX HZ HI B3]
  · isplitl [HO]; · iexact HO
    isplitl [HX HZ]
    · have e : iprop(bigSep Finset.univ (xb m c) ∗ bigSep Finset.univ fun h => rk0 c (xj 2 h)) ⊢ (bigSep Finset.univ fun h => iprop(xb m c h ∗ rk0 c (xj 2 h)) : sProp 𝕄) :=
        Entails.of_eq (bigSep_sep Finset.univ _ _).symm
      iapply e
      isplitl [HX] <;> iassumption
    isplitl [HI] <;> iassumption
  iintro ⟨HO, HX, ⟨I0, I1⟩, ⟨D22, D23⟩, D30, D31⟩
  iapply (tr_wtOut m K c 3 2 0 40).seq $$ [HO I0]
  · isplitl [HO] <;> iassumption
  iintro ⟨HO, D32, I0⟩
  iapply ((tr_wtOut m K c 3 3 1 40).frame iprop((bigSep Finset.univ (kept m c) ∗ bigSep Finset.univ (xc m c) ∗ bigSep Finset.univ (yb m c)) ∗ stIdle c 0
    ∗ bigSep Finset.univ (outDone m c 0) ∗ bigSep Finset.univ (outDone m c 1) ∗ bigSep Finset.univ (outDone m c 2) ∗ (outDone m c 3 0 ∗ outDone m c 3 1 ∗ outDone m c 3 2))).conseq .rfl ?_
  · rw [bigSep_four (outDone m c 3)]
    iintro ⟨⟨HO, D33, I1⟩, HX, I0, D0, D1, D2, D30, D31, D32⟩
    isplitl [HO]; · iexact HO
    isplitl [HX]; · iexact HX
    isplitl [I0 I1]; · isplitl [I0] <;> iassumption
    isplitl [D0]; · iexact D0
    isplitl [D1]; · iexact D1
    isplitl [D2]; · iexact D2
    isplitl [D30]; · iexact D30
    isplitl [D31]; · iexact D31
    isplitl [D32] <;> iassumption
  rw [bigSep_four (outDone m c 0), bigSep_four (outDone m c 1), bigSep_four (outDone m c 2)]
  isplitl [HO I1]; · isplitl [HO] <;> iassumption
  isplitl [HK HX HY]
  · isplitl [HK]; · iexact HK
    isplitl [HX] <;> iassumption
  isplitl [I0]; · iexact I0
  isplitl [D00 D01 D02 D03]
  · isplitl [D00]; · iexact D00
    isplitl [D01]; · iexact D01
    isplitl [D02] <;> iassumption
  isplitl [D10 D11 D12 D13]
  · isplitl [D10]; · iexact D10
    isplitl [D11]; · iexact D11
    isplitl [D12] <;> iassumption
  isplitl [D20 D21 D22 D23]
  · isplitl [D20]; · iexact D20
    isplitl [D21]; · iexact D21
    isplitl [D22] <;> iassumption
  isplitl [D30]; · iexact D30
  isplitl [D31] <;> iassumption

end Output

end Cert.KernelIdeal.Ring
-- ==== Proof.Whole.lean ====
module

public import proofs.«01_k».proof.Proof.Input
public import proofs.«01_k».proof.Proof.Output

/-! One device's whole program. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Whole

variable (m : (ℓ : Loc nD τ sig) → Buf (Elt F) ℓ) (K : Dev nD × C → ℕ) (c : Dev nD)

/-! ## Copies by column block -/

/-- Something for each of three is the three in order. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The copies of one column block. -/
abbrev ofCol (Φ : J → sProp 𝕄) (h : Fin 4) : sProp 𝕄 := iprop((bigSep Finset.univ fun x => Φ (jz h x)) ∗ Φ (xj 0 h) ∗ Φ (xj 1 h) ∗ Φ (xj 2 h))

/-- Something for each copy is, for each column block, that for its copies. -/
theorem bigSep_J (Φ : J → sProp 𝕄) : bigSep Finset.univ Φ = bigSep Finset.univ (ofCol Φ) := by
  have e1 : (bigSep Finset.univ fun a : Fin 2 × Fin 3 × Fin 4 => Φ (.inl a)) = bigSep Finset.univ fun h : Fin 4 => bigSep Finset.univ fun x : Fin 2 × Fin 3 => Φ (jz h x) := by
    rw [bigSep_univ_comm, bigSep_univ_equiv (Equiv.prodAssoc (Fin 2) (Fin 3) (Fin 4)) (fun a => Φ (.inl a)), bigSep_univ_prod]
    rfl
  have e2 : (bigSep Finset.univ fun b : Fin 3 × Fin 4 => Φ (.inr b)) = bigSep Finset.univ fun h : Fin 4 => iprop(Φ (xj 0 h) ∗ Φ (xj 1 h) ∗ Φ (xj 2 h)) := by
    rw [bigSep_univ_prod, bigSep_univ_comm]
    exact bigSep_congr fun h _ => bigSep_three fun e => Φ (xj e h)
  rw [bigSep_univ_sum, e1, e2]
  exact (bigSep_sep Finset.univ _ _).symm

/-! ## The reduction -/

/-- A column block before anything is sent, its tiles not yet there. -/
theorem col_start (h : Fin 4) :
    iprop((bigSep Finset.univ fun x => sk0 c (jz h x)) ∗ bigSep Finset.univ fun x => rk0 c (jz h x)) ⊢ col m c ∅ 0 h := by
  have e1 : bigSep Finset.univ (sk (F := F) c h 0) = bigSep Finset.univ fun x => sk0 c (jz h x) := bigSep_congr fun x _ => if_pos (Nat.zero_le _)
  have e2 : bigSep Finset.univ (rk (F := F) c h 0) = bigSep Finset.univ fun x => rk0 c (jz h x) := bigSep_congr fun x _ => if_pos (Nat.zero_le _)
  unfold col
  rw [e1, e2]
  iintro ⟨H1, H2⟩
  isplitl [H1]; · iexact H1
  isplitl [H2]; · iexact H2
  have e3 : bigSep ∅ (tile m c h 0) = iprop(emp) := rfl
  rw [e3]
  iempintro

/-- A column block at the end. -/
theorem col_end (R : Finset (Fin 4)) (h : Fin 4) :
    col m c R 18 h ⊢ iprop((bigSep Finset.univ fun x => sk2 c (jz h x)) ∗ (bigSep Finset.univ fun x => rk1 c (jz h x)) ∗ bigSep R fun r => ownsX c (pT r h)) := by
  have e1 : bigSep Finset.univ (sk (F := F) c h 18) = bigSep Finset.univ fun x => sk2 c (jz h x) := bigSep_congr fun x _ => by
    have h1 := x.1.isLt; have h2 := x.2.isLt
    unfold sk; rw [if_neg (by omega), if_neg (by omega)]
  have e2 : bigSep Finset.univ (rk (F := F) c h 18) = bigSep Finset.univ fun x => rk1 c (jz h x) := bigSep_congr fun x _ => by
    have h1 := x.1.isLt; have h2 := x.2.isLt
    unfold rk; rw [if_neg (by omega)]
  have e3 : bigSep R (tile m c h 18) ⊢ (bigSep R fun r => ownsX c (pT r h) : sProp 𝕄) := bigSep_mono fun r _ => by
    rw [tile_here m c h 18 r _ _ (all_back c r) rfl rfl]
    show (ownsTc c (pT r h) fullShare _ : sProp 𝕄) ⊢ iprop(∃ X, ownsTc c (pT r h) fullShare X)
    iintro H; iexists _; iexact H
  unfold col
  rw [e1, e2]
  iintro ⟨H1, H2, H3⟩
  isplitl [H1]; · iexact H1
  isplitl [H2]; · iexact H2
  iapply e3 $$ H3

/-- A computed block of rows that nothing was added to joins the column blocks. -/
theorem cols_put (R : Finset (Fin 4)) (p : ℕ) (r : Fin 4) (hr : r ∉ R) (h0 : gn c r p = false ∧ fl 0 c r p = false ∧ fl 1 c r p = false) :
    iprop(bigSep Finset.univ (col m c R p) ∗ bigSep Finset.univ fun h => ownsTc c (pT r h) fullShare (Pt m c r h)) ⊢ bigSep Finset.univ (col m c (insert r R) p) := by
  refine BIBase.Entails.trans (Entails.of_eq (bigSep_sep Finset.univ _ _).symm) (bigSep_mono fun h _ => ?_)
  exact col_put m c R p h r hr h0

/-- What is sent first is in the first or the last block of rows. -/
theorem sent_first : ∀ d c, act (.inl (d, 0, 0)) c = true → rowS d 0 c ∈ (insert 0 (insert 3 ∅) : Finset (Fin 4)) := by decide +kernel
/-- The four blocks of rows, in the order they are computed, are all. -/
theorem all_rows : (insert 1 (insert 2 (insert 0 (insert 3 ∅))) : Finset (Fin 4)) = Finset.univ := by decide

def stepB (c : Dev nD) : P F PUnit := four (fun h => do recvs 0 h c; sends 1 h c)
def stepC (c : Dev nD) : P F PUnit := four (fun h => do recvs 1 h c; sends 2 h c)

/-- The first sends, over the four column blocks. -/
theorem tr_stepA : Tr c iprop(Ow m K c 4 ∗ bigSep Finset.univ (col m c (insert 0 (insert 3 ∅)) 0)) (four fun h => sends 0 h c) ⟨⟩
    iprop(Ow m K c 12 ∗ bigSep Finset.univ (col m c (insert 0 (insert 3 ∅)) 2)) :=
  tr_four m K c _ 4 2 _ _ fun h => tr_sends m K c 0 h _ fun d => sent_first d c
/-- The first receipts and the second sends. -/
theorem tr_stepB : Tr c iprop(Ow m K c 12 ∗ bigSep Finset.univ (col m c Finset.univ 2)) (stepB c) ⟨⟩ iprop(Ow m K c 20 ∗ bigSep Finset.univ (col m c Finset.univ 6)) :=
  tr_four m K c _ 12 2 _ _ fun h => Tr.bind (tr_recvs m K c 0 h (12 + 2 * h.val) (by show 12 + 8 * 0 + 2 * h.val ≤ _; omega)) (tr_sends m K c 1 h _ fun _ _ => Finset.mem_univ _)
/-- The second receipts and the third sends. -/
theorem tr_stepC : Tr c iprop(Ow m K c 20 ∗ bigSep Finset.univ (col m c Finset.univ 6)) (stepC c) ⟨⟩ iprop(Ow m K c 28 ∗ bigSep Finset.univ (col m c Finset.univ 10)) :=
  tr_four m K c _ 20 2 _ _ fun h => Tr.bind (tr_recvs m K c 1 h (20 + 2 * h.val) (by show 12 + 8 * 1 + 2 * h.val ≤ _; omega)) (tr_sends m K c 2 h _ fun _ _ => Finset.mem_univ _)
/-- The last receipts, each followed by handing the reduced tile to both peers. -/
theorem tr_stepD : Tr c iprop(Ow m K c 28 ∗ bigSep Finset.univ fun h => iprop(col m c Finset.univ 10 h ∗ sk0 c (xj 0 h) ∗ sk0 c (xj 1 h))) (four fun h => lastStep h c) ⟨⟩
    iprop(Ow m K c 36 ∗ bigSep Finset.univ fun h => iprop(col m c (Finset.univ.erase (zc c)) 12 h ∗ kept m c h ∗ sk1 c (xj 0 h) ∗ sk1 c (xj 1 h))) :=
  tr_four m K c _ 28 2 _ _ fun h => tr_lastStep m K c h _ rfl
/-- Awaiting every sent tile brings the tiles of all other row blocks back. -/
theorem tr_back3 (n : ℕ) : Tr c iprop(Ow m K c n ∗ bigSep Finset.univ (col m c (Finset.univ.erase (zc c)) 12))
    (do four (fun h => waits 0 h c); four (fun h => waits 1 h c); four (fun h => waits 2 h c) : P F PUnit) ⟨⟩
    iprop(Ow m K c n ∗ bigSep Finset.univ (col m c (Finset.univ.erase (zc c)) 18)) :=
  Tr.bind (tr_four m K c _ n 0 _ (col m c (Finset.univ.erase (zc c)) 14) fun h => by rw [Nat.zero_mul]; exact tr_waits m K c 0 h n)
    (Tr.bind (tr_four m K c _ n 0 _ (col m c (Finset.univ.erase (zc c)) 16) fun h => by rw [Nat.zero_mul]; exact tr_waits m K c 1 h n)
      (tr_four m K c _ n 0 _ _ fun h => by rw [Nat.zero_mul]; exact tr_waits m K c 2 h n))

/-- The products, and the reduction along the third axis. -/
def reduce (c : Dev nD) : P F PUnit := do
  gemm 3; gemm 0
  four (fun h => sends 0 h c)
  gemm 2; gemm 1
  stepB c
  stepC c
  four (fun h => lastStep h c)

/-- The converted arguments. -/
def args : sProp 𝕄 := iprop(ownsTc c Xb fullShare (XB m c) ∗ ownsTc c Db fullShare (DB m c))

/-- One product, its block of rows taken apart by column block. -/
theorem tr_gemm' (r : Fin 4) :
    Tr c iprop(args m c ∗ ownsX c (Pb.slice (rowP r) (fun _ => rfl))) (gemm r) ⟨⟩ iprop(args m c ∗ bigSep Finset.univ fun h => ownsTc c (pT r h) fullShare (Pt m c r h)) :=
  (tr_gemm m c r).conseq sep_assoc.1 sep_assoc.2

/-- The products and the reduction leave each column block's reduced tile on its device, on its way to both peers. -/
theorem tr_reduce :
    Tr c iprop(Ow m K c 4 ∗ args m c ∗ (bigSep Finset.univ fun r => ownsX c (Pb.slice (rowP r) (fun _ => rfl)))
        ∗ (bigSep Finset.univ fun h => iprop((bigSep Finset.univ fun x => sk0 c (jz h x)) ∗ bigSep Finset.univ fun x => rk0 c (jz h x)))
        ∗ bigSep Finset.univ fun h => iprop(sk0 c (xj 0 h) ∗ sk0 c (xj 1 h))) (reduce c) ⟨⟩
      iprop(Ow m K c 36 ∗ args m c ∗ bigSep Finset.univ fun h => iprop(col m c (Finset.univ.erase (zc c)) 12 h ∗ kept m c h ∗ sk1 c (xj 0 h) ∗ sk1 c (xj 1 h))) := by
  rw [bigSep_four fun r => ownsX c (Pb.slice (rowP r) (fun _ => rfl))]
  have hs : (bigSep Finset.univ fun h => iprop((bigSep Finset.univ fun x => sk0 c (jz h x)) ∗ bigSep Finset.univ fun x => rk0 c (jz h x)) : sProp 𝕄) ⊢ bigSep Finset.univ (col m c ∅ 0) :=
    bigSep_mono fun h _ => col_start m c h
  have p3 := cols_put m c ∅ 0 3 (by decide) (none_yet c 3)
  have p0 := cols_put m c (insert 3 ∅) 0 0 (by decide) (none_yet c 0)
  have p2 := cols_put m c (insert 0 (insert 3 ∅)) 2 2 (by decide) (mid_yet c).2
  have p1 := cols_put m c (insert 2 (insert 0 (insert 3 ∅))) 2 1 (by decide) (mid_yet c).1
  rw [all_rows] at p1
  have hd : iprop(bigSep Finset.univ (col m c Finset.univ 10) ∗ bigSep Finset.univ fun h => iprop(sk0 c (xj 0 h) ∗ sk0 c (xj 1 h)))
      ⊢ (bigSep Finset.univ fun h => iprop(col m c Finset.univ 10 h ∗ sk0 c (xj 0 h) ∗ sk0 c (xj 1 h)) : sProp 𝕄) := Entails.of_eq (bigSep_sep Finset.univ _ _).symm
  unfold reduce Tr
  iintro ⟨HO, HA, ⟨P0, P1, P2, P3⟩, HC, HX⟩
  ihave HC := hs $$ HC
  iapply (tr_gemm' m c 3).seq $$ [HA P3]
  · isplitl [HA] <;> iassumption
  iintro ⟨HA, P3⟩
  iapply (tr_gemm' m c 0).seq $$ [HA P0]
  · isplitl [HA] <;> iassumption
  iintro ⟨HA, P0⟩
  ihave HC := p3 $$ [HC P3]
  · isplitl [HC] <;> iassumption
  ihave HC := p0 $$ [HC P0]
  · isplitl [HC] <;> iassumption
  iapply (tr_stepA m K c).seq $$ [HO HC]
  · isplitl [HO] <;> iassumption
  iintro ⟨HO, HC⟩
  iapply (tr_gemm' m c 2).seq $$ [HA P2]
  · isplitl [HA] <;> iassumption
  iintro ⟨HA, P2⟩
  iapply (tr_gemm' m c 1).seq $$ [HA P1]
  · isplitl [HA] <;> iassumption
  iintro ⟨HA, P1⟩
  ihave HC := p2 $$ [HC P2]
  · isplitl [HC] <;> iassumption
  ihave HC := p1 $$ [HC P1]
  · isplitl [HC] <;> iassumption
  iapply (tr_stepB m K c).seq $$ [HO HC]
  · isplitl [HO] <;> iassumption
  iintro ⟨HO, HC⟩
  iapply (tr_stepC m K c).seq $$ [HO HC]
  · isplitl [HO] <;> iassumption
  iintro ⟨HO, HC⟩
  ihave HC := hd $$ [HC HX]
  · isplitl [HC] <;> iassumption
  iapply ((tr_stepD m K c).frame (args m c)).conseq .rfl ?_
  · iintro ⟨⟨HO, HC⟩, HA⟩
    isplitl [HO]; · iexact HO
    isplitl [HA] <;> iassumption
  isplitl [HO HC]; · isplitl [HO] <;> iassumption
  iexact HA

/-! ## The whole program -/

/-- The program is the input pipeline, the reduction, and the output with the last waits. -/
theorem prog_eq : prog (F := F) c = (do
    input c; reduce c; outs c
    (do four (fun h => waits 0 h c); four (fun h => waits 1 h c); four (fun h => waits 2 h c))) := by
  have eX : four (F := F) (pX c) = (do outX 0 0 0 2 c; outX 1 1 0 3 c; outX 2 0 1 0 c; outX 3 1 1 1 c) := rfl
  have eY : four (F := F) (pY c) = (do outY 0 0 1 2 c; outY 1 1 1 3 c; outY 2 0 2 0 c; outY 3 1 2 1 c) := rfl
  have eZ : four (F := F) (pZ c) = (do outZ 0 0 2 2 c; outZ 1 1 2 3 c; outZ 2 0 3 0 c; outZ 3 1 3 1 c) := rfl
  unfold prog reduce outs stepB stepC
  rw [eX, eY, eZ]
  simp only [bind_assoc]

/-- The rights to make a copy, but for its slot. -/
def skT (j : J) : sProp 𝕄 := iprop((dutyTok ER (sendC c j) 0 0 ∗ dutyTok ER (recvC (dst j c) j) 0 0) ∗ atPos ER (sendC c j) 0 ∅ 0)

/-- The rights to make the copies, with the slots they go to, are what a device keeps before sending. -/
theorem sk0_intro : iprop(bigSep Finset.univ (skT c) ∗ bigSep Finset.univ fun j : J => if act j c = true then ownsX (dst j c) (slot j) else iprop(emp)) ⊢ (bigSep Finset.univ (sk0 c) : sProp 𝕄) := by
  refine BIBase.Entails.trans (Entails.of_eq (bigSep_sep Finset.univ _ _).symm) (bigSep_mono fun j _ => ?_)
  show iprop(skT c j ∗ if act j c = true then ownsX (dst j c) (slot j) else iprop(emp)) ⊢ (sk0 c j : sProp 𝕄)
  unfold skT sk0
  by_cases ha : act j c = true
  · rw [if_pos ha, if_pos ha]
    iintro ⟨⟨⟨H1, H2⟩, H3⟩, H4⟩
    isplitl [H1 H2 H4]
    · isplitl [H1]; · iexact H1
      isplitl [H2] <;> iassumption
    iexact H3
  · rw [if_neg ha, if_neg ha]
    iintro ⟨⟨-, H3⟩, -⟩
    isplitr; · iempintro
    iexact H3

/-- What a device starts with; -/
def bodyPre : sProp 𝕄 :=
  iprop(barIn c ∗ (bigSep Finset.univ (inSrc m c) ∗ inIdle c 0 ∗ inIdle c 1 ∗ bigSep Finset.univ (inBlank c))
    ∗ (bigSep Finset.univ fun r => ownsX c (Pb.slice (rowP r) (fun _ => rfl)))
    ∗ (bigSep Finset.univ (skT c) ∗ bigSep Finset.univ (rk0 c))
    ∗ (stIdle c 0 ∗ stIdle c 1) ∗ bigSep Finset.univ fun j => bigSep Finset.univ (outBlank c j))
/-- and ends with. -/
def bodyPost : sProp 𝕄 :=
  iprop(atPos ER (barC c) 1 ∅ 0 ∗ (bigSep Finset.univ (inSrc m c) ∗ inIdle c 0 ∗ inIdle c 1 ∗ args m c)
    ∗ (bigSep Finset.univ fun h => bigSep Finset.univ fun r => ownsX c (pT r h))
    ∗ (bigSep Finset.univ (sk2 c) ∗ bigSep Finset.univ (rk1 c))
    ∗ (stIdle c 0 ∗ stIdle c 1) ∗ bigSep Finset.univ fun j => bigSep Finset.univ (outDone m c j))

/-- The converted blocks are the converted arguments. -/
theorem args_intro : (bigSep Finset.univ (inDone m c)) ⊢ args m c := by
  have h1 : (bigSep Finset.univ fun k => ownsTc c (Xb.slice (rowR8 k) (fun _ => rfl)) fullShare (xBlk m c k)) ⊢ (ownsTc c Xb fullShare (XB m c) : sProp 𝕄) :=
    grid_glue c Xb rowR8 (fun _ _ => rfl) rowR8_disj rowR8_cov (xBlk m c)
  have h2 : (bigSep Finset.univ fun k => ownsTc c (Db.slice (rowR8 k) (fun _ => rfl)) fullShare (dBlk m c k)) ⊢ (ownsTc c Db fullShare (DB m c) : sProp 𝕄) :=
    grid_glue c Db rowR8 (fun _ _ => rfl) rowR8_disj rowR8_cov (dBlk m c)
  have e : bigSep Finset.univ (inDone m c) = iprop((bigSep Finset.univ fun k => ownsTc c (Xb.slice (rowR8 k) (fun _ => rfl)) fullShare (xBlk m c k))
      ∗ bigSep Finset.univ fun k => ownsTc c (Db.slice (rowR8 k) (fun _ => rfl)) fullShare (dBlk m c k)) := bigSep_sep Finset.univ _ _
  rw [e]
  unfold args
  iintro ⟨H1, H2⟩
  isplitl [H1]
  · iapply h1 $$ H1
  · iapply h2 $$ H2

/-- What one column block of copies comes to. -/
theorem end_col (h : Fin 4) :
    iprop(col m c (Finset.univ.erase (zc c)) 18 h ∗ kept m c h ∗ xc m c h ∗ yb m c h) ⊢ iprop((bigSep Finset.univ fun r => ownsX c (pT r h)) ∗ ofCol (sk2 c) h ∗ ofCol (rk1 c) h) := by
  have hc := col_end m c (Finset.univ.erase (zc c)) h
  have hj1 := owns_join (F := F) c (pT (zc c) h) fullShare.right (Own m c h)
  have hj2 := owns_join (F := F) c (pT (zc c) h) fullShare (Own m c h)
  have e : (bigSep Finset.univ fun r => ownsX c (pT r h)) = iprop(ownsX c (pT (zc c) h) ∗ bigSep (Finset.univ.erase (zc c)) fun r => ownsX c (pT r h) : sProp 𝕄) := bigSep_erase (Finset.mem_univ _)
  have b0 : srcBack m (xj 0 h) c = ownsTc c (pT (zc c) h) fullShare.right.left (Own m c h) := rfl
  have b1 : srcBack m (xj 1 h) c = ownsTc c (pT (zc c) h) fullShare.right.right (Own m c h) := rfl
  rw [e]
  unfold kept xc yb ofCol
  rw [b0, b1]
  iintro ⟨HC, Hl, ⟨S0, Ha, R0, S2, R2⟩, S1, Hb, R1⟩
  ihave HC := hc $$ HC
  icases HC with ⟨HS, HR, HT⟩
  ihave Hr := hj1 $$ [Ha Hb]
  · isplitl [Ha] <;> iassumption
  ihave Hf := hj2 $$ [Hl Hr]
  · isplitl [Hl] <;> iassumption
  isplitl [Hf HT]
  · isplitl [Hf]
    · iexists _; iexact Hf
    iexact HT
  isplitl [HS S0 S1 S2]
  · isplitl [HS]; · iexact HS
    isplitl [S0]; · iexact S0
    isplitl [S1] <;> iassumption
  isplitl [HR]; · iexact HR
  isplitl [R0]; · iexact R0
  isplitl [R1] <;> iassumption

/-- What the column blocks come to: the tiles are back, and every copy is sent and received. -/
theorem end_cols :
    iprop(bigSep Finset.univ (col m c (Finset.univ.erase (zc c)) 18) ∗ bigSep Finset.univ (kept m c) ∗ bigSep Finset.univ (xc m c) ∗ bigSep Finset.univ (yb m c))
      ⊢ iprop((bigSep Finset.univ fun h => bigSep Finset.univ fun r => ownsX c (pT r h)) ∗ bigSep Finset.univ (sk2 c) ∗ bigSep Finset.univ (rk1 c)) := by
  rw [bigSep_J (sk2 c), bigSep_J (rk1 c)]
  have e1 : ∀ Φ Ψ : Fin 4 → sProp 𝕄, iprop(bigSep Finset.univ Φ ∗ bigSep Finset.univ Ψ) = bigSep Finset.univ fun h => iprop(Φ h ∗ Ψ h) := fun Φ Ψ => (bigSep_sep Finset.univ Φ Ψ).symm
  rw [e1, e1, e1, e1, e1]
  exact bigSep_mono fun h _ => end_col m c h

/-- Device `c`'s program. -/
theorem tr_prog : Tr c iprop(Ow m K c 0 ∗ bodyPre m c) (prog c) ⟨⟩ iprop(Ow m K c 40 ∗ bodyPost m c) := by
  have e1 : ∀ Φ Ψ : Fin 4 → sProp 𝕄, iprop(bigSep Finset.univ Φ ∗ bigSep Finset.univ Ψ) = bigSep Finset.univ fun h => iprop(Φ h ∗ Ψ h) := fun Φ Ψ => (bigSep_sep Finset.univ Φ Ψ).symm
  have hin := lend_in m c
  have hsk := sk0_intro (F := F) c
  have hargs := args_intro m c
  have hsplit : iprop(bigSep Finset.univ (sk0 c) ∗ bigSep Finset.univ (rk0 c)) ⊢ iprop((bigSep Finset.univ fun h => iprop((bigSep Finset.univ fun x => sk0 c (jz h x)) ∗ bigSep Finset.univ fun x => rk0 c (jz h x)))
        ∗ (bigSep Finset.univ fun h => iprop(sk0 c (xj 0 h) ∗ sk0 c (xj 1 h))) ∗ (bigSep Finset.univ fun h => sk0 c (xj 2 h)) ∗ (bigSep Finset.univ fun h => rk0 c (xj 0 h)) ∗ (bigSep Finset.univ fun h => rk0 c (xj 1 h)) ∗ (bigSep Finset.univ fun h => rk0 c (xj 2 h)) : sProp 𝕄) := by
    rw [bigSep_J (sk0 c), bigSep_J (rk0 c)]
    rw [e1, e1, e1, e1, e1, e1]
    refine bigSep_mono fun h _ => ?_
    show iprop(ofCol (sk0 c) h ∗ ofCol (rk0 c) h) ⊢ (iprop(((bigSep Finset.univ fun x => sk0 c (jz h x)) ∗ bigSep Finset.univ fun x => rk0 c (jz h x))
      ∗ (sk0 c (xj 0 h) ∗ sk0 c (xj 1 h)) ∗ sk0 c (xj 2 h) ∗ rk0 c (xj 0 h) ∗ rk0 c (xj 1 h) ∗ rk0 c (xj 2 h)) : sProp 𝕄)
    unfold ofCol
    iintro ⟨⟨HS, S0, S1, S2⟩, HR, R0, R1, R2⟩
    isplitl [HS HR]; · isplitl [HS] <;> iassumption
    isplitl [S0 S1]; · isplitl [S0] <;> iassumption
    isplitl [S2]; · iexact S2
    isplitl [R0]; · iexact R0
    isplitl [R1] <;> iassumption
  have hxa : iprop((bigSep Finset.univ fun h => iprop(col m c (Finset.univ.erase (zc c)) 12 h ∗ kept m c h ∗ sk1 c (xj 0 h) ∗ sk1 c (xj 1 h))) ∗ (bigSep Finset.univ fun h => sk0 c (xj 2 h))
      ∗ (bigSep Finset.univ fun h => rk0 c (xj 0 h)) ∗ (bigSep Finset.univ fun h => rk0 c (xj 1 h)))
      ⊢ iprop(bigSep Finset.univ (col m c (Finset.univ.erase (zc c)) 12) ∗ bigSep Finset.univ (kept m c) ∗ bigSep Finset.univ (xa c) ∗ bigSep Finset.univ (ya c) : sProp 𝕄) := by
    rw [e1, e1, e1, e1, e1, e1]
    refine bigSep_mono fun h _ => ?_
    show iprop((col m c (Finset.univ.erase (zc c)) 12 h ∗ kept m c h ∗ sk1 c (xj 0 h) ∗ sk1 c (xj 1 h)) ∗ sk0 c (xj 2 h) ∗ rk0 c (xj 0 h) ∗ rk0 c (xj 1 h))
      ⊢ (iprop(col m c (Finset.univ.erase (zc c)) 12 h ∗ kept m c h ∗ xa c h ∗ ya c h) : sProp 𝕄)
    unfold xa ya
    iintro ⟨⟨HC, HK, S0, S1⟩, S2, R0, R1⟩
    isplitl [HC]; · iexact HC
    isplitl [HK]; · iexact HK
    isplitl [S0 R0 S2]
    · isplitl [S0]; · iexact S0
      isplitl [R0] <;> iassumption
    isplitl [S1] <;> iassumption
  have hend := end_cols m c
  rw [prog_eq]
  unfold bodyPre bodyPost Tr
  iintro ⟨HO, HB, ⟨I1, I2, I3, I4⟩, HP, ⟨HS, HR⟩, HT, HN⟩
  iapply (tr_input m K c).seq $$ [HO HB I1 I2 I3 I4]
  · isplitl [HO]; · iexact HO
    isplitl [HB]; · iexact HB
    isplitl [I1]; · iexact I1
    isplitl [I2]; · iexact I2
    isplitl [I3] <;> iassumption
  unfold barOut
  iintro ⟨HO, ⟨HB, HL⟩, I1, I2, I3, I4⟩
  ihave HA := hargs $$ I4
  ihave HL := hin $$ HL
  ihave HS := hsk $$ [HS HL]
  · isplitl [HS] <;> iassumption
  ihave HS := hsplit $$ [HS HR]
  · isplitl [HS] <;> iassumption
  icases HS with ⟨HC, HX, S2, R0, R1, R2⟩
  iapply (tr_reduce m K c).seq $$ [HO HA HP HC HX]
  · isplitl [HO]; · iexact HO
    isplitl [HA]; · iexact HA
    isplitl [HP]; · iexact HP
    isplitl [HC] <;> iassumption
  iintro ⟨HO, HA, HC⟩
  ihave HC := hxa $$ [HC S2 R0 R1]
  · isplitl [HC]; · iexact HC
    isplitl [S2]; · iexact S2
    isplitl [R0] <;> iassumption
  icases HC with ⟨HC, HK, HX, HY⟩
  iapply (tr_outs m K c).seq $$ [HO HK HX HY R2 HT HN]
  · unfold outPre
    isplitl [HO]; · iexact HO
    isplitl [HK HX HY R2]
    · isplitl [HK]; · iexact HK
      isplitl [HX]; · iexact HX
      isplitl [HY] <;> iassumption
    isplitl [HT] <;> iassumption
  unfold outPost
  iintro ⟨HO, ⟨HK, HX, HY⟩, HT, HN⟩
  iapply ((tr_back3 m K c 40).frame iprop((bigSep Finset.univ (kept m c) ∗ bigSep Finset.univ (xc m c) ∗ bigSep Finset.univ (yb m c))
    ∗ atPos ER (barC c) 1 ∅ 0 ∗ (bigSep Finset.univ (inSrc m c) ∗ inIdle c 0 ∗ inIdle c 1 ∗ args m c) ∗ (stIdle c 0 ∗ stIdle c 1) ∗ bigSep Finset.univ fun j => bigSep Finset.univ (outDone m c j))).conseq .rfl ?_
  · iintro ⟨⟨HO, HC⟩, HK, HB, HI, HT, HN⟩
    ihave HE := hend $$ [HC HK]
    · isplitl [HC] <;> iassumption
    icases HE with ⟨HP, HS, HR⟩
    isplitl [HO]; · iexact HO
    isplitl [HB]; · iexact HB
    isplitl [HI]; · iexact HI
    isplitl [HP]; · iexact HP
    isplitl [HS HR]; · isplitl [HS] <;> iassumption
    isplitl [HT] <;> iassumption
  isplitl [HO HC]; · isplitl [HO] <;> iassumption
  isplitl [HK HX HY]
  · isplitl [HK]; · iexact HK
    isplitl [HX] <;> iassumption
  isplitl [HB]; · iexact HB
  isplitl [I1 I2 I3 HA]
  · isplitl [I1]; · iexact I1
    isplitl [I2]; · iexact I2
    isplitl [I3] <;> iassumption
  isplitl [HT] <;> iassumption

end Whole

end Cert.KernelIdeal.Ring
-- ==== Proof.Ends.lean ====
module

public import proofs.«01_k».proof.Proof.Whole

/-! What a device starts and ends with: whole buffers, cells and counters. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Ends

variable (m : (ℓ : Loc nD τ sig) → Buf (Elt F) ℓ) (K : Dev nD × C → ℕ) (c : Dev nD)

/-! ## Buffers and their tiles -/

/-- A buffer is the blocks of a grid that covers it, contents aside. -/
theorem grid_eq {s : Shape} {T : Type} [Fintype T] [DecidableEq T] {sp : Space} {e : EltTy} (b : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (ownsX c b : sProp 𝕄) = bigSep Finset.univ fun t => ownsX c (b.slice (r t) (hr t)) :=
  BI.Entails.antisymm (grid_split c b r hr hd hcov) (grid_join c b r hr hd hcov)

/-- A buffer is the same buffer with its axes of size one left out. -/
theorem ownsX_squeeze {sp : Space} {s s' : Shape} {e : EltTy} (b : Memref sig .tc sp s e) (h : s.Squeezes s') :
    (ownsX c b : sProp 𝕄) = ownsX c (b.squeeze s' h) := by
  apply BI.Entails.antisymm
  · show (iprop(∃ X, ownsTc c b fullShare X) : sProp 𝕄) ⊢ iprop(∃ X, ownsTc c (b.squeeze s' h) fullShare X)
    iintro ⟨%X, H⟩
    iexists (sq h X)
    rw [owns_squeeze]; iexact H
  · show (iprop(∃ X, ownsTc c (b.squeeze s' h) fullShare X) : sProp 𝕄) ⊢ iprop(∃ X, ownsTc c b fullShare X)
    iintro ⟨%X, H⟩
    iexists (unsq h X)
    rw [← owns_unsq]; iexact H

/-- A direction's receive buffer is its slots. -/
theorem rb_eq (d : Fin 2) : (ownsX c (Rb d) : sProp 𝕄) = bigSep Finset.univ fun x : Fin 3 × Fin 4 => ownsX c (slot (.inl (d, x))) := by
  rw [grid_eq c (Rb d) zR (fun _ _ => rfl) zR_disj zR_cov]
  exact bigSep_congr fun x _ => ownsX_squeeze c _ squeezes_S1x1x512x512_S512x512
/-- An exchange's buffer is its slots. -/
theorem eb_eq (e : Fin 3) : (ownsX c (Eb e) : sProp 𝕄) = bigSep Finset.univ fun h : Fin 4 => ownsX c (slot (.inr (e, h))) := by
  rw [grid_eq c (Eb e) xR (fun _ _ => rfl) xR_disj xR_cov]
  exact bigSep_congr fun x _ => ownsX_squeeze c _ squeezes_S1x512x512_S512x512
/-- The receive buffers are their slots. -/
theorem slots_eq : (bigSep Finset.univ fun j : J => ownsX c (slot j) : sProp 𝕄)
    = iprop((ownsX c (Rb 0) ∗ ownsX c (Rb 1)) ∗ ownsX c (Eb 0) ∗ ownsX c (Eb 1) ∗ ownsX c (Eb 2)) := by
  rw [bigSep_univ_sum, bigSep_univ_prod, bigSep_univ_prod, bigSep_fin_two, bigSep_three, rb_eq, rb_eq, eb_eq, eb_eq, eb_eq]
  rfl
/-- The staging buffer is its two slots. -/
theorem st_eq : (ownsX c St : sProp 𝕄) = iprop(ownsX c (stSlot 0) ∗ ownsX c (stSlot 1)) := by
  rw [grid_eq c St stR (fun _ _ => rfl) stR_disj stR_cov, bigSep_fin_two, ownsX_squeeze c _ squeezes_S1x512x512_S512x512, ownsX_squeeze c _ squeezes_S1x512x512_S512x512]
  rfl
/-- The first argument's input buffer is its two slots. -/
theorem xs_eq : (ownsX c Xs : sProp 𝕄) = iprop(ownsX c (xsSlot 0) ∗ ownsX c (xsSlot 1)) := by
  rw [grid_eq c Xs inR (fun _ _ => rfl) inR_disj inR_cov, bigSep_fin_two, ownsX_squeeze c _ squeezes_S1x256x2048_S256x2048, ownsX_squeeze c _ squeezes_S1x256x2048_S256x2048]
  rfl
/-- The second argument's input buffer is its two slots. -/
theorem ds_eq : (ownsX c Ds : sProp 𝕄) = iprop(ownsX c (dsSlot 0) ∗ ownsX c (dsSlot 1)) := by
  rw [grid_eq c Ds inR (fun _ _ => rfl) inR_disj inR_cov, bigSep_fin_two, ownsX_squeeze c _ squeezes_S1x256x2048_S256x2048, ownsX_squeeze c _ squeezes_S1x256x2048_S256x2048]
  rfl
/-- The two buffers of converted arguments are their blocks of rows. -/
theorem blank_eq : iprop(ownsX c Xb ∗ ownsX c Db) = (bigSep Finset.univ (inBlank c) : sProp 𝕄) := by
  rw [grid_eq c Xb rowR8 (fun _ _ => rfl) rowR8_disj rowR8_cov, grid_eq c Db rowR8 (fun _ _ => rfl) rowR8_disj rowR8_cov]
  exact (bigSep_sep Finset.univ _ _).symm
/-- The partial product's buffer is its blocks of rows. -/
theorem pb_rows : (ownsX c Pb : sProp 𝕄) = bigSep Finset.univ fun r => ownsX c (Pb.slice (rowP r) (fun _ => rfl)) :=
  grid_eq c Pb rowP (fun _ _ => rfl) rowP_disj rowP_cov
/-- The tiles of the partial product, by column block and row block, are its buffer. -/
theorem pb_tiles : (bigSep Finset.univ fun h => bigSep Finset.univ fun r => ownsX c (pT r h) : sProp 𝕄) = ownsX c Pb := by
  rw [bigSep_univ_comm, grid_eq c Pb pR (fun _ _ => rfl) pR_disj pR_cov, bigSep_univ_prod]
  rfl

/-! ## The arguments and the result -/

/-- A buffer with its contents is the blocks of a grid that covers it, each with its part of the contents. -/
theorem owns_rects_eq {s : Shape} {T : Type} [Fintype T] [DecidableEq T] {sp : Space} {e : EltTy} (b : Memref sig .tc sp s e) (r : T → Rect s) (hr : ∀ t a, (r t).stride a = 1)
    (hd : ∀ t t', t ≠ t' → Disjoint (r t).set (r t').set) (hcov : (Finset.univ : Finset T).biUnion (fun t => (r t).set) = Finset.univ) (X : s.Idx → Elt F e) :
    (ownsTc c b fullShare X : sProp 𝕄) = bigSep Finset.univ fun t => ownsTc c (b.slice (r t) (hr t)) fullShare (fun j => X ((r t).emb j)) :=
  BI.Entails.antisymm (owns_rects (c : Thread nD τ) b fullShare r hr hd hcov X) (owns_of_rects (c : Thread nD τ) b fullShare r hr hd hcov X)

/-- The columns of the second argument that the device does not read. -/
def rest1 : sProp 𝕄 := bigSep Finset.univ fun k : Fin 8 => bigSep (Finset.univ.erase (qc c)) fun q => ownsTc c (A1.slice (aR (k, q)) (fun _ => rfl)) fullShare fun j => in1 m c ((aR (k, q)).emb j)

/-- The two arguments are the blocks the input pipeline reads and the blocks it does not. -/
theorem args_eq : (iprop(ownsTc c A0 fullShare (in0 m c) ∗ ownsTc c A1 fullShare (in1 m c)) : sProp 𝕄) = iprop(bigSep Finset.univ (inSrc m c) ∗ rest1 m c) := by
  have e0 : (ownsTc c A0 fullShare (in0 m c) : sProp 𝕄) = bigSep Finset.univ fun k => ownsTc c (aX k) fullShare (xIn m c k) :=
    owns_rects_eq c A0 rowR8 (fun _ _ => rfl) rowR8_disj rowR8_cov (in0 m c)
  have e1 : (ownsTc c A1 fullShare (in1 m c) : sProp 𝕄) = iprop((bigSep Finset.univ fun k => ownsTc c (aT c k) fullShare (dIn m c k)) ∗ rest1 m c) := by
    rw [owns_rects_eq c A1 aR (fun _ _ => rfl) aR_disj aR_cov (in1 m c), bigSep_univ_prod,
      bigSep_congr (s := Finset.univ) (fun k _ => bigSep_univ_split (qc c))]
    exact bigSep_sep Finset.univ _ _
  have e2 : (bigSep Finset.univ (inSrc m c) : sProp 𝕄) = iprop((bigSep Finset.univ fun k => ownsTc c (aX k) fullShare (xIn m c k)) ∗ bigSep Finset.univ fun k => ownsTc c (aT c k) fullShare (dIn m c k)) :=
    bigSep_sep Finset.univ _ _
  rw [e0, e1, e2]
  apply BI.Entails.antisymm
  · show (iprop((bigSep Finset.univ fun k => ownsTc c (aX k) fullShare (xIn m c k)) ∗ (bigSep Finset.univ fun k => ownsTc c (aT c k) fullShare (dIn m c k)) ∗ rest1 m c) : sProp 𝕄) ⊢ iprop(((bigSep Finset.univ fun k => ownsTc c (aX k) fullShare (xIn m c k)) ∗ (bigSep Finset.univ fun k => ownsTc c (aT c k) fullShare (dIn m c k))) ∗ rest1 m c)
    iintro ⟨H1, H2, H3⟩
    isplitr [H3]; · isplitl [H1] <;> iassumption
    iexact H3
  · show (iprop(((bigSep Finset.univ fun k => ownsTc c (aX k) fullShare (xIn m c k)) ∗ (bigSep Finset.univ fun k => ownsTc c (aT c k) fullShare (dIn m c k))) ∗ rest1 m c) : sProp 𝕄) ⊢ iprop((bigSep Finset.univ fun k => ownsTc c (aX k) fullShare (xIn m c k)) ∗ (bigSep Finset.univ fun k => ownsTc c (aT c k) fullShare (dIn m c k)) ∗ rest1 m c)
    iintro ⟨⟨H1, H2⟩, H3⟩
    isplitl [H1]; · iexact H1
    isplitl [H2] <;> iassumption

/-- The columns of devices, in the order their tiles are written out. -/
def qE : Fin 4 ≃ Fin 4 := Equiv.ofBijective (fun j => qj j c) ⟨fun _ _ h => qj_inj c _ _ h, qj_surj c⟩

/-- The result's buffer, whatever it holds, is its tiles. -/
theorem out_blank : (ownsX c AO : sProp 𝕄) = bigSep Finset.univ fun j => bigSep Finset.univ (outBlank c j) := by
  rw [grid_eq c AO oR' (fun _ _ => rfl) oR'_disj oR'_cov, bigSep_univ_prod, bigSep_univ_equiv (qE c)]
  rfl
/-- The tiles written are the result. -/
theorem out_done : (bigSep Finset.univ fun j => bigSep Finset.univ (outDone m c j)) ⊢ (ownsTc c AO fullShare (outV m c) : sProp 𝕄) := by
  refine Entails.trans (Entails.of_eq ?_) (grid_glue c AO oR' (fun _ _ => rfl) oR'_disj oR'_cov (outT m c))
  rw [bigSep_univ_prod, bigSep_univ_equiv (qE c) (fun q => bigSep Finset.univ fun h => ownsTc c (AO.slice (oR' (q, h)) (fun _ => rfl)) fullShare (outT m c (q, h)))]
  rfl

/-! ## The start -/

/-- The counters of the local copies, at zero. -/
def sems : sProp 𝕄 := iprop((semVal ((c : Thread nD τ), .dma (sgS 0).sem) 0 ∗ semVal ((c : Thread nD τ), .dma (sgS 1).sem) 0)
  ∗ (semVal ((c : Thread nD τ), .dma (inS 0 0).sem) 0 ∗ semVal ((c : Thread nD τ), .dma (inS 1 0).sem) 0)
  ∗ semVal ((c : Thread nD τ), .dma (inS 0 1).sem) 0 ∗ semVal ((c : Thread nD τ), .dma (inS 1 1).sem) 0)
/-- The scratch buffers. -/
def scratch : sProp 𝕄 := iprop((ownsX c Xb ∗ ownsX c Db) ∗ ownsX c Pb ∗ ((ownsX c (Rb 0) ∗ ownsX c (Rb 1)) ∗ ownsX c (Eb 0) ∗ ownsX c (Eb 1) ∗ ownsX c (Eb 2)) ∗ ownsX c St ∗ ownsX c Xs ∗ ownsX c Ds)
/-- The positions at the device's cells, and the tokens of what it pays. -/
def rights : sProp 𝕄 := iprop((atPos ER (barC c) 0 ∅ 0 ∗ bigSep Finset.univ fun b : Fin 4 => dutyTok ER (barC (bto b c)) 0 b)
  ∗ bigSep Finset.univ (skT c) ∗ bigSep Finset.univ fun j : J => atPos ER (recvC c j) 0 ∅ 0)
/-- The credits for what others owe it. -/
def dues : sProp 𝕄 := iprop(cred (tallyAt (barC c) () (k0_amt1 c).toNat) ∗ bigSep Finset.univ fun j : J => if actR j c = true then cred (tallyAt (recvC c j) () N) else iprop(emp))
/-- What takes no part. -/
def spare : sProp 𝕄 := iprop(rest1 m c ∗ bigSep Finset.univ fun j : J => if actR j c = true then iprop(emp) else ownsX c (slot j))

/-- What a device is given at the start is what its program needs, and what the program leaves alone. -/
theorem start_body :
    iprop(rights c ∗ dues c ∗ sems c ∗ scratch c ∗ (ownsTc c A0 fullShare (in0 m c) ∗ ownsTc c A1 fullShare (in1 m c)) ∗ ownsX c AO) ⊢ (iprop(bodyPre m c ∗ spare m c) : sProp 𝕄) := by
  unfold rights dues sems scratch bodyPre spare barIn inIdle stIdle
  rw [args_eq, ← slots_eq, blank_eq, st_eq, xs_eq, ds_eq, pb_rows, out_blank]
  have hl := lend_out (F := F) c
  have hg : iprop((bigSep Finset.univ fun b : Fin 4 => dutyTok ER (barC (bto b c)) 0 b) ∗ bigSep Finset.univ fun b : Fin 4 => lends b (bto b c) c) = (bigSep Finset.univ (giv c) : sProp 𝕄) :=
    (bigSep_sep Finset.univ _ _).symm
  have hr : iprop((bigSep Finset.univ fun j : J => if actR j c = true then cred (tallyAt (recvC c j) () N) else iprop(emp)) ∗ bigSep Finset.univ fun j : J => atPos ER (recvC c j) 0 ∅ 0) = (bigSep Finset.univ (rk0 c) : sProp 𝕄) :=
    (bigSep_sep Finset.univ _ _).symm
  rw [← hg, ← hr]
  iintro ⟨⟨⟨Ha, Hb⟩, HS, HR⟩, ⟨Hc, Hd⟩, ⟨⟨s0, s1⟩, ⟨i00, i10⟩, i01, i11⟩, ⟨HX, HP, HJ, ⟨St0, St1⟩, ⟨X0, X1⟩, D0, D1⟩, ⟨Hin, Hrest⟩, HO⟩
  ihave HJ := hl $$ HJ
  icases HJ with ⟨HJ, HU⟩
  isplitr [Hrest HU]
  · isplitl [Ha Hb Hc HJ]
    · isplitl [Hb HJ]; · isplitl [Hb] <;> iassumption
      isplitl [Hc] <;> iassumption
    isplitl [Hin X0 X1 D0 D1 i00 i10 i01 i11 HX]
    · isplitl [Hin]; · iexact Hin
      isplitl [X0 i00 D0 i10]
      · isplitl [X0]; · iexact X0
        isplitl [i00]; · iexact i00
        isplitl [D0] <;> iassumption
      isplitl [X1 i01 D1 i11]
      · isplitl [X1]; · iexact X1
        isplitl [i01]; · iexact i01
        isplitl [D1] <;> iassumption
      iexact HX
    isplitl [HP]; · iexact HP
    isplitl [HS HR Hd]
    · isplitl [HS]; · iexact HS
      isplitl [Hd] <;> iassumption
    isplitl [St0 St1 s0 s1]
    · isplitl [St0 s0]; · isplitl [St0] <;> iassumption
      isplitl [St1] <;> iassumption
    iexact HO
  isplitl [Hrest] <;> iassumption

/-! ## The end -/

/-- A fact that stays true may be used for each member of a separate family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The counters of the device's cells, at zero. -/
def zeros : sProp 𝕄 := iprop(semVal (barC c) 0 ∗ (bigSep Finset.univ fun j => semVal (sendC c j) 0) ∗ bigSep Finset.univ fun j => semVal (recvC c j) 0)

/-- A cell has no duties after its only round, and none at all if it is not used. -/
theorem idle_rounds (k : C) (p : Prop) [Decidable p] (h : ¬ p → dutiesK c k = ∅) : ∀ r', (if p then 1 else 0) ≤ r' → (Rd m).duties (kcell c k) r' = ∅ := by
  by_cases hp : p
  · rw [if_pos hp]; exact duties_later m _
  · rw [if_neg hp]; exact duties_idle m c k (h hp)

/-- When every cell's round is over, every counter is back, at zero. -/
theorem close_all :
    iprop(Inv m K ∗ atPos ER (barC c) 1 ∅ 0 ∗ bigSep Finset.univ (sk2 c) ∗ bigSep Finset.univ fun j : J => atPos ER (recvC c j) (if actR j c = true then 1 else 0) ∅ 0)
      ⊢ (|={Set.univ}=> zeros c : sProp 𝕄) := by
  have h1 : iprop(Inv m K ∗ bigSep Finset.univ (sk2 c)) ⊢ (|={Set.univ}=> bigSep Finset.univ fun j => semVal (sendC c j) 0 : sProp 𝕄) :=
    (bigSep_with fun j _ => close_cell m K c (some (false, j)) (if act j c = true then 1 else 0)
      (idle_rounds m c _ (act j c = true) fun h => if_neg h)).trans (bigSep_fupd _ _)
  have h2 : iprop(Inv m K ∗ bigSep Finset.univ fun j : J => atPos ER (recvC c j) (if actR j c = true then 1 else 0) ∅ 0) ⊢ (|={Set.univ}=> bigSep Finset.univ fun j => semVal (recvC c j) 0 : sProp 𝕄) :=
    (bigSep_with fun j _ => close_cell m K c (some (true, j)) (if actR j c = true then 1 else 0)
      (idle_rounds m c _ (actR j c = true) fun h => if_neg h)).trans (bigSep_fupd _ _)
  have h3 := close_cell m K c none 1 (duties_later m _)
  unfold zeros
  iintro ⟨#HI, Hb, Hs, Hr⟩
  imod h3 $$ [Hb] with Hb
  · isplitr; · iexact HI
    iexact Hb
  imod h1 $$ [Hs] with Hs
  · isplitr; · iexact HI
    iexact Hs
  imod h2 $$ [Hr] with Hr
  · isplitr; · iexact HI
    iexact Hr
  imodintro
  isplitl [Hb]; · iexact Hb
  isplitl [Hs] <;> iassumption

/-- Every slot is back, those received in and those not lent. -/
theorem slots_back : iprop((bigSep Finset.univ fun j : J => if actR j c = true then ownsX c (slot j) else iprop(emp)) ∗ bigSep Finset.univ fun j : J => if actR j c = true then iprop(emp) else ownsX c (slot j))
    ⊢ (bigSep Finset.univ fun j : J => ownsX c (slot j) : sProp 𝕄) := by
  refine BIBase.Entails.trans (Entails.of_eq (bigSep_sep Finset.univ _ _).symm) (bigSep_mono fun j _ => ?_)
  show iprop((if actR j c = true then ownsX c (slot j) else iprop(emp)) ∗ (if actR j c = true then iprop(emp) else ownsX c (slot j))) ⊢ (ownsX c (slot j) : sProp 𝕄)
  by_cases h : actR j c = true
  · rw [if_pos h, if_pos h]
    iintro ⟨H, -⟩; iexact H
  · rw [if_neg h, if_neg h]
    iintro ⟨-, H⟩; iexact H

/-- What the program ends with, and what it left alone, is what a device must give back, with the result written. -/
theorem end_body :
    iprop(Inv m K ∗ bodyPost m c ∗ spare m c)
      ⊢ (|={Set.univ}=> iprop(zeros c ∗ sems c ∗ scratch c ∗ (ownsTc c A0 fullShare (in0 m c) ∗ ownsTc c A1 fullShare (in1 m c)) ∗ ownsTc c AO fullShare (outV m c)) : sProp 𝕄) := by
  unfold sems scratch bodyPost spare inIdle stIdle args
  rw [args_eq, ← slots_eq, st_eq, xs_eq, ds_eq, pb_tiles]
  have hc := close_all m K c
  have hb := slots_back (F := F) c
  have ho := out_done m c
  have hr : (bigSep Finset.univ (rk1 c) : sProp 𝕄) = iprop((bigSep Finset.univ fun j : J => atPos ER (recvC c j) (if actR j c = true then 1 else 0) ∅ 0)
      ∗ bigSep Finset.univ fun j : J => if actR j c = true then ownsX c (slot j) else iprop(emp)) := bigSep_sep Finset.univ _ _
  rw [hr]
  iintro ⟨#HI, ⟨Ha, ⟨Hin, ⟨X0, i00, D0, i10⟩, ⟨X1, i01, D1, i11⟩, HX, HD⟩, HP, ⟨HS, HR, HJ⟩, ⟨⟨St0, s0⟩, St1, s1⟩, HO⟩, Hrest, HU⟩
  imod hc $$ [Ha HS HR] with Hz
  · isplitr; · iexact HI
    isplitl [Ha]; · iexact Ha
    isplitl [HS] <;> iassumption
  ihave HJ := hb $$ [HJ HU]
  · isplitl [HJ] <;> iassumption
  ihave HO := ho $$ HO
  imodintro
  isplitl [Hz]; · iexact Hz
  isplitl [s0 s1 i00 i01 i10 i11]
  · isplitl [s0 s1]; · isplitl [s0] <;> iassumption
    isplitl [i00 i10]; · isplitl [i00] <;> iassumption
    isplitl [i01] <;> iassumption
  isplitl [HX HD HP HJ St0 St1 X0 X1 D0 D1]
  · isplitl [HX HD]
    · isplitl [HX]
      · iexists _; iexact HX
      iexists _; iexact HD
    isplitl [HP]; · iexact HP
    isplitl [HJ]; · iexact HJ
    isplitl [St0 St1]; · isplitl [St0] <;> iassumption
    isplitl [X0 X1]; · isplitl [X0] <;> iassumption
    isplitl [D0] <;> iassumption
  isplitl [Hin Hrest]; · isplitl [Hin] <;> iassumption
  iexact HO

end Ends

end Cert.KernelIdeal.Ring
-- ==== Proof.Start.lean ====
module

public import proofs.«01_k».proof.Proof.Ends

/-! The launch: the cells' set-up, the credits, and the region's data. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation cellOf)

/-! ## The semaphores -/

/-- The cells' names, enumerated. -/
def eC : Unit ⊕ (J ⊕ J) ≃ C where
  toFun | .inl _ => none | .inr (.inl j) => some (false, j) | .inr (.inr j) => some (true, j)
  invFun | none => .inl () | some (false, j) => .inr (.inl j) | some (true, j) => .inr (.inr j)
  left_inv := by rintro (_ | _ | _) <;> rfl
  right_inv := by rintro (_ | ⟨_ | _, _⟩) <;> rfl

/-- Something for each cell of a device: the barrier's, the sending cells' and the receiving cells'. -/
theorem bigSep_C (Φ : C → sProp 𝕄) : bigSep Finset.univ Φ
    = iprop(Φ none ∗ (bigSep Finset.univ fun j => Φ (some (false, j))) ∗ bigSep Finset.univ fun j => Φ (some (true, j))) := by
  rw [bigSep_univ_equiv eC, bigSep_univ_sum, bigSep_univ_sum, show (Finset.univ : Finset Unit) = {()} from rfl, bigSep_singleton]
  rfl

/-- The kernel's own semaphores: of the remote copies, of the output copies and of the input copies. -/
abbrev OS : Type := (J ⊕ J) ⊕ (Fin 2 ⊕ (Fin 2 × Fin 2))
def osem : OS → SemLoc sig
  | .inl (.inl j) => csem (some (false, j))
  | .inl (.inr j) => csem (some (true, j))
  | .inr (.inl p) => .dma (sgS p).sem
  | .inr (.inr (p, b)) => .dma (inS b p).sem
/-- The listed semaphores are the region's own. -/
theorem ownSemFacts : Pipeline.OwnSemFacts cfg0.spec osem := by decide +kernel

abbrev ownS (c : Dev nD) : sProp 𝕄 := Pipeline.ownSems0 (Ix := Unit) (Name := ℕ) (U := UU) (Lvl := ℕ) (Val := Elt F) (τ := τ) osem c

/-- The only semaphore outside the region is the barrier's. -/
theorem unscopedSems0_eq (c : Dev nD) : (unscopedSems0 c : sProp 𝕄) = semVal (barC c) 0 := by
  unfold unscopedSems0; rw [bigSep_eq_bigSepL_of_eq [SemLoc.reg barS.sem] (by decide) (by decide)]; rfl
/-- The region's own semaphores are the sending and receiving cells' and those of the local copies. -/
theorem ownSems0_eq (c : Dev nD) : (ownS c : sProp 𝕄)
    = iprop(((bigSep Finset.univ fun j => semVal (sendC c j) 0) ∗ bigSep Finset.univ fun j => semVal (recvC c j) 0) ∗ sems c) := by
  unfold ownS Pipeline.ownSems0 sems
  rw [bigSep_univ_sum, bigSep_univ_sum (fun a : J ⊕ J => semVal ((c : Thread nD τ), osem (.inl a)) 0), bigSep_univ_sum (fun a : Fin 2 ⊕ (Fin 2 × Fin 2) => semVal ((c : Thread nD τ), osem (.inr a)) 0),
    bigSep_fin_two, bigSep_univ_prod, bigSep_fin_two, bigSep_fin_two, bigSep_fin_two]
  rfl
/-- The counters at zero, cell by cell. -/
theorem zeros_eq (c : Dev nD) : (zeros c : sProp 𝕄) = bigSep Finset.univ fun k => semVal (kcell c k) 0 := by
  rw [bigSep_C]; rfl

/-! ## The cells -/

/-- Different cells are at different places. -/
theorem kcell_injective : Function.Injective (fun p : Dev nD × C => kcell p.1 p.2) := by
  rintro ⟨c, k⟩ ⟨c', k'⟩ h
  have h1 : c = c' := congrArg (fun g : GSem nD τ sig => g.1.1) h
  have h2 : csem k = csem k' := congrArg Prod.snd h
  rw [h1, csem_inj h2]
def cells : Finset (GSem nD τ sig) := Finset.univ.map ⟨_, kcell_injective⟩

/-- The duties of a device's own cells. -/
abbrev TK : Type := Fin 4 ⊕ (J ⊕ J)
def tk : TK → C × Fin 4
  | .inl b => (none, b)
  | .inr (.inl j) => (some (false, j), 0)
  | .inr (.inr j) => (some (true, j), 0)
/-- Different duties of a device are at different places of its cells. -/
theorem tk_inj : Function.Injective tk := by unfold Function.Injective; decide +kernel
def tokOf (p : Dev nD × TK) : GSem nD τ sig × ℕ × Fin 4 := (kcell p.1 (tk p.2).1, 0, (tk p.2).2)
/-- Different duties have different tokens. -/
theorem tokOf_injective : Function.Injective tokOf := by
  rintro ⟨c, i⟩ ⟨c', i'⟩ h
  have h1 : (c, (tk i).1) = (c', (tk i').1) := kcell_injective (congrArg Prod.fst h)
  have h2 : (tk i).2 = (tk i').2 := congrArg (fun x : GSem nD τ sig × ℕ × Fin 4 => x.2.2) h
  have h3 : i = i' := tk_inj (Prod.ext (congrArg Prod.snd h1) h2)
  rw [show c = c' from congrArg Prod.fst h1, h3]
def tokens : Finset (GSem nD τ sig × ℕ × Fin 4) := Finset.univ.map ⟨tokOf, tokOf_injective⟩

def u₀ : UU := (initOf (Pipeline.cells cfgs cellOf_inj) (Pipeline.launchToks cfgs cellOf_inj), (initOf cells tokens, 1))

section Run

variable (m : (ℓ : Loc nD τ sig) → Buf (Elt F) ℓ) (ρ : Dev nD → PrngReg)

def s₀ : MemSt nD τ sig (Elt F) := ⟨m, fun _ => 0, ρ⟩

/-- The tokens of a device's own cells. -/
def toks (c : Dev nD) : sProp 𝕄 :=
  iprop((bigSep Finset.univ fun b : Fin 4 => dutyTok ER (barC c) 0 b) ∗ (bigSep Finset.univ fun j => dutyTok ER (sendC c j) 0 0) ∗ bigSep Finset.univ fun j => dutyTok ER (recvC c j) 0 0)

def G (c : Dev nD) : sProp 𝕄 :=
  iprop((bigSep Finset.univ fun k : C => roundState ER (Rd m) (kcell c k) 0)
    ∗ (bigSep Finset.univ fun k : C => atPos ER (kcell c k) 0 ∅ 0) ∗ (bigSep Finset.univ fun k : C => reached ER (kcell c k) 0) ∗ toks c)

/-- The ghost state of the cells gives each device its cells' states, positions and tokens. -/
theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : C => Φ (kcell c k) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by rw [bigSep_univ_sum, bigSep_univ_sum]; rfl
  have hG : (bigSep Finset.univ (G m) : sProp 𝕄) = iprop((bigSep Finset.univ fun c : Dev nD => bigSep Finset.univ fun k : C => roundState ER (Rd m) (kcell c k) 0)
      ∗ (bigSep Finset.univ fun c : Dev nD => bigSep Finset.univ fun k : C => atPos ER (kcell c k) 0 ∅ 0)
      ∗ (bigSep Finset.univ fun c : Dev nD => bigSep Finset.univ fun k : C => reached ER (kcell c k) 0) ∗ bigSep Finset.univ fun c : Dev nD => toks c) := by
    unfold G; rw [bigSep_sep', bigSep_sep', bigSep_sep']
  rw [hG]
  iintro HX
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]; · iexact Hst
  isplitl [Hat]; · iexact Hat
  isplitl [Hr] <;> iassumption

/-! ## Every cell's invariant -/

/-- What a device has when its cells are shared. -/
def own1 (c : Dev nD) : sProp 𝕄 :=
  iprop((bigSep Finset.univ fun k : C => iprop(∃ κ : ℕ, cellInv ER (Rd m) κ (kcell c k)))
    ∗ (bigSep Finset.univ fun k : C => reached ER (kcell c k) 0)
    ∗ (bigSep Finset.univ fun k : C => atPos ER (kcell c k) 0 ∅ 0) ∗ toks c ∗ sems c)

/-- A device's counters at zero, with its cells' states, become its cells' invariants. -/
theorem core_alloc (c : Dev nD) : iprop(ownS c ∗ unscopedSems0 c ∗ G m c) ⊢ (|={Set.univ}=> own1 m c : sProp 𝕄) := by
  have ha : iprop((bigSep Finset.univ fun k : C => semVal (kcell c k) 0) ∗ bigSep Finset.univ fun k : C => roundState ER (Rd m) (kcell c k) 0)
      ⊢ (|={Set.univ}=> bigSep Finset.univ fun k : C => iprop(∃ κ : ℕ, cellInv ER (Rd m) κ (kcell c k)) : sProp 𝕄) := by
    rw [← bigSep_sep']
    exact (bigSep_mono fun k _ => (Rounds.body_intro ER (Rd m) (kcell c k)).trans inv_alloc).trans (bigSep_fupd _ _)
  rw [← zeros_eq] at ha
  rw [ownSems0_eq, unscopedSems0_eq]
  unfold G own1
  iintro ⟨⟨⟨Hs, Hr⟩, Hl⟩, Hb, Hst, Hat, Hre, Htok⟩
  imod ha $$ [Hs Hr Hb Hst] with HI
  · isplitr [Hst]
    · unfold zeros
      isplitl [Hb]; · iexact Hb
      isplitl [Hs] <;> iassumption
    iexact Hst
  imodintro
  isplitl [HI]; · iexact HI
  isplitl [Hre]; · iexact Hre
  isplitl [Hat]; · iexact Hat
  isplitl [Htok] <;> iassumption

/-- The shared facts. -/
def recs (K : Dev nD × C → ℕ) : sProp 𝕄 :=
  iprop((bigSep Finset.univ fun p : Dev nD × C => cellInv ER (Rd m) (K p) (kcell p.1 p.2))
    ∗ bigSep Finset.univ fun p : Dev nD × C => reached ER (kcell p.1 p.2) 0)
instance recs_persistent (K : Dev nD × C → ℕ) : BI.Persistent (recs m K) := by unfold recs; infer_instance

/-- What the shared set-up gives a device. -/
def G' (c : Dev nD) : sProp 𝕄 := iprop(∃ K, recs m K ∗ rights c ∗ sems c)

/-- The tokens a device pays with. -/
def payToks (c : Dev nD) : sProp 𝕄 :=
  iprop((bigSep Finset.univ fun b : Fin 4 => dutyTok ER (barC (bto b c)) 0 b) ∗ (bigSep Finset.univ fun j => dutyTok ER (sendC c j) 0 0) ∗ bigSep Finset.univ fun j => dutyTok ER (recvC (dst j c) j) 0 0)

/-- Each token goes to the device that pays with it. -/
theorem toks_around : (bigSep Finset.univ fun c : Dev nD => (toks c : sProp 𝕄)) = bigSep Finset.univ fun c : Dev nD => payToks c := by
  have hb : (bigSep Finset.univ fun c : Dev nD => bigSep Finset.univ fun b : Fin 4 => (dutyTok ER (barC c) 0 b : sProp 𝕄))
      = bigSep Finset.univ fun c : Dev nD => bigSep Finset.univ fun b : Fin 4 => dutyTok ER (barC (bto b c)) 0 b := by
    rw [bigSep_univ_comm, bigSep_univ_comm (fun c b => dutyTok ER (barC (bto b c)) 0 b)]
    exact bigSep_congr fun b _ => bigSep_univ_equiv (bto b) fun c => dutyTok ER (barC c) 0 b
  have hr : (bigSep Finset.univ fun c : Dev nD => bigSep Finset.univ fun j : J => (dutyTok ER (recvC c j) 0 0 : sProp 𝕄))
      = bigSep Finset.univ fun c : Dev nD => bigSep Finset.univ fun j : J => dutyTok ER (recvC (dst j c) j) 0 0 := by
    rw [bigSep_univ_comm, bigSep_univ_comm (fun c j => dutyTok ER (recvC (dst j c) j) 0 0)]
    exact bigSep_congr fun j _ => bigSep_univ_equiv (dst j) fun c => dutyTok ER (recvC c j) 0 0
  unfold toks payToks
  rw [bigSep_sep', bigSep_sep', bigSep_sep', bigSep_sep', hb, hr]

/-- The shared facts, a device's positions and the tokens it pays with are what the set-up gives it. -/
theorem G'_intro (K : Dev nD × C → ℕ) (c : Dev nD) :
    iprop(recs m K ∗ (bigSep Finset.univ fun k : C => atPos ER (kcell c k) 0 ∅ 0) ∗ payToks c ∗ sems c) ⊢ (G' m c : sProp 𝕄) := by
  have hs : (bigSep Finset.univ (skT c) : sProp 𝕄) = iprop(((bigSep Finset.univ fun j => dutyTok ER (sendC c j) 0 0) ∗ bigSep Finset.univ fun j => dutyTok ER (recvC (dst j c) j) 0 0)
      ∗ bigSep Finset.univ fun j => atPos ER (sendC c j) 0 ∅ 0) := by
    unfold skT; rw [bigSep_sep', bigSep_sep']
  rw [bigSep_C]
  unfold G' rights payToks
  rw [hs]
  iintro ⟨HR, ⟨Ha, Hb, Hc⟩, ⟨Ht, Hs, Hr⟩, Hl⟩
  iexists K
  isplitl [HR]; · iexact HR
  isplitr [Hl]
  · isplitl [Ha Ht]; · isplitl [Ha] <;> iassumption
    isplitl [Hs Hr Hb]
    · isplitl [Hs Hr]; · isplitl [Hs] <;> iassumption
      iexact Hb
    iexact Hc
  iexact Hl

/-- With every device's invariants shared and its tokens passed on, each device has what the set-up gives it. -/
theorem regroup : (bigSep Finset.univ (own1 m) : sProp 𝕄) ⊢ bigSep Finset.univ (G' m) := by
  have e : (bigSep Finset.univ (own1 m) : sProp 𝕄) = iprop((bigSep Finset.univ fun p : Dev nD × C => iprop(∃ κ : ℕ, cellInv ER (Rd m) κ (kcell p.1 p.2)))
      ∗ (bigSep Finset.univ fun p : Dev nD × C => reached ER (kcell p.1 p.2) 0)
      ∗ (bigSep Finset.univ fun c : Dev nD => bigSep Finset.univ fun k : C => atPos ER (kcell c k) 0 ∅ 0)
      ∗ (bigSep Finset.univ fun c : Dev nD => payToks c) ∗ bigSep Finset.univ fun c : Dev nD => sems c) := by
    unfold own1
    rw [bigSep_sep', bigSep_sep', bigSep_sep', bigSep_sep', toks_around, bigSep_univ_prod, bigSep_univ_prod]
  rw [e]
  iintro ⟨HI, #HR, Hat, Htok, Hl⟩
  ihave HK := (BI.bigSep_exists_pi Finset.univ (fun (p : Dev nD × C) (κ : ℕ) => (cellInv ER (Rd m) κ (kcell p.1 p.2) : sProp 𝕄))) $$ HI
  icases HK with ⟨%K, #HI⟩
  iapply (bigSep_with (R := recs m K) fun c _ => G'_intro m K c)
  isplitr
  · unfold recs; isplitl; · iexact HI
    iexact HR
  rw [bigSep_sep', bigSep_sep']
  isplitl [Hat]; · iexact Hat
  isplitl [Htok] <;> iassumption

/-- The set-up: from counters at zero and the cells' states to what each device starts with. -/
theorem glob : (bigSep Finset.univ fun c => iprop(ownS c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

/-- If devices owe a cell of the device that a permutation names, when a condition holds, the credit is there when it holds. -/
theorem cond_cred (f : Dev nD ≃ Dev nD) (p : Dev nD → Bool) (k : C) (n : ℕ) (c : Dev nD) :
    (Pipeline.launchCred (fun d => if p d = true then tallyAt (kcell (f d) k) () n else 0) c : sProp 𝕄)
      ⊢ cred (if p (f.symm c) = true then tallyAt (kcell c k) () n else 0) := by
  refine (Pipeline.launchCred_elim _ c (csem k)).trans (Entails.of_eq (congrArg cred ?_))
  rw [Pipeline.tallyOn_launchCredit_owing, Finset.sum_apply,
    Finset.sum_eq_single (f.symm c) (fun d _ hd => ?_) (fun h => absurd (Finset.mem_univ _) h), Equiv.apply_symm_apply]
  · split
    · unfold tallyAt; refine congrArg _ ?_; unfold tallyOn; rw [Pi.single_eq_same]
    · exact tallyOn_zero _
  · split
    · exact tallyAt_ne_cell (fun h => hd (by
        have h3 : c = f d := congrArg (fun g : GSem nD τ sig => g.1.1) h
        rw [h3, Equiv.symm_apply_apply])) () n
    · rfl

/-- One unit under each of four conditions is as many units as conditions hold. -/
theorem sum_units (g : GSem nD τ sig) (p : Fin 4 → Bool) :
    (∑ b : Fin 4, if p b = true then (tallyAt g () 1 : CellTallies nD τ sig Unit) else 0) = tallyAt g () (∑ b : Fin 4, if p b = true then 1 else 0) := by
  have e : ∀ b, (if p b = true then (tallyAt g () 1 : CellTallies nD τ sig Unit) else 0) = tallyAt g () (if p b = true then 1 else 0) := fun b => by
    split
    · rfl
    · exact (tallyAt_zero _ _).symm
  rw [Fin.sum_univ_four, Fin.sum_univ_four, e, e, e, e, tallyAt_add, tallyAt_add, tallyAt_add]

/-- The credits of the launch are those for a device's barrier and for each copy it receives. -/
theorem creds (c : Dev nD) : (Pipeline.launchCred (fun d => O d 0) c : sProp 𝕄) ⊢ dues c := by
  have e : (fun d : Dev nD => O d 0) = fun d => ∑ i ∈ (Finset.univ : Finset (Fin 4 ⊕ J)), oi d i := by
    funext d; unfold O; rw [Finset.filter_true_of_mem fun i _ => Nat.zero_le _]
  have hb : (bigSep Finset.univ fun b : Fin 4 => Pipeline.launchCred (fun d => oi d (.inl b)) c : sProp 𝕄) ⊢ cred (tallyAt (barC c) () (k0_amt1 c).toNat) := by
    rw [amt_eq, ← sum_units (barC c) fun b => bact b ((bto b).symm c), Pipeline.cred_finsetSum]
    exact bigSep_mono fun b _ => cond_cred (bto b) (bact b) none 1 c
  have hr : (bigSep Finset.univ fun j : J => Pipeline.launchCred (fun d => oi d (.inr j)) c : sProp 𝕄)
      ⊢ bigSep Finset.univ fun j : J => if actR j c = true then cred (tallyAt (recvC c j) () N) else iprop(emp) :=
    bigSep_mono fun j _ => (cond_cred (dst j) (act j) (some (true, j)) N c).trans (Entails.of_eq (by
      show (cred (if actR j c = true then tallyAt (recvC c j) () N else 0) : sProp 𝕄) = _
      split
      · rfl
      · exact cred_zero))
  rw [e, Pipeline.launchCred_sum, bigSep_univ_sum]
  unfold dues
  show (iprop((bigSep Finset.univ fun b : Fin 4 => Pipeline.launchCred (fun d => oi d (.inl b)) c) ∗ bigSep Finset.univ fun j : J => Pipeline.launchCred (fun d => oi d (.inr j)) c) : sProp 𝕄) ⊢ _
  iintro ⟨H1, H2⟩
  isplitl [H1]; · iapply hb $$ H1
  iapply hr $$ H2

/-! ## The region -/

/-- The result and the arguments, whole. -/
def hbm (c : Dev nD) : sProp 𝕄 :=
  iprop((ownsTc c A0 fullShare (in0 m c) ∗ ownsTc c A1 fullShare (in1 m c)) ∗ ownsX c AO)
def start (c : Dev nD) : sProp 𝕄 :=
  iprop((∃ K, Inv m K ∗ rights c ∗ sems c) ∗ dues c ∗ hbm m c)
def Φ₀ (c : Dev nD) : sProp 𝕄 := iprop(start m c ∗ scratch c)
def Φ₁ (c : Dev nD) : sProp 𝕄 :=
  iprop(zeros c ∗ sems c ∗ scratch c ∗ (ownsTc c A0 fullShare (in0 m c) ∗ ownsTc c A1 fullShare (in1 m c)) ∗ ownsTc c AO fullShare (outV m c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O c 0
    | ⟨_ + 1, _⟩ => 0

/-- Eleven parts, grouped as the scratch buffers are. -/
theorem regroup11 (A B C D E G H I J' K' L' : sProp 𝕄) :
    iprop(A ∗ B ∗ C ∗ D ∗ E ∗ G ∗ H ∗ I ∗ J' ∗ K' ∗ L') = iprop((A ∗ B) ∗ C ∗ ((D ∗ E) ∗ G ∗ H ∗ I) ∗ J' ∗ K' ∗ L') := by
  apply BI.Entails.antisymm
  · show (iprop(A ∗ B ∗ C ∗ D ∗ E ∗ G ∗ H ∗ I ∗ J' ∗ K' ∗ L') : sProp 𝕄) ⊢ iprop((A ∗ B) ∗ C ∗ ((D ∗ E) ∗ G ∗ H ∗ I) ∗ J' ∗ K' ∗ L')
    iintro ⟨H0, H1, H2, H3, H4, H5, H6, H7, H8, H9, H10⟩
    isplitl [H0 H1]; · isplitl [H0] <;> iassumption
    isplitl [H2]; · iexact H2
    isplitl [H3 H4 H5 H6 H7]
    · isplitl [H3 H4]; · isplitl [H3] <;> iassumption
      isplitl [H5]; · iexact H5
      isplitl [H6] <;> iassumption
    isplitl [H8]; · iexact H8
    isplitl [H9] <;> iassumption
  · show (iprop((A ∗ B) ∗ C ∗ ((D ∗ E) ∗ G ∗ H ∗ I) ∗ J' ∗ K' ∗ L') : sProp 𝕄) ⊢ iprop(A ∗ B ∗ C ∗ D ∗ E ∗ G ∗ H ∗ I ∗ J' ∗ K' ∗ L')
    iintro ⟨⟨H0, H1⟩, H2, ⟨⟨H3, H4⟩, H5, H6, H7⟩, H8, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
/-- The region's remaining buffers are the scratch buffers. -/
theorem scopedRest_eq (c : Dev nD) : (Pipeline.scopedRest cfg0.spec c : sProp 𝕄) = scratch c := by
  rw [scopedRest0_eq]
  have hw : ∀ b : Ref sig .tc, (iprop(∃ f : Buf (Elt F) ((c : Thread nD τ).loc b), ((c : Thread nD τ).loc b) ↦{fullShare} f) : sProp 𝕄) = ownsX c (Memref.whole b) := fun b => by
    unfold ownsX ownsTc; simp only [owns_whole]
  rw [hw, hw, hw, hw, hw, hw, hw, hw, hw, hw, hw]
  exact regroup11 _ _ _ _ _ _ _ _ _ _ _

/-- A run, and then an update. -/
theorem tr_run {c : Dev nD} {α : Type} {A B Q : sProp 𝕄} {p : P F α} {v : α} (h : Tr c A p v B) :
    A ⊢ iprop((B -∗ |={Set.univ}=> Q) -∗ wpK c p fun _ => Q) := by
  refine h.trans ((wp_wand _ _ _ (Q' := fun _ => iprop(|={Set.univ}=> Q))).trans ?_)
  iintro Hw Hk
  iapply (wp_fupd frame (wpE (defs₀ (F := F)) 𝒱₀ (c : Thread nD τ) none) Set.univ p fun _ => Q)
  iapply Hw
  iintro %a ⟨-, HB⟩
  iapply Hk $$ HB

/-- The body, from what the launch gives to what it takes back. -/
theorem body_run (c : Dev nD) (K : Dev nD × C → ℕ) (W : Finset (SemLoc sig × Unit)) :
    iprop(Inv m K ∗ owes (c : Thread nD τ) (O c 0) W ∗ rights c ∗ sems c ∗ dues c ∗ hbm m c ∗ scratch c)
      ⊢ (wpK c (prog (F := F) c) fun _ => iprop(Φ₁ m c ∗ ∃ W', owes (c : Thread nD τ) 0 W') : sProp 𝕄) := by
  have h := tr_prog m K c
  have hs := start_body m c
  have he := end_body m K c
  generalize prog (F := F) c = p at h ⊢
  have hw := tr_run h (Q := iprop(Φ₁ m c ∗ ∃ W', owes (c : Thread nD τ) 0 W'))
  unfold hbm
  iintro ⟨#HI, HO, Hr, Hs, Hd, ⟨Hin, Hout⟩, Hsc⟩
  ihave HB := hs $$ [Hr Hs Hd Hin Hout Hsc]
  · isplitl [Hr]; · iexact Hr
    isplitl [Hd]; · iexact Hd
    isplitl [Hs]; · iexact Hs
    isplitl [Hsc]; · iexact Hsc
    isplitl [Hin] <;> iassumption
  icases HB with ⟨HB, Hsp⟩
  iapply hw $$ [HO HB]
  · isplitr [HB]
    · unfold Ow
      isplitr; · iexact HI
      iexists W; iexact HO
    iexact HB
  iintro ⟨HO, HB⟩
  imod he $$ [HB Hsp] with HF
  · isplitr; · iexact HI
    isplitl [HB] <;> iassumption
  imodintro
  isplitl [HF]; · unfold Φ₁; iexact HF
  unfold Ow
  rw [O_end]
  icases HO with ⟨-, HO⟩
  iexact HO

end Run

end Cert.KernelIdeal.Ring
-- ==== Proof.Main.lean ====
module

public import proofs.«01_k».proof.Proof.Start
public import Idealize.ShloMosaic.Lib.Pipeline.CollectiveSegs

/-! The run of the whole program. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg Window BodyObligation cellOf)

section Run

variable (m : (ℓ : Loc nD τ sig) → Buf (Elt F) ℓ) (ρ : Dev nD → PrngReg)

/-- No windows: nothing besides. -/
theorem no_windows (Φ : Fin 0 → sProp 𝕄) : bigSep Finset.univ Φ = iprop(emp) := rfl

/-- A fact about the program of device `c` is one about the printed body, which asks for its device first. -/
theorem body_dev (c : Dev nD) (t : Fin cfg0.N) (A : sProp 𝕄) (Q : PUnit → sProp 𝕄) (h : A ⊢ wpK c (prog (F := F) c) Q) :
    A ⊢ wpK c (bodyAt0 (F := F) t) Q := by
  rw [body_eq]
  generalize hp : (fun c => prog (F := F) c) = p
  have h' : A ⊢ wpK c (p c) Q := by rw [← hp]; exact h
  exact h'.trans (Entails.of_eq (wp_deviceId (k := p) 𝒱₀ (c : Thread nD τ) none Set.univ).symm)

/-- The region runs the printed body. -/
theorem body_def (t : Fin cfg0.N) : defs₀ (F := F) .tc cfg0.body (cfg0.bodyArgs t (cfg0.slots t)) = bodyAt0 t := rfl
/-- Before the region's only step, a device has what it starts with. -/
theorem phi_first (c : Dev nD) : (dats m 0 c).Φ (t0_0 : Fin cfg0.N).castSucc = Φ₀ m c := rfl
/-- After it, a device has what it ends with. -/
theorem phi_last (c : Dev nD) : (dats m 0 c).Φ (t0_0 : Fin cfg0.N).succ = Φ₁ m c := rfl

/-- The region's body, on every device. -/
theorem body_obligation (c : Dev nD) : BodyObligation (dats (F := F) m 0 c) (defs₀ (F := F)) 𝒱₀ () Set.univ := fun t => by
  rw [fin_N0 t]
  rw [body_def, phi_first, phi_last, no_windows, no_windows]
  refine body_dev c _ _ _ ?_
  have h := body_run m c
  generalize prog (F := F) c = p at h ⊢
  have hm : (wpK c p (fun _ => iprop(Φ₁ m c ∗ ∃ W', owes (c : Thread nD τ) 0 W')) : sProp 𝕄)
      ⊢ wpK c p (fun _ => iprop(Φ₁ m c ∗ (dats m 0 c).owesAt () (t0_0 : Fin cfg0.N).succ ∗ emp)) := by
    refine wp_mono frame (wpE (defs₀ (F := F)) 𝒱₀ (c : Thread nD τ) none) Set.univ fun _ => ?_
    show (iprop(Φ₁ m c ∗ ∃ W', owes (c : Thread nD τ) 0 W') : sProp 𝕄) ⊢ iprop(Φ₁ m c ∗ (dats m 0 c).owesAt () (t0_0 : Fin cfg0.N).succ ∗ emp)
    iintro ⟨HΦ, %W', HO⟩
    isplitl [HΦ]; · iexact HΦ
    isplitl [HO]
    · iexists W'
      isplitr; · ipureintro; exact fun _ _ => Or.inl trivial
      iexact HO
    iempintro
  unfold Φ₀ start
  iintro ⟨⟨⟨⟨%K, HI, Hr, Hl⟩, Hd, Hh⟩, Hsc⟩, ⟨%W, -, HO⟩, -⟩
  iapply hm
  iapply (h K W)
  isplitl [HI]; · iexact HI
  isplitl [HO]; · iexact HO
  isplitl [Hr]; · iexact Hr
  isplitl [Hl]; · iexact Hl
  isplitl [Hd]; · iexact Hd
  isplitl [Hh] <;> iassumption

/-- The launch gives a device what it starts with. -/
theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ (|={Set.univ}=> iprop(start m c ∗ emp) : sProp 𝕄) := by
  have hh : (Pipeline.unscopedRestP Pipeline.Prefetch.none cfg0.spec c (fun b => m ((c : Thread nD τ).loc b)) : sProp 𝕄) ⊢ hbm m c := by
    rw [Pipeline.unscopedRestP_none, unscopedRest0_eq]
    have h0 : (ownsTc c A0 fullShare (in0 m c) : sProp 𝕄) = _ := owns_whole (c : Thread nD τ) main_arg0 fullShare _
    have h1 : (ownsTc c A1 fullShare (in1 m c) : sProp 𝕄) = _ := owns_whole (c : Thread nD τ) main_arg1 fullShare _
    have h2 : (ownsTc c AO fullShare (m ((c : Thread nD τ).loc main_v1)) : sProp 𝕄) = _ := owns_whole (c : Thread nD τ) main_v1 fullShare _
    unfold hbm
    rw [h0, h1]
    iintro ⟨H0, H1, H2⟩
    isplitl [H0 H1]
    · isplitl [H0]; · iexact H0
      iexact H1
    iexists (m ((c : Thread nD τ).loc main_v1))
    rw [h2]; iexact H2
  have hc := creds (F := F) c
  unfold start G' recs Inv
  iintro ⟨HB, Hlev, Hcr, -, ⟨%K, ⟨HI, HR⟩, Hr, Hl⟩⟩
  ihave Hh := hh $$ HB
  ihave Hd := hc $$ Hcr
  imodintro
  isplitl
  · isplitl [HI HR Hlev Hr Hl]
    · iexists K
      isplitl [HI HR Hlev]
      · isplitl [HI]; · iexact HI
        isplitl [HR] <;> iassumption
      isplitl [Hr] <;> iassumption
    isplitl [Hd] <;> iassumption
  iempintro

/-- With its scratch buffers, that is what the region's first state asks for. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest_eq]
  unfold Φ₀
  iintro ⟨Hs, -, Hr⟩
  isplitl [Hs] <;> iassumption

/-- What a device's buffers hold at the end. -/
def final (c : Dev nD) : sProp 𝕄 :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1)) ∗ (((c : Thread nD τ).loc main_v1) ↦{fullShare} outV m c))

/-- The region's last state gives back the buffers as they must be at the end, the semaphores and the scratch buffers.
    -/
theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest_eq, show (Pipeline.ownSems0 osem c : sProp 𝕄) = ownS c from rfl, ownSems0_eq]
  have h0 : (ownsTc c A0 fullShare (in0 m c) : sProp 𝕄) = _ := owns_whole (c : Thread nD τ) main_arg0 fullShare _
  have h1 : (ownsTc c A1 fullShare (in1 m c) : sProp 𝕄) = _ := owns_whole (c : Thread nD τ) main_arg1 fullShare _
  have h2 : (ownsTc c AO fullShare (outV m c) : sProp 𝕄) = _ := owns_whole (c : Thread nD τ) main_v1 fullShare _
  unfold Φ₁ zeros final
  rw [unscopedSems0_eq, h0, h1, h2]
  iintro ⟨⟨Hb, Hs, Hr⟩, Hl, Hsc, ⟨H0, H1⟩, H2⟩
  isplitl [Hb H0 H1 H2]
  · isplitl [Hb]; · iexact Hb
    isplitl [H0]; · iexact H0
    isplitl [H1]; · iexact H1
    iexact H2
  isplitl [Hs Hr Hl]
  · isplitl [Hs Hr]; · isplitl [Hs] <;> iassumption
    iexact Hl
  iexact Hsc

/-- The region has no windows, so its own waits need nothing. -/
theorem region_waits (c : Dev nD) : (levAts L lv : sProp 𝕄) ⊢ Pipeline.cellsWaits cfgs (dats m) () 0 c :=
  Pipeline.cellsWaits_intro cfgs (dats m) () 0 c fun w s t => w.elim0

/-- A device's final state: every counter not scoped at zero, the arguments as they were, the result as computed. -/
def QD (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outV m c

/-- A buffer owned at some contents has those contents in memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%hs, HS⟩
  isplitr; · ipureintro; exact hs () (Finset.mem_singleton_self _)
  iexact HS

/-- A device's buffers at the end fix its final state. -/
theorem final_read (c : Dev nD) (s' : Phys nD τ sig (Elt F)) :
    iprop(final m c ∗ emp ∗ SI s') ⊢ (|={Set.univ}=> iprop(⌜QD m c s'.mem⌝ ∗ SI s') : sProp 𝕄) := by
  unfold final
  iintro ⟨⟨Hu, H0, H1, H2⟩, -, HSI⟩
  ihave H := (read_one _ _ s') $$ [H0 HSI]
  · isplitl [H0] <;> iassumption
  icases H with ⟨%e0, HSI⟩
  ihave H := (read_one _ _ s') $$ [H1 HSI]
  · isplitl [H1] <;> iassumption
  icases H with ⟨%e1, HSI⟩
  ihave H := (read_one _ _ s') $$ [H2 HSI]
  · isplitl [H2] <;> iassumption
  icases H with ⟨%e2, HSI⟩
  imod (Pipeline.unscopedSems0_read (X := unscopedSems0 c) (c := c) fupd_intro s') $$ [Hu HSI] with ⟨%es, HSI⟩
  · isplitl [Hu] <;> iassumption
  imodintro
  isplitr; · ipureintro; exact ⟨es, e0, e1, e2⟩
  iexact HSI

/-- The launch's ghost state is the region's part and every device's part. -/
theorem launch_split :
    (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  have e : (embR (initOf cells tokens, (1 : Counters)) : 𝕄) = ER (initOf cells tokens) := rfl
  rw [e]
  imod (fund_cells m) $$ HX with HG
  imodintro
  isplitl [HP] <;> iassumption

set_option maxRecDepth 8000 in
/-- From any memory with zero counters, for any float values: every fair execution on the sixteen devices ends, with every device's
    result as computed, its arguments as they were and every counter at zero. -/
theorem run_main : θ_run defs (onTc (τ := τ) (main (F := F))) (s₀ m ρ) (fun r => (∀ c, QD m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => O d 0) (howed₀ := fun _ => rfl) (howedN := fun _ => rfl)
    (L := L) (lv := lv) (hL := L_of_ne) (hwaits := region_waits m)
    (G := G m) (G' := G' m) (u₀ := u₀)
    (hu₀ := launch_split m)
    (hglob := glob m)
    (hA := fun _ w => w.elim0) (hpf := fun _ k => k.elim0)
    (X := start m) (Y := final m) (Z := fun _ => iprop(emp))
    (hX := start_intro m ρ) (hin := phi0_intro m) (hout := phi1_exit m)
    (QY := QD m)
    (hY := final_read m)
    (hQ := fun _ h hs => ⟨fun c => (h c).2.2, sem_eq_zero hs fun c => (h c).2.2.1⟩)

end Run

end Cert.KernelIdeal.Ring
-- ==== Proof.Ref.lean ====
module

public import proofs.«01_k».proof.Proof.Vals
public import proofs.«01_k».proof.Proof.Gen.ReferenceIdeal
public import Idealize.ShloMosaic.Lib.Pointwise
public import Idealize.ShloMosaic.Lib.Pipeline.Value

/-! The values over extended reals: each device's result is its block of the product. -/

@[expose] public section

set_option synthInstance.maxSize 4096
set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open scoped BigOperators

/-! ## Shapes -/

/-- Tiles glued together are the array they are the tiles of. -/
theorem glue_eq {T : Type} [Fintype T] {s : Shape} {β : Type} (r : T → Rect s) (hcov : (Finset.univ : Finset T).biUnion (fun t => (r t).set) = Finset.univ)
    (hd : ∀ t t', t ≠ t' → Disjoint (r t).set (r t').set) (Z : (t : T) → (r t).shape.Idx → β) (f : s.Idx → β)
    (h : ∀ t y, Z t y = f ((r t).emb y)) : Rect.glue r hcov Z = f := by
  funext x
  obtain ⟨t, -, hx⟩ := Finset.mem_biUnion.mp (hcov.symm ▸ Finset.mem_univ x : x ∈ (Finset.univ : Finset T).biUnion (fun t => (r t).set))
  rw [← Rect.map_emb_univ, Finset.mem_map] at hx
  obtain ⟨y, -, rfl⟩ := hx
  rw [Rect.glue_emb r hcov hd Z t y, h t y]

/-- Putting a unit axis in front and casting it away is nothing; -/
theorem cast_unsq {s s' : Shape} {α : Type} (h : s.Squeezes s') (X : s'.Idx → α) (h' : s.ShapeCasts s') : shapeCast s' (unsq h X) h' = X := by
  funext i
  show X ((Shape.reshapeEquiv h.numel_eq).symm (Shape.reshapeEquiv _ i)) = X i
  rw [Shape.reshapeEquiv_symm, Shape.reshapeEquiv_reshapeEquiv, Shape.reshapeEquiv_self]

/-- and the other way round. -/
theorem sq_cast {s s' : Shape} {α : Type} (h : s.Squeezes s') (X : s'.Idx → α) (h' : s'.ShapeCasts s) : sq h (shapeCast s X h') = X := by
  funext i
  show X (Shape.reshapeEquiv _ (Shape.reshapeEquiv _ i)) = X i
  rw [Shape.reshapeEquiv_reshapeEquiv, Shape.reshapeEquiv_self]

/-! ## The payloads over extended reals -/

/-- A converted block is the block. -/
theorem pay1_ideal (X : Vec Ideal S256x2048 .f32) (j : S256x2048.Idx) :
    (k0_pay1 (F := Ideal) (unsq squeezes_S1x256x2048_S256x2048 X) j : EReal) = X j := by
  unfold k0_pay1
  rw [shapeCast_self, cast_unsq]
  rfl

/-- An addition is the sum. -/
theorem addV_ideal (a b : Vec Ideal S512x512 .bf16) (j : S512x512.Idx) : (addV (F := Ideal) a (unz b) j : EReal) = (a j : EReal) + b j := by
  unfold addV k0_pay23
  rw [shapeCast_self, cast_unsq]
  rfl

/-- A product, contracted over the rows of both. -/
theorem pay18_ideal (a : Vec Ideal S2048x512 .bf16) (b : Vec Ideal S2048x2048 .bf16) (j : S512x2048.Idx) :
    (k0_pay18 (F := Ideal) a b j : EReal) = ∑ k : Fin 2048, (a (ix2 k (j 0)) : EReal) * b (ix2 k (j 1)) := by
  unfold k0_pay18
  rw [shapeCast_self]
  show (matmul (F := Ideal) (φ₁ := .bf16) (φ₂ := .bf16) dot_S2048x512_S2048x2048_S512x2048_0_0_1_1_n_n none a b (constant S512x2048 .f32 0x00000000#32) j : EReal) = _
  simp only [pointwise]
  exact zero_add _

/-- The widened tile is the tile. -/
theorem pay47_ideal (a : Vec Ideal S512x512 .bf16) : sq squeezes_S1x512x512_S512x512 (k0_pay47 (F := Ideal) a) = (a : S512x512.Idx → EReal) := by
  unfold k0_pay47
  rw [sq_cast]
  rfl

section Values

variable (m : (ℓ : Loc nD τ sig) → Buf (Elt Ideal) ℓ)

/-! ## The partial products -/

/-- The first argument's converted copy is the argument; -/
theorem XB_ideal (c : Dev nD) : (XB m c : S2048x2048.Idx → EReal) = in0 m c := by
  refine glue_eq rowR8 rowR8_cov rowR8_disj (xBlk m c) _ fun t y => ?_
  exact pay1_ideal _ _

/-- the second's is its columns of the device's column block. -/
theorem DB_ideal (c : Dev nD) : (DB m c : S2048x2048.Idx → EReal)
    = fun x : S2048x2048.Idx => in1 m c (ix2 (x 0) ⟨2048 * (qc c).val + (x 1).val, by have := (x 1).isLt; have := (qc c).isLt; simp at *; omega⟩) := by
  refine glue_eq rowR8 rowR8_cov rowR8_disj (dBlk m c) _ fun t y => ?_
  refine (pay1_ideal _ _).trans (congrArg (in1 m c) ?_)
  funext a; apply Fin.ext
  match a with
  | ⟨0, _⟩ => simp [Rect.unit, Rect.emb]
  | ⟨1, _⟩ => simp [Rect.unit, Rect.emb]

/-- A tile of a device's partial product, by rows of the device's two arguments. -/
theorem Pt_ideal (c : Dev nD) (r h : Fin 4) (y : S512x512.Idx) :
    (Pt m c r h y : EReal) = ∑ k : Fin 2048, (in0 m c (ix2 k ⟨512 * r.val + (y 0).val, by have := (y 0).isLt; simp at *; omega⟩) : EReal)
      * in1 m c (ix2 k ⟨2048 * (qc c).val + (512 * h.val + (y 1).val), by have := (y 1).isLt; have := (qc c).isLt; simp at *; omega⟩) := by
  refine (pay18_ideal _ _ _).trans (Finset.sum_congr rfl fun k _ => ?_)
  refine congrArg₂ (· * ·) ((congrFun (XB_ideal m c) _).trans (congrArg (in0 m c) ?_)) ((congrFun (DB_ideal m c) _).trans (congrArg (in1 m c) ?_))
  · funext a; apply Fin.ext
    match a with
    | ⟨0, _⟩ => show 0 + 1 * k.val = k.val; omega
    | ⟨1, _⟩ => show 512 * r.val + 1 * (0 + 1 * (y 0).val) = 512 * r.val + (y 0).val; omega
  · funext a; apply Fin.ext
    match a with
    | ⟨0, _⟩ => show 0 + 1 * k.val = k.val; omega
    | ⟨1, _⟩ => show 2048 * (qc c).val + (0 + 1 * (512 * h.val + 1 * (y 1).val)) = 2048 * (qc c).val + (512 * h.val + (y 1).val); omega

/-! ## The running sums -/

/-- The neighbours of a column's device. -/
theorem nx_devOf : ∀ q z : Fin 4, (nx 0).symm (devOf q z) = devOf q (z - 1) ∧ (nx 1).symm (devOf q z) = devOf q (z + 1) := by decide +kernel
/-- Its place and its column. -/
theorem at_devOf : ∀ q z : Fin 4, zc (devOf q z) = z ∧ qc (devOf q z) = q ∧ zz 0 (devOf q z) = z.val ∧ zz 1 (devOf q z) = 3 - z.val := by decide +kernel

/-- A device's reduced tile is the sum of the tiles of the four devices of its column. -/
theorem Own_ideal (q z h : Fin 4) (y : S512x512.Idx) : (Own m (devOf q z) h y : EReal) = ∑ w : Fin 4, (Pt m (devOf q w) z h y : EReal) := by
  have n0 := fun z => (nx_devOf q z).1
  have n1 := fun z => (nx_devOf q z).2
  unfold Own cont Vf
  rw [(at_devOf q z).1, (at_devOf q z).2.2.1, (at_devOf q z).2.2.2, n0, n1, (at_devOf q _).2.2.1, (at_devOf q _).2.2.2, Fin.sum_univ_four]
  obtain ⟨P, e⟩ : ∃ P : Fin 4 → Vec Ideal S512x512 .bf16, ∀ w, Pt m (devOf q w) z h = P w := ⟨fun w => Pt m (devOf q w) z h, fun _ => rfl⟩
  obtain rfl | rfl | rfl | rfl : z = 0 ∨ z = 1 ∨ z = 2 ∨ z = 3 := by clear e; revert z; decide
  all_goals
    simp [run, n0, n1, e]
    rw [addV_ideal, addV_ideal, addV_ideal]
    generalize (P 0 y : EReal) = a₀, (P 1 y : EReal) = a₁, (P 2 y : EReal) = a₂, (P 3 y : EReal) = a₃
    ac_rfl

/-! ## The product -/

/-- The product of the whole arrays, contracted over the rows of both. -/
def prodV (X : (⟨2, ![8192, 2048]⟩ : Shape).Idx → EReal) (Y : (⟨2, ![8192, 8192]⟩ : Shape).Idx → EReal) : S2048x8192.Idx → EReal :=
  fun x => ∑ k : Fin 8192, X (ix2 k (x 0)) * Y (ix2 k (x 1))

/-- A sum over 8192 rows is a sum over four blocks of 2048. -/
theorem sum_blocks (f : Fin 8192 → EReal) : ∑ k, f k = ∑ w : Fin 4, ∑ k : Fin 2048, f ⟨w.val * 2048 + k.val, by omega⟩ := by
  rw [← Fintype.sum_prod_type', ← Equiv.sum_comp (finProdFinEquiv (m := 4) (n := 2048)) f]
  refine Finset.sum_congr rfl fun p _ => congrArg f (Fin.ext ?_)
  show p.2.val + 2048 * p.1.val = p.1.val * 2048 + p.2.val
  omega

/-- The block of rows a device holds is its place along the third axis. -/
theorem block_place : ∀ c : Dev nD, Layout.meshLin [2, 2, 4] c.val [2] = (zc c).val := by decide +kernel

variable (X : (⟨2, ![8192, 2048]⟩ : Shape).Idx → EReal) (Y : (⟨2, ![8192, 8192]⟩ : Shape).Idx → EReal)

/-- An element of a device's first argument in the whole array; -/
theorem in0_whole (h0 : ∀ c : Dev nD, in0 m c = Layout.blockN ⟨2, ![2048, 2048]⟩ ⟨2, ![8192, 2048]⟩ (Layout.meshBlock [2, 2, 4] ![[2], []] c) X)
    (c : Dev nD) (k : Fin 2048) (i : Fin 2048) : (in0 m c (ix2 k i) : EReal) = X (ix2 ⟨(zc c).val * 2048 + k.val, by omega⟩ i) := by
  rw [h0 c, Layout.blockN_apply]
  refine congrArg X ?_
  funext a; apply Fin.ext
  match a with
  | ⟨0, _⟩ => show Layout.meshLin [2, 2, 4] c.val [2] * 2048 + k.val = _; rw [block_place]; rfl
  | ⟨1, _⟩ => show 0 * 2048 + i.val = i.val; omega

/-- of its second. -/
theorem in1_whole (h1 : ∀ c : Dev nD, in1 m c = Layout.blockN ⟨2, ![2048, 8192]⟩ ⟨2, ![8192, 8192]⟩ (Layout.meshBlock [2, 2, 4] ![[2], []] c) Y)
    (c : Dev nD) (k : Fin 2048) (i : Fin 8192) : (in1 m c (ix2 k i) : EReal) = Y (ix2 ⟨(zc c).val * 2048 + k.val, by omega⟩ i) := by
  rw [h1 c, Layout.blockN_apply]
  refine congrArg Y ?_
  funext a; apply Fin.ext
  match a with
  | ⟨0, _⟩ => show Layout.meshLin [2, 2, 4] c.val [2] * 2048 + k.val = _; rw [block_place]; rfl
  | ⟨1, _⟩ => show 0 * 8192 + i.val = i.val; omega

/-- From memories that hold the blocks of two arrays, every device's result is its block of their product. -/
theorem outV_ideal (h0 : ∀ c : Dev nD, in0 m c = Layout.blockN ⟨2, ![2048, 2048]⟩ ⟨2, ![8192, 2048]⟩ (Layout.meshBlock [2, 2, 4] ![[2], []] c) X)
    (h1 : ∀ c : Dev nD, in1 m c = Layout.blockN ⟨2, ![2048, 8192]⟩ ⟨2, ![8192, 8192]⟩ (Layout.meshBlock [2, 2, 4] ![[2], []] c) Y)
    (c : Dev nD) :
    outV m c = Layout.blockN ⟨2, ![512, 8192]⟩ ⟨2, ![2048, 8192]⟩ (Layout.meshBlock [2, 2, 4] ![[2], []] c) (prodV X Y) := by
  refine glue_eq oR' oR'_cov oR'_disj (outT m c) _ fun t y => ?_
  obtain ⟨q, h⟩ := t
  show (sq squeezes_S1x512x512_S512x512 (k0_pay47 (Own m (devOf q (zc c)) h)) y : EReal) = _
  rw [pay47_ideal, Own_ideal, Layout.blockN_apply, prodV, sum_blocks]
  refine Finset.sum_congr rfl fun w _ => ?_
  rw [Pt_ideal]
  refine Finset.sum_congr rfl fun k _ => ?_
  rw [in0_whole m X h0, in1_whole m Y h1]
  refine congrArg₂ (· * ·) (congrArg X ?_) (congrArg Y ?_)
  · funext a; apply Fin.ext
    match a with
    | ⟨0, _⟩ => exact congrArg (fun z : Fin 4 => z.val * 2048 + k.val) (at_devOf q w).1
    | ⟨1, _⟩ =>
      show 512 * (zc c).val + (y 0).val = Layout.meshLin [2, 2, 4] c.val [2] * 512 + (0 + 1 * (y 0).val)
      rw [block_place]; omega
  · funext a; apply Fin.ext
    match a with
    | ⟨0, _⟩ => exact congrArg (fun z : Fin 4 => z.val * 2048 + k.val) (at_devOf q w).1
    | ⟨1, _⟩ =>
      show 2048 * (qc (devOf q w)).val + (512 * h.val + (y 1).val) = 0 * 8192 + (2048 * q.val + 512 * h.val + 1 * (y 1).val)
      rw [(at_devOf q w).2.1]; omega

/-- The reference's term is that product. -/
theorem reference_ideal (X : FVec Ideal Cert.ReferenceIdeal.S8192x2048 .f32) (Y : FVec Ideal Cert.ReferenceIdeal.S8192x8192 .f32) :
    Host.dotGeneral (F := Ideal) Cert.ReferenceIdeal.dot_S2048x8192_S8192x8192_S2048x8192_1_0_0_1_n_n none
      (transpose Cert.ReferenceIdeal.S2048x8192 [1, 0] X Cert.ReferenceIdeal.Facts₀.transposes_S8192x2048_S2048x8192_1_0) Y = prodV X Y := by
  funext j
  simp only [pointwise]
  exact zero_add _

end Values

end Cert.KernelIdeal.Ring
-- ==== Proof.lean ====
module

public import proofs.«01_k».proof.Proof.Gen.ReferenceIdeal.Run
public import proofs.«01_k».proof.Proof.Main
public import proofs.«01_k».proof.Proof.Ref
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel runs at machine floats, its arguments end unchanged and every counter at zero. -/
theorem frame_kernel : Cert.quiescent_Kernel := fun m ρ _ =>
  (θ_run Cert.KernelIdeal.defs _ _).mono (fun _ h => ⟨fun c => ⟨(h.1 c).2.1, (h.1 c).2.2.1⟩, h.2⟩) (Cert.KernelIdeal.Ring.run_main (F := Bits) m ρ)

/-- The same over extended reals. -/
theorem frame_ideal : Cert.quiescent_KernelIdeal := fun m ρ _ =>
  (θ_run Cert.KernelIdeal.defs _ _).mono (fun _ h => ⟨fun c => ⟨(h.1 c).2.1, (h.1 c).2.2.1⟩, h.2⟩) (Cert.KernelIdeal.Ring.run_main (F := Ideal) m ρ)

/-- The reference runs, its arguments end unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- No operation was rewritten. -/
theorem preserved : Cert.preserves_Kernel_KernelIdeal := trivial

/-- Over extended reals every device's result is its block of the reference's. -/
theorem algebraic : Cert.algebraic_KernelIdeal_ReferenceIdeal := by
  intro m g m' g' _ hm
  refine ⟨Cert.KernelIdeal.Ring.prodV (m' ((0 : Dev Cert.ReferenceIdeal.nD).tc.loc Cert.ReferenceIdeal.main_arg0)) (m' ((0 : Dev Cert.ReferenceIdeal.nD).tc.loc Cert.ReferenceIdeal.main_arg1)), ?_, ?_⟩
  · refine (θ_run Cert.KernelIdeal.defs _ _).mono (fun _ h c => ⟨(h.1 c).2.2.2.trans ?_, (h.1 c).2.1, (h.1 c).2.2.1⟩) (Cert.KernelIdeal.Ring.run_main (F := Ideal) m g)
    exact Cert.KernelIdeal.Ring.outV_ideal m _ _ (fun c => (hm c).1) (fun c => (hm c).2) c
  · exact (θ_run Cert.ReferenceIdeal.defs _ _).mono (fun _ h => ⟨(h 0).1.trans (Cert.KernelIdeal.Ring.reference_ideal _ _), (h 0).2⟩)
      (Cert.ReferenceIdeal.Value.run (F := Ideal) m' g')

/-- All five claims: the three runs, that no operation was rewritten, and the equality with the reference. -/
theorem claim : Cert.Claim := ⟨Cert.Kernel.Gen.facts, Cert.KernelIdeal.Gen.facts, Cert.ReferenceIdeal.Gen.facts,
  frame_kernel, frame_ideal, frame_reference, preserved, algebraic⟩

end Cert.Proof

end
